-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v171)) (v1 : (c : Dev Cert.KernelIdeal.nD) → Buf (Elt Ideal) ((c.tc : Thread Cert.KernelIdeal.nD Cert.KernelIdeal.τ).loc Cert.KernelIdeal.main_v170_1)) (v2 : (c : Dev Cert.KernelIdeal.nD) → Buf (Elt Ideal) ((c.tc : Thread Cert.KernelIdeal.nD Cert.KernelIdeal.τ).loc Cert.KernelIdeal.main_v172)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v171) = v0 c
          ∧ r.2.mem ((c.tc : Thread Cert.KernelIdeal.nD Cert.KernelIdeal.τ).loc Cert.KernelIdeal.main_v170_1) = v1 c
          ∧ r.2.mem ((c.tc : Thread Cert.KernelIdeal.nD Cert.KernelIdeal.τ).loc Cert.KernelIdeal.main_v172) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_v301) = v1 c
          ∧ r.2.mem ((c.tc : Thread Cert.ReferenceIdeal.nD Cert.ReferenceIdeal.τ).loc Cert.ReferenceIdeal.main_v306) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_in_range : Cert.Pre_in_range.Facts) (hPre_well_posed : Cert.Pre_well_posed.Facts),
    quiescent_Kernel (hKernel := hKernel) (hPre_in_range := hPre_in_range)
    ∧ quiescent_KernelIdeal (hKernelIdeal := hKernelIdeal) (hPre_in_range := hPre_in_range)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_in_range.lean ====
abbrev S4096x200x3 : Shape := ⟨3, ![4096, 200, 3]⟩
abbrev S128x24x5x5 : Shape := ⟨4, ![128, 24, 5, 5]⟩
abbrev S128 : Shape := ⟨1, ![128]⟩
abbrev S128x128x3x3 : Shape := ⟨4, ![128, 128, 3, 3]⟩
abbrev S256x128 : Shape := ⟨2, ![256, 128]⟩
abbrev S256 : Shape := ⟨1, ![256]⟩
abbrev S256x24 : Shape := ⟨2, ![256, 24]⟩
abbrev S9x512 : Shape := ⟨2, ![9, 512]⟩
abbrev S9 : Shape := ⟨1, ![9]⟩
abbrev S256x512 : Shape := ⟨2, ![256, 512]⟩
abbrev S1x512 : Shape := ⟨2, ![1, 512]⟩
abbrev S1 : Shape := ⟨1, ![1]⟩
abbrev S1x24x1x1 : Shape := ⟨4, ![1, 24, 1, 1]⟩
abbrev S_ : Shape := ⟨0, ![]⟩

class Facts : Prop where
  bcast_S_S4096x200x3 : S_.BroadcastsInDim S4096x200x3 (![] : Fin 0 → Fin S4096x200x3.rank)
  reducesTo_S4096x200x3_S_d0_1_2 : S4096x200x3.ReducesTo [0, 1, 2] S_
  h_S_ : 0 < S_.numel

variable [Facts]

def fn {F : FTy → Type} [FloatOps F] (main_arg0 : IVec S4096x200x3 32) (main_arg1 : FVec F S128x24x5x5 .f32) (main_arg2 : FVec F S128 .f32) (main_arg3 : FVec F S128x128x3x3 .f32) (main_arg4 : FVec F S128 .f32) (main_arg5 : FVec F S256x128 .f32) (main_arg6 : FVec F S256 .f32) (main_arg7 : FVec F S256x24 .f32) (main_arg8 : FVec F S256 .f32) (main_arg9 : FVec F S9x512 .f32) (main_arg10 : FVec F S9 .f32) (main_arg11 : FVec F S256x512 .f32) (main_arg12 : FVec F S256 .f32) (main_arg13 : FVec F S1x512 .f32) (main_arg14 : FVec F S1 .f32) (main_arg15 : FVec F S1x24x1x1 .f32) : IVec S_ 1 :=
  let main_c : IVec S_ 32 := constantI S_ 32 0#32
  let main_v0 : IVec S4096x200x3 32 := broadcastInDim S4096x200x3 ![] bcast_S_S4096x200x3 main_c
  let main_v1 : IVec S4096x200x3 1 := cmpi .sge main_arg0 main_v0
  let main_c_0 : IVec S_ 32 := constantI S_ 32 256#32
  let main_v2 : IVec S4096x200x3 32 := broadcastInDim S4096x200x3 ![] bcast_S_S4096x200x3 main_c_0
  let main_v3 : IVec S4096x200x3 1 := cmpi .slt main_arg0 main_v2
  let main_v4 : IVec S4096x200x3 1 := andi main_v1 main_v3
  let main_c_1 : IVec S_ 1 := constantI S_ 1 1#1
  let main_v5 : IVec S_ 1 := (fun x v => Host.reduce IntOp.andi x v reducesTo_S4096x200x3_S_d0_1_2 h_S_) main_v4 main_c_1
  main_v5
-- ==== Pre_well_posed.lean ====
abbrev S4096x200x3 : Shape := ⟨3, ![4096, 200, 3]⟩
abbrev S128x24x5x5 : Shape := ⟨4, ![128, 24, 5, 5]⟩
abbrev S128 : Shape := ⟨1, ![128]⟩
abbrev S128x128x3x3 : Shape := ⟨4, ![128, 128, 3, 3]⟩
abbrev S256x128 : Shape := ⟨2, ![256, 128]⟩
abbrev S256 : Shape := ⟨1, ![256]⟩
abbrev S256x24 : Shape := ⟨2, ![256, 24]⟩
abbrev S9x512 : Shape := ⟨2, ![9, 512]⟩
abbrev S9 : Shape := ⟨1, ![9]⟩
abbrev S256x512 : Shape := ⟨2, ![256, 512]⟩
abbrev S1x512 : Shape := ⟨2, ![1, 512]⟩
abbrev S1 : Shape := ⟨1, ![1]⟩
abbrev S1x24x1x1 : Shape := ⟨4, ![1, 24, 1, 1]⟩
abbrev S_ : Shape := ⟨0, ![]⟩

class Facts : Prop where
  bcast_S_S4096x200x3 : S_.BroadcastsInDim S4096x200x3 (![] : Fin 0 → Fin S4096x200x3.rank)
  reducesTo_S4096x200x3_S_d0_1_2 : S4096x200x3.ReducesTo [0, 1, 2] S_
  h_S_ : 0 < S_.numel
  bcast_S_S1x24x1x1 : S_.BroadcastsInDim S1x24x1x1 (![] : Fin 0 → Fin S1x24x1x1.rank)
  reducesTo_S1x24x1x1_S_d0_1_2_3 : S1x24x1x1.ReducesTo [0, 1, 2, 3] S_

variable [Facts]

def fn {F : FTy → Type} [FloatOps F] (main_arg0 : IVec S4096x200x3 32) (main_arg1 : FVec F S128x24x5x5 .f32) (main_arg2 : FVec F S128 .f32) (main_arg3 : FVec F S128x128x3x3 .f32) (main_arg4 : FVec F S128 .f32) (main_arg5 : FVec F S256x128 .f32) (main_arg6 : FVec F S256 .f32) (main_arg7 : FVec F S256x24 .f32) (main_arg8 : FVec F S256 .f32) (main_arg9 : FVec F S9x512 .f32) (main_arg10 : FVec F S9 .f32) (main_arg11 : FVec F S256x512 .f32) (main_arg12 : FVec F S256 .f32) (main_arg13 : FVec F S1x512 .f32) (main_arg14 : FVec F S1 .f32) (main_arg15 : FVec F S1x24x1x1 .f32) : IVec S_ 1 :=
  let main_c : IVec S_ 32 := constantI S_ 32 0#32
  let main_v0 : IVec S4096x200x3 32 := broadcastInDim S4096x200x3 ![] bcast_S_S4096x200x3 main_c
  let main_v1 : IVec S4096x200x3 1 := cmpi .sge main_arg0 main_v0
  let main_c_0 : IVec S_ 32 := constantI S_ 32 256#32
  let main_v2 : IVec S4096x200x3 32 := broadcastInDim S4096x200x3 ![] bcast_S_S4096x200x3 main_c_0
  let main_v3 : IVec S4096x200x3 1 := cmpi .slt main_arg0 main_v2
  let main_v4 : IVec S4096x200x3 1 := andi main_v1 main_v3
  let main_c_1 : IVec S_ 1 := constantI S_ 1 1#1
  let main_v5 : IVec S_ 1 := (fun x v => Host.reduce IntOp.andi x v reducesTo_S4096x200x3_S_d0_1_2 h_S_) main_v4 main_c_1
  let main_cst : FVec F S_ .f32 := constant S_ .f32 0x322BCC77#32
  let main_v6 : FVec F S1x24x1x1 .f32 := broadcastInDim S1x24x1x1 ![] bcast_S_S1x24x1x1 main_cst
  let main_v7 : FVec F S1x24x1x1 .f32 := addf main_arg15 main_v6
  let main_cst_2 : FVec F S_ .f32 := constant S_ .f32 0x00000000#32
  let main_v8 : FVec F S1x24x1x1 .f32 := broadcastInDim S1x24x1x1 ![] bcast_S_S1x24x1x1 main_cst_2
  let main_v9 : IVec S1x24x1x1 1 := cmpf .une main_v7 main_v8
  let main_c_3 : IVec S_ 1 := constantI S_ 1 1#1
  let main_v10 : IVec S_ 1 := (fun x v => Host.reduce IntOp.andi x v reducesTo_S1x24x1x1_S_d0_1_2_3 h_S_) main_v9 main_c_3
  let main_v11 : IVec S_ 1 := andi main_v5 main_v10
  main_v11
-- ==== Kernel.lean ====
abbrev S4096x200x3 : Shape := ⟨3, ![4096, 200, 3]⟩
abbrev S128x24x5x5 : Shape := ⟨4, ![128, 24, 5, 5]⟩
abbrev S128 : Shape := ⟨1, ![128]⟩
abbrev S128x128x3x3 : Shape := ⟨4, ![128, 128, 3, 3]⟩
abbrev S256x128 : Shape := ⟨2, ![256, 128]⟩
abbrev S256 : Shape := ⟨1, ![256]⟩
abbrev S256x24 : Shape := ⟨2, ![256, 24]⟩
abbrev S9x512 : Shape := ⟨2, ![9, 512]⟩
abbrev S9 : Shape := ⟨1, ![9]⟩
abbrev S256x512 : Shape := ⟨2, ![256, 512]⟩
abbrev S1x512 : Shape := ⟨2, ![1, 512]⟩
abbrev S1 : Shape := ⟨1, ![1]⟩
abbrev S1x24x1x1 : Shape := ⟨4, ![1, 24, 1, 1]⟩
abbrev S3x200x4096 : Shape := ⟨3, ![3, 200, 4096]⟩
abbrev S4096x3072 : Shape := ⟨2, ![4096, 3072]⟩
abbrev S3x200x128 : Shape := ⟨3, ![3, 200, 128]⟩
abbrev S2x8x3072 : Shape := ⟨3, ![2, 8, 3072]⟩
abbrev S_ : Shape := ⟨0, ![]⟩
abbrev S16 : Shape := ⟨1, ![16]⟩
abbrev S1x8x3072 : Shape := ⟨3, ![1, 8, 3072]⟩
abbrev S8x3072 : Shape := ⟨2, ![8, 3072]⟩
abbrev S1x1x16 : Shape := ⟨3, ![1, 1, 16]⟩
abbrev S24 : Shape := ⟨1, ![24]⟩
abbrev S24x5x5x128 : Shape := ⟨4, ![24, 5, 5, 128]⟩
abbrev S24x11x11x128 : Shape := ⟨4, ![24, 11, 11, 128]⟩
abbrev S2 : Shape := ⟨1, ![2]⟩
abbrev S24x121x128 : Shape := ⟨3, ![24, 121, 128]⟩
abbrev S24x128x128 : Shape := ⟨3, ![24, 128, 128]⟩
abbrev S3072x128 : Shape := ⟨2, ![3072, 128]⟩
abbrev S24x1 : Shape := ⟨2, ![24, 1]⟩
abbrev S24x2 : Shape := ⟨2, ![24, 2]⟩
abbrev S24x128 : Shape := ⟨2, ![24, 128]⟩
abbrev S3072 : Shape := ⟨1, ![3072]⟩
abbrev S3072x1 : Shape := ⟨2, ![3072, 1]⟩
abbrev S3072x1280 : Shape := ⟨2, ![3072, 1280]⟩
abbrev S3x3x128x128 : Shape := ⟨4, ![3, 3, 128, 128]⟩
abbrev S1152x128 : Shape := ⟨2, ![1152, 128]⟩
abbrev S128x256 : Shape := ⟨2, ![128, 256]⟩
abbrev S24x256 : Shape := ⟨2, ![24, 256]⟩
abbrev S1x128 : Shape := ⟨2, ![1, 128]⟩
abbrev S9x128 : Shape := ⟨2, ![9, 128]⟩
abbrev S1152 : Shape := ⟨1, ![1152]⟩
abbrev S1x1152 : Shape := ⟨2, ![1, 1152]⟩
abbrev S9x256 : Shape := ⟨2, ![9, 256]⟩
abbrev S256x9 : Shape := ⟨2, ![256, 9]⟩
abbrev S256x256 : Shape := ⟨2, ![256, 256]⟩
abbrev S1x256 : Shape := ⟨2, ![1, 256]⟩
abbrev S256x1 : Shape := ⟨2, ![256, 1]⟩
abbrev S4096x128 : Shape := ⟨2, ![4096, 128]⟩
abbrev S4096x256 : Shape := ⟨2, ![4096, 256]⟩
abbrev S512x3072 : Shape := ⟨2, ![512, 3072]⟩
abbrev S512x128 : Shape := ⟨2, ![512, 128]⟩
abbrev S512x256 : Shape := ⟨2, ![512, 256]⟩
abbrev S512x1280 : Shape := ⟨2, ![512, 1280]⟩
abbrev S512x1152 : Shape := ⟨2, ![512, 1152]⟩
abbrev S512x24 : Shape := ⟨2, ![512, 24]⟩
abbrev S4096x9 : Shape := ⟨2, ![4096, 9]⟩
abbrev S4096x1 : Shape := ⟨2, ![4096, 1]⟩

abbrev nBuf : Table → Nat
  | .hbm => 259
  | .local .tc .vmem => 25
  | .local .scVector .vmem => 2
  | _ => 0

abbrev hbmTy0_0 (i : Nat) : BufTy := match i % 128 with
  | 0 => ⟨S4096x200x3, .i32⟩
  | 1 => ⟨S128x24x5x5, .f32⟩
  | 2 => ⟨S128, .f32⟩
  | 3 => ⟨S128x128x3x3, .f32⟩
  | 4 => ⟨S128, .f32⟩
  | 5 => ⟨S256x128, .f32⟩
  | 6 => ⟨S256, .f32⟩
  | 7 => ⟨S256x24, .f32⟩
  | 8 => ⟨S256, .f32⟩
  | 9 => ⟨S9x512, .f32⟩
  | 10 => ⟨S9, .f32⟩
  | 11 => ⟨S256x512, .f32⟩
  | 12 => ⟨S256, .f32⟩
  | 13 => ⟨S1x512, .f32⟩
  | 14 => ⟨S1, .f32⟩
  | 15 => ⟨S1x24x1x1, .f32⟩
  | 16 => ⟨S3x200x4096, .i32⟩
  | 17 => ⟨S4096x3072, .f32⟩
  | 18 => ⟨S24, .f32⟩
  | 19 => ⟨S_, .f32⟩
  | 20 => ⟨S24, .f32⟩
  | 21 => ⟨S24, .f32⟩
  | 22 => ⟨S_, .f32⟩
  | 23 => ⟨S24, .f32⟩
  | 24 => ⟨S24, .f32⟩
  | 25 => ⟨S24x5x5x128, .f32⟩
  | 26 => ⟨S_, .f32⟩
  | 27 => ⟨S24x11x11x128, .f32⟩
  | 28 => ⟨S_, .i32⟩
  | 29 => ⟨S1, .i32⟩
  | 30 => ⟨S_, .i32⟩
  | 31 => ⟨S1, .i32⟩
  | 32 => ⟨S2, .i32⟩
  | 33 => ⟨S24x11x11x128, .f32⟩
  | 34 => ⟨S24x121x128, .f32⟩
  | 35 => ⟨S_, .i32⟩
  | 36 => ⟨S_, .f32⟩
  | 37 => ⟨S24x128x128, .f32⟩
  | 38 => ⟨S3072x128, .f32⟩
  | 39 => ⟨S_, .f32⟩
  | 40 => ⟨S24x11x11x128, .f32⟩
  | 41 => ⟨S_, .i32⟩
  | 42 => ⟨S1, .i32⟩
  | 43 => ⟨S_, .i32⟩
  | 44 => ⟨S1, .i32⟩
  | 45 => ⟨S2, .i32⟩
  | 46 => ⟨S24x11x11x128, .f32⟩
  | 47 => ⟨S24x121x128, .f32⟩
  | 48 => ⟨S_, .i32⟩
  | 49 => ⟨S_, .f32⟩
  | 50 => ⟨S24x128x128, .f32⟩
  | 51 => ⟨S3072x128, .f32⟩
  | 52 => ⟨S_, .f32⟩
  | 53 => ⟨S24x11x11x128, .f32⟩
  | 54 => ⟨S_, .i32⟩
  | 55 => ⟨S1, .i32⟩
  | 56 => ⟨S_, .i32⟩
  | 57 => ⟨S1, .i32⟩
  | 58 => ⟨S2, .i32⟩
  | 59 => ⟨S24x11x11x128, .f32⟩
  | 60 => ⟨S24x121x128, .f32⟩
  | 61 => ⟨S_, .i32⟩
  | 62 => ⟨S_, .f32⟩
  | 63 => ⟨S24x128x128, .f32⟩
  | 64 => ⟨S3072x128, .f32⟩
  | 65 => ⟨S_, .f32⟩
  | 66 => ⟨S24x11x11x128, .f32⟩
  | 67 => ⟨S_, .i32⟩
  | 68 => ⟨S1, .i32⟩
  | 69 => ⟨S_, .i32⟩
  | 70 => ⟨S1, .i32⟩
  | 71 => ⟨S2, .i32⟩
  | 72 => ⟨S24x11x11x128, .f32⟩
  | 73 => ⟨S24x121x128, .f32⟩
  | 74 => ⟨S_, .i32⟩
  | 75 => ⟨S_, .f32⟩
  | 76 => ⟨S24x128x128, .f32⟩
  | 77 => ⟨S3072x128, .f32⟩
  | 78 => ⟨S_, .f32⟩
  | 79 => ⟨S24x11x11x128, .f32⟩
  | 80 => ⟨S_, .i32⟩
  | 81 => ⟨S1, .i32⟩
  | 82 => ⟨S_, .i32⟩
  | 83 => ⟨S1, .i32⟩
  | 84 => ⟨S2, .i32⟩
  | 85 => ⟨S24x11x11x128, .f32⟩
  | 86 => ⟨S24x121x128, .f32⟩
  | 87 => ⟨S_, .i32⟩
  | 88 => ⟨S_, .f32⟩
  | 89 => ⟨S24x128x128, .f32⟩
  | 90 => ⟨S3072x128, .f32⟩
  | 91 => ⟨S_, .f32⟩
  | 92 => ⟨S24x11x11x128, .f32⟩
  | 93 => ⟨S_, .i32⟩
  | 94 => ⟨S1, .i32⟩
  | 95 => ⟨S_, .i32⟩
  | 96 => ⟨S1, .i32⟩
  | 97 => ⟨S2, .i32⟩
  | 98 => ⟨S24x11x11x128, .f32⟩
  | 99 => ⟨S24x121x128, .f32⟩
  | 100 => ⟨S_, .i32⟩
  | 101 => ⟨S_, .f32⟩
  | 102 => ⟨S24x128x128, .f32⟩
  | 103 => ⟨S3072x128, .f32⟩
  | 104 => ⟨S_, .f32⟩
  | 105 => ⟨S24x11x11x128, .f32⟩
  | 106 => ⟨S_, .i32⟩
  | 107 => ⟨S1, .i32⟩
  | 108 => ⟨S_, .i32⟩
  | 109 => ⟨S1, .i32⟩
  | 110 => ⟨S2, .i32⟩
  | 111 => ⟨S24x11x11x128, .f32⟩
  | 112 => ⟨S24x121x128, .f32⟩
  | 113 => ⟨S_, .i32⟩
  | 114 => ⟨S_, .f32⟩
  | 115 => ⟨S24x128x128, .f32⟩
  | 116 => ⟨S3072x128, .f32⟩
  | 117 => ⟨S_, .f32⟩
  | 118 => ⟨S24x11x11x128, .f32⟩
  | 119 => ⟨S_, .i32⟩
  | 120 => ⟨S1, .i32⟩
  | 121 => ⟨S_, .i32⟩
  | 122 => ⟨S1, .i32⟩
  | 123 => ⟨S2, .i32⟩
  | 124 => ⟨S24x11x11x128, .f32⟩
  | 125 => ⟨S24x121x128, .f32⟩
  | 126 => ⟨S_, .i32⟩
  | 127 => ⟨S_, .f32⟩
  | _ => ⟨S4096x200x3, .i32⟩

abbrev hbmTy0_1 (i : Nat) : BufTy := match i % 128 with
  | 0 => ⟨S24x128x128, .f32⟩
  | 1 => ⟨S3072x128, .f32⟩
  | 2 => ⟨S_, .f32⟩
  | 3 => ⟨S24x11x11x128, .f32⟩
  | 4 => ⟨S_, .i32⟩
  | 5 => ⟨S1, .i32⟩
  | 6 => ⟨S_, .i32⟩
  | 7 => ⟨S1, .i32⟩
  | 8 => ⟨S2, .i32⟩
  | 9 => ⟨S24x11x11x128, .f32⟩
  | 10 => ⟨S24x121x128, .f32⟩
  | 11 => ⟨S_, .i32⟩
  | 12 => ⟨S_, .f32⟩
  | 13 => ⟨S24x128x128, .f32⟩
  | 14 => ⟨S3072x128, .f32⟩
  | 15 => ⟨S_, .f32⟩
  | 16 => ⟨S3072x128, .f32⟩
  | 17 => ⟨S24, .i32⟩
  | 18 => ⟨S_, .i32⟩
  | 19 => ⟨S24, .i32⟩
  | 20 => ⟨S24, .i32⟩
  | 21 => ⟨S_, .i32⟩
  | 22 => ⟨S24, .i32⟩
  | 23 => ⟨S24, .i32⟩
  | 24 => ⟨S_, .i32⟩
  | 25 => ⟨S24, .i32⟩
  | 26 => ⟨S24, .i32⟩
  | 27 => ⟨S24, .i32⟩
  | 28 => ⟨S_, .f32⟩
  | 29 => ⟨S24, .f32⟩
  | 30 => ⟨S_, .i32⟩
  | 31 => ⟨S24, .i32⟩
  | 32 => ⟨S24, .i1⟩
  | 33 => ⟨S_, .i32⟩
  | 34 => ⟨S24, .i32⟩
  | 35 => ⟨S24, .i32⟩
  | 36 => ⟨S24, .i32⟩
  | 37 => ⟨S_, .i32⟩
  | 38 => ⟨S24, .i32⟩
  | 39 => ⟨S24, .i1⟩
  | 40 => ⟨S_, .i32⟩
  | 41 => ⟨S24, .i32⟩
  | 42 => ⟨S24, .i32⟩
  | 43 => ⟨S24, .i32⟩
  | 44 => ⟨S24x1, .i32⟩
  | 45 => ⟨S24x1, .i32⟩
  | 46 => ⟨S24x2, .i32⟩
  | 47 => ⟨S3072x128, .f32⟩
  | 48 => ⟨S24x128, .f32⟩
  | 49 => ⟨S3072, .f32⟩
  | 50 => ⟨S3072x1, .f32⟩
  | 51 => ⟨S3072x128, .f32⟩
  | 52 => ⟨S3072x128, .f32⟩
  | 53 => ⟨S3072x128, .bf16⟩
  | 54 => ⟨S3072x128, .f32⟩
  | 55 => ⟨S3072x128, .f32⟩
  | 56 => ⟨S3072x128, .bf16⟩
  | 57 => ⟨S3072x128, .f32⟩
  | 58 => ⟨S3072x128, .f32⟩
  | 59 => ⟨S3072x128, .bf16⟩
  | 60 => ⟨S3072x128, .f32⟩
  | 61 => ⟨S3072x128, .f32⟩
  | 62 => ⟨S3072x128, .bf16⟩
  | 63 => ⟨S3072x128, .f32⟩
  | 64 => ⟨S3072x128, .f32⟩
  | 65 => ⟨S3072x128, .bf16⟩
  | 66 => ⟨S3072x128, .f32⟩
  | 67 => ⟨S3072x128, .f32⟩
  | 68 => ⟨S3072x128, .bf16⟩
  | 69 => ⟨S3072x128, .f32⟩
  | 70 => ⟨S3072x128, .f32⟩
  | 71 => ⟨S3072x128, .bf16⟩
  | 72 => ⟨S3072x128, .f32⟩
  | 73 => ⟨S3072x128, .f32⟩
  | 74 => ⟨S3072x128, .bf16⟩
  | 75 => ⟨S3072x128, .f32⟩
  | 76 => ⟨S3072x128, .f32⟩
  | 77 => ⟨S3072x128, .bf16⟩
  | 78 => ⟨S3072x128, .f32⟩
  | 79 => ⟨S3072x128, .f32⟩
  | 80 => ⟨S3072x128, .bf16⟩
  | 81 => ⟨S3072x1280, .bf16⟩
  | 82 => ⟨S3x3x128x128, .f32⟩
  | 83 => ⟨S1152x128, .f32⟩
  | 84 => ⟨S128x256, .f32⟩
  | 85 => ⟨S24x256, .f32⟩
  | 86 => ⟨S1x128, .f32⟩
  | 87 => ⟨S9x128, .f32⟩
  | 88 => ⟨S1152, .f32⟩
  | 89 => ⟨S1x1152, .f32⟩
  | 90 => ⟨S9x256, .f32⟩
  | 91 => ⟨S256x9, .f32⟩
  | 92 => ⟨S_, .i32⟩
  | 93 => ⟨S_, .f32⟩
  | 94 => ⟨S256x128, .f32⟩
  | 95 => ⟨S9x256, .f32⟩
  | 96 => ⟨S256x9, .f32⟩
  | 97 => ⟨S_, .i32⟩
  | 98 => ⟨S_, .f32⟩
  | 99 => ⟨S256x128, .f32⟩
  | 100 => ⟨S256x256, .f32⟩
  | 101 => ⟨S256x256, .f32⟩
  | 102 => ⟨S256x256, .f32⟩
  | 103 => ⟨S256x256, .f32⟩
  | 104 => ⟨S1x256, .f32⟩
  | 105 => ⟨S256x1, .f32⟩
  | 106 => ⟨S_, .i32⟩
  | 107 => ⟨S_, .f32⟩
  | 108 => ⟨S256x128, .f32⟩
  | 109 => ⟨S1x256, .f32⟩
  | 110 => ⟨S256x1, .f32⟩
  | 111 => ⟨S_, .i32⟩
  | 112 => ⟨S_, .f32⟩
  | 113 => ⟨S256x128, .f32⟩
  | 114 => ⟨S_, .i32⟩
  | 115 => ⟨S_, .f32⟩
  | 116 => ⟨S128, .f32⟩
  | 117 => ⟨S1x128, .f32⟩
  | 118 => ⟨S1x256, .f32⟩
  | 119 => ⟨S_, .i32⟩
  | 120 => ⟨S_, .f32⟩
  | 121 => ⟨S128, .f32⟩
  | 122 => ⟨S1x128, .f32⟩
  | 123 => ⟨S1x128, .f32⟩
  | 124 => ⟨S1x256, .f32⟩
  | 125 => ⟨S1x256, .f32⟩
  | 126 => ⟨S4096x128, .f32⟩
  | 127 => ⟨S4096x256, .f32⟩
  | _ => ⟨S4096x200x3, .i32⟩

abbrev hbmTy0_2 (i : Nat) : BufTy := match i % 128 with
  | 0 => ⟨S4096x128, .f32⟩
  | 1 => ⟨S4096x9, .f32⟩
  | 2 => ⟨S4096x1, .f32⟩
  | _ => ⟨S4096x200x3, .i32⟩

abbrev hbmTy (i : Nat) : BufTy := match i / 128 with
  | 0 => hbmTy0_0 i
  | 1 => hbmTy0_1 i
  | 2 => hbmTy0_2 i
  | _ => ⟨S4096x200x3, .i32⟩

abbrev bufTy : (tb : Table) → Fin (nBuf tb) → BufTy
  | .hbm, ⟨i, _⟩ => hbmTy i
  | .local .tc .vmem, ⟨0, _⟩ => ⟨S512x3072, .f32⟩
  | .local .tc .vmem, ⟨1, _⟩ => ⟨S512x3072, .f32⟩
  | .local .tc .vmem, ⟨2, _⟩ => ⟨S3072x1280, .bf16⟩
  | .local .tc .vmem, ⟨3, _⟩ => ⟨S1152x128, .f32⟩
  | .local .tc .vmem, ⟨4, _⟩ => ⟨S128x256, .f32⟩
  | .local .tc .vmem, ⟨5, _⟩ => ⟨S24x256, .f32⟩
  | .local .tc .vmem, ⟨6, _⟩ => ⟨S1x1152, .f32⟩
  | .local .tc .vmem, ⟨7, _⟩ => ⟨S1x128, .f32⟩
  | .local .tc .vmem, ⟨8, _⟩ => ⟨S1x256, .f32⟩
  | .local .tc .vmem, ⟨9, _⟩ => ⟨S1x256, .f32⟩
  | .local .tc .vmem, ⟨10, _⟩ => ⟨S256x128, .f32⟩
  | .local .tc .vmem, ⟨11, _⟩ => ⟨S256x128, .f32⟩
  | .local .tc .vmem, ⟨12, _⟩ => ⟨S256x256, .f32⟩
  | .local .tc .vmem, ⟨13, _⟩ => ⟨S256x256, .f32⟩
  | .local .tc .vmem, ⟨14, _⟩ => ⟨S256x128, .f32⟩
  | .local .tc .vmem, ⟨15, _⟩ => ⟨S256x128, .f32⟩
  | .local .tc .vmem, ⟨16, _⟩ => ⟨S1x128, .f32⟩
  | .local .tc .vmem, ⟨17, _⟩ => ⟨S1x256, .f32⟩
  | .local .tc .vmem, ⟨18, _⟩ => ⟨S1x128, .f32⟩
  | .local .tc .vmem, ⟨19, _⟩ => ⟨S512x128, .f32⟩
  | .local .tc .vmem, ⟨20, _⟩ => ⟨S512x128, .f32⟩
  | .local .tc .vmem, ⟨21, _⟩ => ⟨S512x256, .f32⟩
  | .local .tc .vmem, ⟨22, _⟩ => ⟨S512x256, .f32⟩
  | .local .tc .vmem, ⟨23, _⟩ => ⟨S512x128, .f32⟩
  | .local .tc .vmem, ⟨24, _⟩ => ⟨S512x128, .f32⟩
  | .local .scVector .vmem, ⟨0, _⟩ => ⟨S3x200x128, .i32⟩
  | .local .scVector .vmem, ⟨1, _⟩ => ⟨S2x8x3072, .f32⟩
  | _, _ => ⟨S4096x200x3, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_c : Ref sig .tc := ⟨.hbm, 28, rfl⟩
abbrev main_v9 : Ref sig .tc := ⟨.hbm, 29, rfl⟩
abbrev main_c_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_call0_v0 : Ref sig .tc := ⟨.hbm, 36, rfl⟩
abbrev main_v14 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_c_6 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_7 : Ref sig .tc := ⟨.hbm, 48, rfl⟩
abbrev main_call1_v0 : Ref sig .tc := ⟨.hbm, 49, rfl⟩
abbrev main_v22 : Ref sig .tc := ⟨.hbm, 50, rfl⟩
abbrev main_v23 : Ref sig .tc := ⟨.hbm, 51, rfl⟩
abbrev main_cst_8 : Ref sig .tc := ⟨.hbm, 52, rfl⟩
abbrev main_v24 : Ref sig .tc := ⟨.hbm, 53, rfl⟩
abbrev main_c_9 : Ref sig .tc := ⟨.hbm, 54, rfl⟩
abbrev main_v25 : Ref sig .tc := ⟨.hbm, 55, rfl⟩
abbrev main_c_10 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_11 : Ref sig .tc := ⟨.hbm, 61, rfl⟩
abbrev main_call2_v0 : Ref sig .tc := ⟨.hbm, 62, rfl⟩
abbrev main_v30 : Ref sig .tc := ⟨.hbm, 63, rfl⟩
abbrev main_v31 : Ref sig .tc := ⟨.hbm, 64, rfl⟩
abbrev main_cst_12 : Ref sig .tc := ⟨.hbm, 65, rfl⟩
abbrev main_v32 : Ref sig .tc := ⟨.hbm, 66, rfl⟩
abbrev main_c_13 : Ref sig .tc := ⟨.hbm, 67, rfl⟩
abbrev main_v33 : Ref sig .tc := ⟨.hbm, 68, rfl⟩
abbrev main_c_14 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_15 : Ref sig .tc := ⟨.hbm, 74, rfl⟩
abbrev main_call3_v0 : Ref sig .tc := ⟨.hbm, 75, rfl⟩
abbrev main_v38 : Ref sig .tc := ⟨.hbm, 76, rfl⟩
abbrev main_v39 : Ref sig .tc := ⟨.hbm, 77, rfl⟩
abbrev main_cst_16 : Ref sig .tc := ⟨.hbm, 78, rfl⟩
abbrev main_v40 : Ref sig .tc := ⟨.hbm, 79, rfl⟩
abbrev main_c_17 : Ref sig .tc := ⟨.hbm, 80, rfl⟩
abbrev main_v41 : Ref sig .tc := ⟨.hbm, 81, rfl⟩
abbrev main_c_18 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_c_19 : Ref sig .tc := ⟨.hbm, 87, rfl⟩
abbrev main_call4_v0 : Ref sig .tc := ⟨.hbm, 88, rfl⟩
abbrev main_v46 : Ref sig .tc := ⟨.hbm, 89, rfl⟩
abbrev main_v47 : Ref sig .tc := ⟨.hbm, 90, rfl⟩
abbrev main_cst_20 : Ref sig .tc := ⟨.hbm, 91, rfl⟩
abbrev main_v48 : Ref sig .tc := ⟨.hbm, 92, rfl⟩
abbrev main_c_21 : Ref sig .tc := ⟨.hbm, 93, rfl⟩
abbrev main_v49 : Ref sig .tc := ⟨.hbm, 94, rfl⟩
abbrev main_c_22 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_23 : Ref sig .tc := ⟨.hbm, 100, rfl⟩
abbrev main_call5_v0 : Ref sig .tc := ⟨.hbm, 101, rfl⟩
abbrev main_v54 : Ref sig .tc := ⟨.hbm, 102, rfl⟩
abbrev main_v55 : Ref sig .tc := ⟨.hbm, 103, rfl⟩
abbrev main_cst_24 : Ref sig .tc := ⟨.hbm, 104, rfl⟩
abbrev main_v56 : Ref sig .tc := ⟨.hbm, 105, rfl⟩
abbrev main_c_25 : Ref sig .tc := ⟨.hbm, 106, rfl⟩
abbrev main_v57 : Ref sig .tc := ⟨.hbm, 107, rfl⟩
abbrev main_c_26 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_c_27 : Ref sig .tc := ⟨.hbm, 113, rfl⟩
abbrev main_call6_v0 : Ref sig .tc := ⟨.hbm, 114, rfl⟩
abbrev main_v62 : Ref sig .tc := ⟨.hbm, 115, rfl⟩
abbrev main_v63 : Ref sig .tc := ⟨.hbm, 116, rfl⟩
abbrev main_cst_28 : Ref sig .tc := ⟨.hbm, 117, rfl⟩
abbrev main_v64 : Ref sig .tc := ⟨.hbm, 118, rfl⟩
abbrev main_c_29 : Ref sig .tc := ⟨.hbm, 119, rfl⟩
abbrev main_v65 : Ref sig .tc := ⟨.hbm, 120, rfl⟩
abbrev main_c_30 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_c_31 : Ref sig .tc := ⟨.hbm, 126, rfl⟩
abbrev main_call7_v0 : Ref sig .tc := ⟨.hbm, 127, rfl⟩
abbrev main_v70 : Ref sig .tc := ⟨.hbm, 128, rfl⟩
abbrev main_v71 : Ref sig .tc := ⟨.hbm, 129, rfl⟩
abbrev main_cst_32 : Ref sig .tc := ⟨.hbm, 130, rfl⟩
abbrev main_v72 : Ref sig .tc := ⟨.hbm, 131, rfl⟩
abbrev main_c_33 : Ref sig .tc := ⟨.hbm, 132, rfl⟩
abbrev main_v73 : Ref sig .tc := ⟨.hbm, 133, rfl⟩
abbrev main_c_34 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_c_35 : Ref sig .tc := ⟨.hbm, 139, rfl⟩
abbrev main_call8_v0 : Ref sig .tc := ⟨.hbm, 140, rfl⟩
abbrev main_v78 : Ref sig .tc := ⟨.hbm, 141, rfl⟩
abbrev main_v79 : Ref sig .tc := ⟨.hbm, 142, rfl⟩
abbrev main_cst_36 : Ref sig .tc := ⟨.hbm, 143, rfl⟩
abbrev main_v80 : Ref sig .tc := ⟨.hbm, 144, rfl⟩
abbrev main_v81 : Ref sig .tc := ⟨.hbm, 145, rfl⟩
abbrev main_c_37 : Ref sig .tc := ⟨.hbm, 146, rfl⟩
abbrev main_v82 : Ref sig .tc := ⟨.hbm, 147, rfl⟩
abbrev main_v83 : Ref sig .tc := ⟨.hbm, 148, rfl⟩
abbrev main_c_38 : Ref sig .tc := ⟨.hbm, 149, rfl⟩
abbrev main_v84 : Ref sig .tc := ⟨.hbm, 150, rfl⟩
abbrev main_v85 : Ref sig .tc := ⟨.hbm, 151, rfl⟩
abbrev main_c_39 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_40 : Ref sig .tc := ⟨.hbm, 156, rfl⟩
abbrev main_v89 : Ref sig .tc := ⟨.hbm, 157, rfl⟩
abbrev main_c_41 : Ref sig .tc := ⟨.hbm, 158, rfl⟩
abbrev main_v90 : Ref sig .tc := ⟨.hbm, 159, rfl⟩
abbrev main_v91 : Ref sig .tc := ⟨.hbm, 160, rfl⟩
abbrev main_c_42 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_c_43 : Ref sig .tc := ⟨.hbm, 165, rfl⟩
abbrev main_v95 : Ref sig .tc := ⟨.hbm, 166, rfl⟩
abbrev main_v96 : Ref sig .tc := ⟨.hbm, 167, rfl⟩
abbrev main_c_44 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_c_45 : Ref sig .tc := ⟨.hbm, 220, rfl⟩
abbrev main_call9_v0 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_c_46 : Ref sig .tc := ⟨.hbm, 225, rfl⟩
abbrev main_call10_v0 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_c_47 : Ref sig .tc := ⟨.hbm, 234, rfl⟩
abbrev main_call11_v0 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_c_48 : Ref sig .tc := ⟨.hbm, 239, rfl⟩
abbrev main_call12_v0 : Ref sig .tc := ⟨.hbm, 240, rfl⟩
abbrev main_v161 : Ref sig .tc := ⟨.hbm, 241, rfl⟩
abbrev main_c_49 : Ref sig .tc := ⟨.hbm, 242, rfl⟩
abbrev main_call13_v0 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_c_50 : Ref sig .tc := ⟨.hbm, 247, rfl⟩
abbrev main_call14_v0 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_v169 : Ref sig .tc := ⟨.hbm, 253, rfl⟩
abbrev main_v170_0 : Ref sig .tc := ⟨.hbm, 254, rfl⟩
abbrev main_v170_1 : Ref sig .tc := ⟨.hbm, 255, rfl⟩
abbrev main_v170_2 : Ref sig .tc := ⟨.hbm, 256, rfl⟩
abbrev main_v171 : Ref sig .tc := ⟨.hbm, 257, rfl⟩
abbrev main_v172 : Ref sig .tc := ⟨.hbm, 258, rfl⟩
abbrev main_v0_scv : Ref sig .scVector := ⟨.hbm, 16, rfl⟩
abbrev main_v1_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg12_0 : Ref sig .tc := ⟨.vmem, 13, rfl⟩
abbrev cc1_stg13_0 : Ref sig .tc := ⟨.vmem, 14, rfl⟩
abbrev cc1_stg14_0 : Ref sig .tc := ⟨.vmem, 15, rfl⟩
abbrev cc1_stg15_0 : Ref sig .tc := ⟨.vmem, 16, rfl⟩
abbrev cc1_stg16_0 : Ref sig .tc := ⟨.vmem, 17, rfl⟩
abbrev cc1_stg17_0 : Ref sig .tc := ⟨.vmem, 18, rfl⟩
abbrev cc1_stg18_0 : Ref sig .tc := ⟨.vmem, 19, rfl⟩
abbrev cc1_stg18_1 : Ref sig .tc := ⟨.vmem, 20, rfl⟩
abbrev cc1_stg19_0 : Ref sig .tc := ⟨.vmem, 21, rfl⟩
abbrev cc1_stg19_1 : Ref sig .tc := ⟨.vmem, 22, rfl⟩
abbrev cc1_stg20_0 : Ref sig .tc := ⟨.vmem, 23, rfl⟩
abbrev cc1_stg20_1 : Ref sig .tc := ⟨.vmem, 24, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem13_0 : DmaSem sig := 17
abbrev cc1_sem14_0 : DmaSem sig := 18
abbrev cc1_sem15_0 : DmaSem sig := 19
abbrev cc1_sem16_0 : DmaSem sig := 20
abbrev cc1_sem17_0 : DmaSem sig := 21
abbrev cc1_sem18_0 : DmaSem sig := 22
abbrev cc1_sem18_1 : DmaSem sig := 23
abbrev cc1_sem19_0 : DmaSem sig := 24
abbrev cc1_sem19_1 : DmaSem sig := 25
abbrev cc1_sem20_0 : DmaSem sig := 26
abbrev cc1_sem20_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_17_r0 : BitVec 32 := 0#32
  let c0_i32_18_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, 0, v2.toNat]
@[reducible] def k0_t1_loop : Scf.Loop 32 :=
  let c0_i32_1 : BitVec 32 := 0#32
  let c8_i32 : BitVec 32 := 8#32
  let v11 : BitVec 32 := Scalar.addi c0_i32_1 c8_i32
  let c1_i32 : BitVec 32 := 1#32
  ⟨c0_i32_1, v11, c1_i32⟩
def k0_cond1 (k0_t1 : Fin k0_t1_loop.trips) : BitVec 1 :=
  let c0_i32_1 : BitVec 32 := 0#32
  let c1_i32 : BitVec 32 := 1#32
  let arg8 : BitVec 32 := Scf.iv c0_i32_1 c1_i32 k0_t1
  let c0_i32_18 : BitVec 32 := 0#32
  let v25 : BitVec 1 := Scalar.cmpi .sgt arg8 c0_i32_18
  let v26 : BitVec 32 := Scalar.extui v25
  let c0_i32_19 : BitVec 32 := 0#32
  let v27 : BitVec 1 := Scalar.cmpi .ne v26 c0_i32_19
  v27

def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_63 : BitVec 32 := 0#32
  ![v2.toNat, 0]
@[reducible] def k0_t2_loop : Scf.Loop 32 :=
  let c0_i32_21 : BitVec 32 := 0#32
  let c192_i32 : BitVec 32 := 192#32
  let v28 : BitVec 32 := Scalar.addi c0_i32_21 c192_i32
  let c1_i32_22 : BitVec 32 := 1#32
  ⟨c0_i32_21, v28, c1_i32_22⟩
def k0_off3 (k0_t2 : Fin k0_t2_loop.trips) : Fin 3 → Nat :=
  let c0_i32_60 : BitVec 32 := 0#32
  let v56 : Index := Scalar.indexCast c0_i32_60
  let c0_i32_61 : BitVec 32 := 0#32
  let v57 : Index := Scalar.indexCast c0_i32_61
  let c0_i32_21 : BitVec 32 := 0#32
  let c1_i32_22 : BitVec 32 := 1#32
  let arg9 : BitVec 32 := Scf.iv c0_i32_21 c1_i32_22 k0_t2
  let c16_i32 : BitVec 32 := 16#32
  let v55 : BitVec 32 := Scalar.muli arg9 c16_i32
  let v58 : Index := Scalar.indexCast v55
  ![0, 0, v58.toNat]
def k0_off4 (k0_t2 : Fin k0_t2_loop.trips) : Fin 3 → Nat :=
  let c0_i32_63 : BitVec 32 := 0#32
  let v61 : Index := Scalar.indexCast c0_i32_63
  let c1_i32_64 : BitVec 32 := 1#32
  let v62 : Index := Scalar.indexCast c1_i32_64
  let c0_i32_21 : BitVec 32 := 0#32
  let c1_i32_22 : BitVec 32 := 1#32
  let arg9 : BitVec 32 := Scf.iv c0_i32_21 c1_i32_22 k0_t2
  let c16_i32_62 : BitVec 32 := 16#32
  let v60 : BitVec 32 := Scalar.muli arg9 c16_i32_62
  let v63 : Index := Scalar.indexCast v60
  ![0, 1, v63.toNat]
def k0_off5 (k0_t2 : Fin k0_t2_loop.trips) : Fin 3 → Nat :=
  let c0_i32_66 : BitVec 32 := 0#32
  let v66 : Index := Scalar.indexCast c0_i32_66
  let c2_i32_67 : BitVec 32 := 2#32
  let v67 : Index := Scalar.indexCast c2_i32_67
  let c0_i32_21 : BitVec 32 := 0#32
  let c1_i32_22 : BitVec 32 := 1#32
  let arg9 : BitVec 32 := Scf.iv c0_i32_21 c1_i32_22 k0_t2
  let c16_i32_65 : BitVec 32 := 16#32
  let v65 : BitVec 32 := Scalar.muli arg9 c16_i32_65
  let v68 : Index := Scalar.indexCast v65
  ![0, 2, v68.toNat]
def k0_off6 (k0_t2 : Fin k0_t2_loop.trips) : Fin 3 → Nat :=
  let c0_i32_69 : BitVec 32 := 0#32
  let v71 : Index := Scalar.indexCast c0_i32_69
  let c3_i32_70 : BitVec 32 := 3#32
  let v72 : Index := Scalar.indexCast c3_i32_70
  let c0_i32_21 : BitVec 32 := 0#32
  let c1_i32_22 : BitVec 32 := 1#32
  let arg9 : BitVec 32 := Scf.iv c0_i32_21 c1_i32_22 k0_t2
  let c16_i32_68 : BitVec 32 := 16#32
  let v70 : BitVec 32 := Scalar.muli arg9 c16_i32_68
  let v73 : Index := Scalar.indexCast v70
  ![0, 3, v73.toNat]
def k0_off7 (k0_t2 : Fin k0_t2_loop.trips) : Fin 3 → Nat :=
  let c0_i32_72 : BitVec 32 := 0#32
  let v76 : Index := Scalar.indexCast c0_i32_72
  let c4_i32 : BitVec 32 := 4#32
  let v77 : Index := Scalar.indexCast c4_i32
  let c0_i32_21 : BitVec 32 := 0#32
  let c1_i32_22 : BitVec 32 := 1#32
  let arg9 : BitVec 32 := Scf.iv c0_i32_21 c1_i32_22 k0_t2
  let c16_i32_71 : BitVec 32 := 16#32
  let v75 : BitVec 32 := Scalar.muli arg9 c16_i32_71
  let v78 : Index := Scalar.indexCast v75
  ![0, 4, v78.toNat]
def k0_off8 (k0_t2 : Fin k0_t2_loop.trips) : Fin 3 → Nat :=
  let c0_i32_74 : BitVec 32 := 0#32
  let v81 : Index := Scalar.indexCast c0_i32_74
  let c5_i32 : BitVec 32 := 5#32
  let v82 : Index := Scalar.indexCast c5_i32
  let c0_i32_21 : BitVec 32 := 0#32
  let c1_i32_22 : BitVec 32 := 1#32
  let arg9 : BitVec 32 := Scf.iv c0_i32_21 c1_i32_22 k0_t2
  let c16_i32_73 : BitVec 32 := 16#32
  let v80 : BitVec 32 := Scalar.muli arg9 c16_i32_73
  let v83 : Index := Scalar.indexCast v80
  ![0, 5, v83.toNat]
def k0_off9 (k0_t2 : Fin k0_t2_loop.trips) : Fin 3 → Nat :=
  let c0_i32_76 : BitVec 32 := 0#32
  let v86 : Index := Scalar.indexCast c0_i32_76
  let c6_i32 : BitVec 32 := 6#32
  let v87 : Index := Scalar.indexCast c6_i32
  let c0_i32_21 : BitVec 32 := 0#32
  let c1_i32_22 : BitVec 32 := 1#32
  let arg9 : BitVec 32 := Scf.iv c0_i32_21 c1_i32_22 k0_t2
  let c16_i32_75 : BitVec 32 := 16#32
  let v85 : BitVec 32 := Scalar.muli arg9 c16_i32_75
  let v88 : Index := Scalar.indexCast v85
  ![0, 6, v88.toNat]
def k0_off10 (k0_t2 : Fin k0_t2_loop.trips) : Fin 3 → Nat :=
  let c0_i32_78 : BitVec 32 := 0#32
  let v91 : Index := Scalar.indexCast c0_i32_78
  let c7_i32_79 : BitVec 32 := 7#32
  let v92 : Index := Scalar.indexCast c7_i32_79
  let c0_i32_21 : BitVec 32 := 0#32
  let c1_i32_22 : BitVec 32 := 1#32
  let arg9 : BitVec 32 := Scf.iv c0_i32_21 c1_i32_22 k0_t2
  let c16_i32_77 : BitVec 32 := 16#32
  let v90 : BitVec 32 := Scalar.muli arg9 c16_i32_77
  let v93 : Index := Scalar.indexCast v90
  ![0, 7, v93.toNat]
@[reducible] def k0_t3_loop : Scf.Loop 32 :=
  let c0_i32_26 : BitVec 32 := 0#32
  let c100_i32 : BitVec 32 := 100#32
  let v30 : BitVec 32 := Scalar.addi c0_i32_26 c100_i32
  let c1_i32_27 : BitVec 32 := 1#32
  ⟨c0_i32_26, v30, c1_i32_27⟩

def k0_chk1 (v9 : IVec S16 32) (v57 : IVec S16 32) (v59 : IVec S16 32) : Prop :=
  (∀ a x, ((![v9, v57, v59] : Fin 3 → IVec S16 32) a x).toNat < S3x200x128.size a)
theorem k0_idx1_inb : ∀ (v9 : IVec S16 32) (v57 : IVec S16 32) (v59 : IVec S16 32) (k0_hw1 : k0_chk1 v9 v57 v59), ∀ a x, ((![v9, v57, v59] : Fin 3 → IVec S16 32) a x).toNat < S3x200x128.size a := fun v9 v57 v59 k0_hw1 => k0_hw1

def k0_chk2 (v57 : IVec S16 32) (v59 : IVec S16 32) (v62 : IVec S16 32) : Prop :=
  (∀ a x, ((![v62, v57, v59] : Fin 3 → IVec S16 32) a x).toNat < S3x200x128.size a)
theorem k0_idx2_inb : ∀ (v57 : IVec S16 32) (v59 : IVec S16 32) (v62 : IVec S16 32) (k0_hw2 : k0_chk2 v57 v59 v62), ∀ a x, ((![v62, v57, v59] : Fin 3 → IVec S16 32) a x).toNat < S3x200x128.size a := fun v57 v59 v62 k0_hw2 => k0_hw2

def k0_chk3 (v57 : IVec S16 32) (v59 : IVec S16 32) (v65 : IVec S16 32) : Prop :=
  (∀ a x, ((![v65, v57, v59] : Fin 3 → IVec S16 32) a x).toNat < S3x200x128.size a)
theorem k0_idx3_inb : ∀ (v57 : IVec S16 32) (v59 : IVec S16 32) (v65 : IVec S16 32) (k0_hw3 : k0_chk3 v57 v59 v65), ∀ a x, ((![v65, v57, v59] : Fin 3 → IVec S16 32) a x).toNat < S3x200x128.size a := fun v57 v59 v65 k0_hw3 => k0_hw3

def k0_chk4 (v5 : IVec S16 32) (v100 : IVec S16 32) : Prop :=
  (∀ a x, ((![v5, v100] : Fin 2 → IVec S16 32) a x).toNat < S8x3072.size a)
theorem k0_idx4_inb : ∀ (v5 : IVec S16 32) (v100 : IVec S16 32) (k0_hw4 : k0_chk4 v5 v100), ∀ a x, ((![v5, v100] : Fin 2 → IVec S16 32) a x).toNat < S8x3072.size a := fun v5 v100 k0_hw4 => k0_hw4
def k0_off11 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_17 : BitVec 32 := 2#32
  let c0_i32_1 : BitVec 32 := 0#32
  let c1_i32 : BitVec 32 := 1#32
  let arg8 : BitVec 32 := Scf.iv c0_i32_1 c1_i32 k0_t1
  let v24 : BitVec 32 := Scalar.muli c2_i32_17 arg8
  let c8_i32_29 : BitVec 32 := 8#32
  let v31 : BitVec 32 := Scalar.muli v24 c8_i32_29
  let v32 : BitVec 32 := Scalar.addi v2 v31
  let c0_i32_33 : BitVec 32 := 0#32
  ![v32.toNat, 0]
def k0_cond2 (k0_t1 : Fin k0_t1_loop.trips) : BitVec 1 :=
  let c0_i32_1 : BitVec 32 := 0#32
  let c1_i32 : BitVec 32 := 1#32
  let arg8 : BitVec 32 := Scf.iv c0_i32_1 c1_i32 k0_t1
  let c0_i32_39 : BitVec 32 := 0#32
  let v41 : BitVec 1 := Scalar.cmpi .sgt arg8 c0_i32_39
  let v42 : BitVec 32 := Scalar.extui v41
  let c0_i32_40 : BitVec 32 := 0#32
  let v43 : BitVec 1 := Scalar.cmpi .ne v42 c0_i32_40
  v43

def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_63 : BitVec 32 := 0#32
  ![v2.toNat, 0]
@[reducible] def k0_t4_loop : Scf.Loop 32 :=
  let c0_i32_42 : BitVec 32 := 0#32
  let c192_i32_43 : BitVec 32 := 192#32
  let v44 : BitVec 32 := Scalar.addi c0_i32_42 c192_i32_43
  let c1_i32_44 : BitVec 32 := 1#32
  ⟨c0_i32_42, v44, c1_i32_44⟩
def k0_off13 (k0_t4 : Fin k0_t4_loop.trips) : Fin 3 → Nat :=
  let c1_i32_60 : BitVec 32 := 1#32
  let v56 : Index := Scalar.indexCast c1_i32_60
  let c0_i32_61 : BitVec 32 := 0#32
  let v57 : Index := Scalar.indexCast c0_i32_61
  let c0_i32_42 : BitVec 32 := 0#32
  let c1_i32_44 : BitVec 32 := 1#32
  let arg9 : BitVec 32 := Scf.iv c0_i32_42 c1_i32_44 k0_t4
  let c16_i32 : BitVec 32 := 16#32
  let v55 : BitVec 32 := Scalar.muli arg9 c16_i32
  let v58 : Index := Scalar.indexCast v55
  ![1, 0, v58.toNat]
def k0_off14 (k0_t4 : Fin k0_t4_loop.trips) : Fin 3 → Nat :=
  let c1_i32_63 : BitVec 32 := 1#32
  let v61 : Index := Scalar.indexCast c1_i32_63
  let c1_i32_64 : BitVec 32 := 1#32
  let v62 : Index := Scalar.indexCast c1_i32_64
  let c0_i32_42 : BitVec 32 := 0#32
  let c1_i32_44 : BitVec 32 := 1#32
  let arg9 : BitVec 32 := Scf.iv c0_i32_42 c1_i32_44 k0_t4
  let c16_i32_62 : BitVec 32 := 16#32
  let v60 : BitVec 32 := Scalar.muli arg9 c16_i32_62
  let v63 : Index := Scalar.indexCast v60
  ![1, 1, v63.toNat]
def k0_off15 (k0_t4 : Fin k0_t4_loop.trips) : Fin 3 → Nat :=
  let c1_i32_66 : BitVec 32 := 1#32
  let v66 : Index := Scalar.indexCast c1_i32_66
  let c2_i32_67 : BitVec 32 := 2#32
  let v67 : Index := Scalar.indexCast c2_i32_67
  let c0_i32_42 : BitVec 32 := 0#32
  let c1_i32_44 : BitVec 32 := 1#32
  let arg9 : BitVec 32 := Scf.iv c0_i32_42 c1_i32_44 k0_t4
  let c16_i32_65 : BitVec 32 := 16#32
  let v65 : BitVec 32 := Scalar.muli arg9 c16_i32_65
  let v68 : Index := Scalar.indexCast v65
  ![1, 2, v68.toNat]
def k0_off16 (k0_t4 : Fin k0_t4_loop.trips) : Fin 3 → Nat :=
  let c1_i32_69 : BitVec 32 := 1#32
  let v71 : Index := Scalar.indexCast c1_i32_69
  let c3_i32_70 : BitVec 32 := 3#32
  let v72 : Index := Scalar.indexCast c3_i32_70
  let c0_i32_42 : BitVec 32 := 0#32
  let c1_i32_44 : BitVec 32 := 1#32
  let arg9 : BitVec 32 := Scf.iv c0_i32_42 c1_i32_44 k0_t4
  let c16_i32_68 : BitVec 32 := 16#32
  let v70 : BitVec 32 := Scalar.muli arg9 c16_i32_68
  let v73 : Index := Scalar.indexCast v70
  ![1, 3, v73.toNat]
def k0_off17 (k0_t4 : Fin k0_t4_loop.trips) : Fin 3 → Nat :=
  let c1_i32_72 : BitVec 32 := 1#32
  let v76 : Index := Scalar.indexCast c1_i32_72
  let c4_i32 : BitVec 32 := 4#32
  let v77 : Index := Scalar.indexCast c4_i32
  let c0_i32_42 : BitVec 32 := 0#32
  let c1_i32_44 : BitVec 32 := 1#32
  let arg9 : BitVec 32 := Scf.iv c0_i32_42 c1_i32_44 k0_t4
  let c16_i32_71 : BitVec 32 := 16#32
  let v75 : BitVec 32 := Scalar.muli arg9 c16_i32_71
  let v78 : Index := Scalar.indexCast v75
  ![1, 4, v78.toNat]
def k0_off18 (k0_t4 : Fin k0_t4_loop.trips) : Fin 3 → Nat :=
  let c1_i32_74 : BitVec 32 := 1#32
  let v81 : Index := Scalar.indexCast c1_i32_74
  let c5_i32 : BitVec 32 := 5#32
  let v82 : Index := Scalar.indexCast c5_i32
  let c0_i32_42 : BitVec 32 := 0#32
  let c1_i32_44 : BitVec 32 := 1#32
  let arg9 : BitVec 32 := Scf.iv c0_i32_42 c1_i32_44 k0_t4
  let c16_i32_73 : BitVec 32 := 16#32
  let v80 : BitVec 32 := Scalar.muli arg9 c16_i32_73
  let v83 : Index := Scalar.indexCast v80
  ![1, 5, v83.toNat]
def k0_off19 (k0_t4 : Fin k0_t4_loop.trips) : Fin 3 → Nat :=
  let c1_i32_76 : BitVec 32 := 1#32
  let v86 : Index := Scalar.indexCast c1_i32_76
  let c6_i32 : BitVec 32 := 6#32
  let v87 : Index := Scalar.indexCast c6_i32
  let c0_i32_42 : BitVec 32 := 0#32
  let c1_i32_44 : BitVec 32 := 1#32
  let arg9 : BitVec 32 := Scf.iv c0_i32_42 c1_i32_44 k0_t4
  let c16_i32_75 : BitVec 32 := 16#32
  let v85 : BitVec 32 := Scalar.muli arg9 c16_i32_75
  let v88 : Index := Scalar.indexCast v85
  ![1, 6, v88.toNat]
def k0_off20 (k0_t4 : Fin k0_t4_loop.trips) : Fin 3 → Nat :=
  let c1_i32_78 : BitVec 32 := 1#32
  let v91 : Index := Scalar.indexCast c1_i32_78
  let c7_i32_79 : BitVec 32 := 7#32
  let v92 : Index := Scalar.indexCast c7_i32_79
  let c0_i32_42 : BitVec 32 := 0#32
  let c1_i32_44 : BitVec 32 := 1#32
  let arg9 : BitVec 32 := Scf.iv c0_i32_42 c1_i32_44 k0_t4
  let c16_i32_77 : BitVec 32 := 16#32
  let v90 : BitVec 32 := Scalar.muli arg9 c16_i32_77
  let v93 : Index := Scalar.indexCast v90
  ![1, 7, v93.toNat]
@[reducible] def k0_t5_loop : Scf.Loop 32 :=
  let c0_i32_48 : BitVec 32 := 0#32
  let c100_i32_49 : BitVec 32 := 100#32
  let v46 : BitVec 32 := Scalar.addi c0_i32_48 c100_i32_49
  let c1_i32_50 : BitVec 32 := 1#32
  ⟨c0_i32_48, v46, c1_i32_50⟩

def k0_chk5 (v9 : IVec S16 32) (v57 : IVec S16 32) (v59 : IVec S16 32) : Prop :=
  (∀ a x, ((![v9, v57, v59] : Fin 3 → IVec S16 32) a x).toNat < S3x200x128.size a)
theorem k0_idx5_inb : ∀ (v9 : IVec S16 32) (v57 : IVec S16 32) (v59 : IVec S16 32) (k0_hw5 : k0_chk5 v9 v57 v59), ∀ a x, ((![v9, v57, v59] : Fin 3 → IVec S16 32) a x).toNat < S3x200x128.size a := fun v9 v57 v59 k0_hw5 => k0_hw5

def k0_chk6 (v57 : IVec S16 32) (v59 : IVec S16 32) (v62 : IVec S16 32) : Prop :=
  (∀ a x, ((![v62, v57, v59] : Fin 3 → IVec S16 32) a x).toNat < S3x200x128.size a)
theorem k0_idx6_inb : ∀ (v57 : IVec S16 32) (v59 : IVec S16 32) (v62 : IVec S16 32) (k0_hw6 : k0_chk6 v57 v59 v62), ∀ a x, ((![v62, v57, v59] : Fin 3 → IVec S16 32) a x).toNat < S3x200x128.size a := fun v57 v59 v62 k0_hw6 => k0_hw6

def k0_chk7 (v57 : IVec S16 32) (v59 : IVec S16 32) (v65 : IVec S16 32) : Prop :=
  (∀ a x, ((![v65, v57, v59] : Fin 3 → IVec S16 32) a x).toNat < S3x200x128.size a)
theorem k0_idx7_inb : ∀ (v57 : IVec S16 32) (v59 : IVec S16 32) (v65 : IVec S16 32) (k0_hw7 : k0_chk7 v57 v59 v65), ∀ a x, ((![v65, v57, v59] : Fin 3 → IVec S16 32) a x).toNat < S3x200x128.size a := fun v57 v59 v65 k0_hw7 => k0_hw7

def k0_chk8 (v5 : IVec S16 32) (v100 : IVec S16 32) : Prop :=
  (∀ a x, ((![v5, v100] : Fin 2 → IVec S16 32) a x).toNat < S8x3072.size a)
theorem k0_idx8_inb : ∀ (v5 : IVec S16 32) (v100 : IVec S16 32) (k0_hw8 : k0_chk8 v5 v100), ∀ a x, ((![v5, v100] : Fin 2 → IVec S16 32) a x).toNat < S8x3072.size a := fun v5 v100 k0_hw8 => k0_hw8
def k0_off21 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2_i32_37 : BitVec 32 := 2#32
  let c0_i32_1 : BitVec 32 := 0#32
  let c1_i32 : BitVec 32 := 1#32
  let arg8 : BitVec 32 := Scf.iv c0_i32_1 c1_i32 k0_t1
  let v39 : BitVec 32 := Scalar.muli c2_i32_37 arg8
  let c1_i32_38 : BitVec 32 := 1#32
  let v40 : BitVec 32 := Scalar.addi v39 c1_i32_38
  let c8_i32_52 : BitVec 32 := 8#32
  let v47 : BitVec 32 := Scalar.muli v40 c8_i32_52
  let v48 : BitVec 32 := Scalar.addi v2 v47
  let c0_i32_56 : BitVec 32 := 0#32
  ![v48.toNat, 0]
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_6 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x1280 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1152x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S24x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1152 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S256x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S1x128 .f32 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 2 → Memref sig .tc .vmem S512x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S512x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S512x128 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x200x3 : Shape := ⟨3, ![4096, 200, 3]⟩
abbrev S128x24x5x5 : Shape := ⟨4, ![128, 24, 5, 5]⟩
abbrev S128 : Shape := ⟨1, ![128]⟩
abbrev S128x128x3x3 : Shape := ⟨4, ![128, 128, 3, 3]⟩
abbrev S256x128 : Shape := ⟨2, ![256, 128]⟩
abbrev S256 : Shape := ⟨1, ![256]⟩
abbrev S256x24 : Shape := ⟨2, ![256, 24]⟩
abbrev S9x512 : Shape := ⟨2, ![9, 512]⟩
abbrev S9 : Shape := ⟨1, ![9]⟩
abbrev S256x512 : Shape := ⟨2, ![256, 512]⟩
abbrev S1x512 : Shape := ⟨2, ![1, 512]⟩
abbrev S1 : Shape := ⟨1, ![1]⟩
abbrev S1x24x1x1 : Shape := ⟨4, ![1, 24, 1, 1]⟩
abbrev S_ : Shape := ⟨0, ![]⟩
abbrev S4096x200x1 : Shape := ⟨3, ![4096, 200, 1]⟩
abbrev S4096x200 : Shape := ⟨2, ![4096, 200]⟩
abbrev S4096 : Shape := ⟨1, ![4096]⟩
abbrev S4096x1 : Shape := ⟨2, ![4096, 1]⟩
abbrev S4096x24x11x11 : Shape := ⟨4, ![4096, 24, 11, 11]⟩
abbrev S4096x200x4 : Shape := ⟨3, ![4096, 200, 4]⟩
abbrev S4096x24x1x1 : Shape := ⟨4, ![4096, 24, 1, 1]⟩
abbrev S4096x24 : Shape := ⟨2, ![4096, 24]⟩
abbrev S24x256 : Shape := ⟨2, ![24, 256]⟩
abbrev S4096x256 : Shape := ⟨2, ![4096, 256]⟩
abbrev S1x256 : Shape := ⟨2, ![1, 256]⟩
abbrev S4096x128x3x3 : Shape := ⟨4, ![4096, 128, 3, 3]⟩
abbrev S4096x24x3x3 : Shape := ⟨4, ![4096, 24, 3, 3]⟩
abbrev S128x24x1x1 : Shape := ⟨4, ![128, 24, 1, 1]⟩
abbrev S128x24 : Shape := ⟨2, ![128, 24]⟩
abbrev S128x4096x3x3 : Shape := ⟨4, ![128, 4096, 3, 3]⟩
abbrev S1x128x1x1 : Shape := ⟨4, ![1, 128, 1, 1]⟩
abbrev S4096x128x1x1 : Shape := ⟨4, ![4096, 128, 1, 1]⟩
abbrev S128x128x1x1 : Shape := ⟨4, ![128, 128, 1, 1]⟩
abbrev S128x128 : Shape := ⟨2, ![128, 128]⟩
abbrev S128x4096x1x1 : Shape := ⟨4, ![128, 4096, 1, 1]⟩
abbrev S4096x128 : Shape := ⟨2, ![4096, 128]⟩
abbrev S128x256 : Shape := ⟨2, ![128, 256]⟩
abbrev S4096x512 : Shape := ⟨2, ![4096, 512]⟩
abbrev S512x9 : Shape := ⟨2, ![512, 9]⟩
abbrev S4096x9 : Shape := ⟨2, ![4096, 9]⟩
abbrev S1x9 : Shape := ⟨2, ![1, 9]⟩
abbrev S512x256 : Shape := ⟨2, ![512, 256]⟩
abbrev S512x1 : Shape := ⟨2, ![512, 1]⟩
abbrev S1x1 : Shape := ⟨2, ![1, 1]⟩

abbrev nBuf : Space → Nat
  | .hbm => 357
  | .vmem => 0
  | .smem => 0
  | _ => 0

abbrev hbmTy0_0 (i : Nat) : BufTy := match i % 128 with
  | 0 => ⟨S4096x200x3, .i32⟩
  | 1 => ⟨S128x24x5x5, .f32⟩
  | 2 => ⟨S128, .f32⟩
  | 3 => ⟨S128x128x3x3, .f32⟩
  | 4 => ⟨S128, .f32⟩
  | 5 => ⟨S256x128, .f32⟩
  | 6 => ⟨S256, .f32⟩
  | 7 => ⟨S256x24, .f32⟩
  | 8 => ⟨S256, .f32⟩
  | 9 => ⟨S9x512, .f32⟩
  | 10 => ⟨S9, .f32⟩
  | 11 => ⟨S256x512, .f32⟩
  | 12 => ⟨S256, .f32⟩
  | 13 => ⟨S1x512, .f32⟩
  | 14 => ⟨S1, .f32⟩
  | 15 => ⟨S1x24x1x1, .f32⟩
  | 16 => ⟨S_, .i32⟩
  | 17 => ⟨S4096x200x3, .i32⟩
  | 18 => ⟨S4096x200x3, .i1⟩
  | 19 => ⟨S_, .i32⟩
  | 20 => ⟨S_, .i32⟩
  | 21 => ⟨S4096x200x3, .i32⟩
  | 22 => ⟨S4096x200x3, .i32⟩
  | 23 => ⟨S4096x200x1, .i32⟩
  | 24 => ⟨S4096x200, .i32⟩
  | 25 => ⟨S_, .i32⟩
  | 26 => ⟨S4096x200, .i32⟩
  | 27 => ⟨S4096x200, .i32⟩
  | 28 => ⟨S_, .i32⟩
  | 29 => ⟨S4096x200, .i32⟩
  | 30 => ⟨S4096x200, .i32⟩
  | 31 => ⟨S_, .i32⟩
  | 32 => ⟨S4096x200, .i32⟩
  | 33 => ⟨S4096x200, .i32⟩
  | 34 => ⟨S4096x200x1, .i32⟩
  | 35 => ⟨S4096x200, .i32⟩
  | 36 => ⟨S4096x200x1, .i32⟩
  | 37 => ⟨S4096x200, .i32⟩
  | 38 => ⟨S4096x200, .f32⟩
  | 39 => ⟨S_, .i32⟩
  | 40 => ⟨S4096x200, .i32⟩
  | 41 => ⟨S4096x200, .i1⟩
  | 42 => ⟨S_, .i32⟩
  | 43 => ⟨S4096x200, .i32⟩
  | 44 => ⟨S4096x200, .i1⟩
  | 45 => ⟨S4096x200, .i1⟩
  | 46 => ⟨S_, .i32⟩
  | 47 => ⟨S4096x200, .i32⟩
  | 48 => ⟨S4096x200, .i1⟩
  | 49 => ⟨S4096x200, .i1⟩
  | 50 => ⟨S_, .i32⟩
  | 51 => ⟨S4096x200, .i32⟩
  | 52 => ⟨S4096x200, .i1⟩
  | 53 => ⟨S4096x200, .i1⟩
  | 54 => ⟨S4096, .i32⟩
  | 55 => ⟨S4096x1, .i32⟩
  | 56 => ⟨S4096x200, .i32⟩
  | 57 => ⟨S_, .i32⟩
  | 58 => ⟨S_, .i32⟩
  | 59 => ⟨S4096x200, .i32⟩
  | 60 => ⟨S4096x200, .i32⟩
  | 61 => ⟨S_, .f32⟩
  | 62 => ⟨S4096x24x11x11, .f32⟩
  | 63 => ⟨S_, .i32⟩
  | 64 => ⟨S4096x200, .i32⟩
  | 65 => ⟨S4096x200, .i1⟩
  | 66 => ⟨S_, .i32⟩
  | 67 => ⟨S4096x200, .i32⟩
  | 68 => ⟨S4096x200, .i32⟩
  | 69 => ⟨S4096x200, .i32⟩
  | 70 => ⟨S_, .i32⟩
  | 71 => ⟨S4096x200, .i32⟩
  | 72 => ⟨S4096x200, .i1⟩
  | 73 => ⟨S_, .i32⟩
  | 74 => ⟨S4096x200, .i32⟩
  | 75 => ⟨S4096x200, .i32⟩
  | 76 => ⟨S4096x200, .i32⟩
  | 77 => ⟨S_, .i32⟩
  | 78 => ⟨S4096x200, .i32⟩
  | 79 => ⟨S4096x200, .i1⟩
  | 80 => ⟨S_, .i32⟩
  | 81 => ⟨S4096x200, .i32⟩
  | 82 => ⟨S4096x200, .i32⟩
  | 83 => ⟨S4096x200, .i32⟩
  | 84 => ⟨S_, .i32⟩
  | 85 => ⟨S4096x200, .i32⟩
  | 86 => ⟨S4096x200, .i1⟩
  | 87 => ⟨S_, .i32⟩
  | 88 => ⟨S4096x200, .i32⟩
  | 89 => ⟨S4096x200, .i32⟩
  | 90 => ⟨S4096x200, .i32⟩
  | 91 => ⟨S4096x200x1, .i32⟩
  | 92 => ⟨S4096x200x1, .i32⟩
  | 93 => ⟨S4096x200x1, .i32⟩
  | 94 => ⟨S4096x200x1, .i32⟩
  | 95 => ⟨S4096x200x4, .i32⟩
  | 96 => ⟨S4096x24x11x11, .f32⟩
  | 97 => ⟨S_, .f32⟩
  | 98 => ⟨S1x24x1x1, .f32⟩
  | 99 => ⟨S1x24x1x1, .f32⟩
  | 100 => ⟨S4096x24x11x11, .f32⟩
  | 101 => ⟨S4096x24x11x11, .f32⟩
  | 102 => ⟨S4096x24x1x1, .f32⟩
  | 103 => ⟨S4096x24, .f32⟩
  | 104 => ⟨S24x256, .f32⟩
  | 105 => ⟨S4096x256, .f32⟩
  | 106 => ⟨S1x256, .f32⟩
  | 107 => ⟨S4096x256, .f32⟩
  | 108 => ⟨S4096x256, .f32⟩
  | 109 => ⟨S_, .f32⟩
  | 110 => ⟨S4096x256, .f32⟩
  | 111 => ⟨S4096x256, .f32⟩
  | 112 => ⟨S_, .f32⟩
  | 113 => ⟨S4096x128x3x3, .f32⟩
  | 114 => ⟨S4096x24x3x3, .f32⟩
  | 115 => ⟨S128x24x1x1, .f32⟩
  | 116 => ⟨S128x24, .f32⟩
  | 117 => ⟨S128x4096x3x3, .f32⟩
  | 118 => ⟨S4096x128x3x3, .f32⟩
  | 119 => ⟨S4096x128x3x3, .f32⟩
  | 120 => ⟨S4096x24x3x3, .f32⟩
  | 121 => ⟨S128x24x1x1, .f32⟩
  | 122 => ⟨S128x24, .f32⟩
  | 123 => ⟨S128x4096x3x3, .f32⟩
  | 124 => ⟨S4096x128x3x3, .f32⟩
  | 125 => ⟨S4096x128x3x3, .f32⟩
  | 126 => ⟨S4096x24x3x3, .f32⟩
  | 127 => ⟨S128x24x1x1, .f32⟩
  | _ => ⟨S4096x200x3, .i32⟩

abbrev hbmTy0_1 (i : Nat) : BufTy := match i % 128 with
  | 0 => ⟨S128x24, .f32⟩
  | 1 => ⟨S128x4096x3x3, .f32⟩
  | 2 => ⟨S4096x128x3x3, .f32⟩
  | 3 => ⟨S4096x128x3x3, .f32⟩
  | 4 => ⟨S4096x24x3x3, .f32⟩
  | 5 => ⟨S128x24x1x1, .f32⟩
  | 6 => ⟨S128x24, .f32⟩
  | 7 => ⟨S128x4096x3x3, .f32⟩
  | 8 => ⟨S4096x128x3x3, .f32⟩
  | 9 => ⟨S4096x128x3x3, .f32⟩
  | 10 => ⟨S4096x24x3x3, .f32⟩
  | 11 => ⟨S128x24x1x1, .f32⟩
  | 12 => ⟨S128x24, .f32⟩
  | 13 => ⟨S128x4096x3x3, .f32⟩
  | 14 => ⟨S4096x128x3x3, .f32⟩
  | 15 => ⟨S4096x128x3x3, .f32⟩
  | 16 => ⟨S4096x24x3x3, .f32⟩
  | 17 => ⟨S128x24x1x1, .f32⟩
  | 18 => ⟨S128x24, .f32⟩
  | 19 => ⟨S128x4096x3x3, .f32⟩
  | 20 => ⟨S4096x128x3x3, .f32⟩
  | 21 => ⟨S4096x128x3x3, .f32⟩
  | 22 => ⟨S4096x24x3x3, .f32⟩
  | 23 => ⟨S128x24x1x1, .f32⟩
  | 24 => ⟨S128x24, .f32⟩
  | 25 => ⟨S128x4096x3x3, .f32⟩
  | 26 => ⟨S4096x128x3x3, .f32⟩
  | 27 => ⟨S4096x128x3x3, .f32⟩
  | 28 => ⟨S4096x24x3x3, .f32⟩
  | 29 => ⟨S128x24x1x1, .f32⟩
  | 30 => ⟨S128x24, .f32⟩
  | 31 => ⟨S128x4096x3x3, .f32⟩
  | 32 => ⟨S4096x128x3x3, .f32⟩
  | 33 => ⟨S4096x128x3x3, .f32⟩
  | 34 => ⟨S4096x24x3x3, .f32⟩
  | 35 => ⟨S128x24x1x1, .f32⟩
  | 36 => ⟨S128x24, .f32⟩
  | 37 => ⟨S128x4096x3x3, .f32⟩
  | 38 => ⟨S4096x128x3x3, .f32⟩
  | 39 => ⟨S4096x128x3x3, .f32⟩
  | 40 => ⟨S4096x24x3x3, .f32⟩
  | 41 => ⟨S128x24x1x1, .f32⟩
  | 42 => ⟨S128x24, .f32⟩
  | 43 => ⟨S128x4096x3x3, .f32⟩
  | 44 => ⟨S4096x128x3x3, .f32⟩
  | 45 => ⟨S4096x128x3x3, .f32⟩
  | 46 => ⟨S4096x24x3x3, .f32⟩
  | 47 => ⟨S128x24x1x1, .f32⟩
  | 48 => ⟨S128x24, .f32⟩
  | 49 => ⟨S128x4096x3x3, .f32⟩
  | 50 => ⟨S4096x128x3x3, .f32⟩
  | 51 => ⟨S4096x128x3x3, .f32⟩
  | 52 => ⟨S4096x24x3x3, .f32⟩
  | 53 => ⟨S128x24x1x1, .f32⟩
  | 54 => ⟨S128x24, .f32⟩
  | 55 => ⟨S128x4096x3x3, .f32⟩
  | 56 => ⟨S4096x128x3x3, .f32⟩
  | 57 => ⟨S4096x128x3x3, .f32⟩
  | 58 => ⟨S4096x24x3x3, .f32⟩
  | 59 => ⟨S128x24x1x1, .f32⟩
  | 60 => ⟨S128x24, .f32⟩
  | 61 => ⟨S128x4096x3x3, .f32⟩
  | 62 => ⟨S4096x128x3x3, .f32⟩
  | 63 => ⟨S4096x128x3x3, .f32⟩
  | 64 => ⟨S4096x24x3x3, .f32⟩
  | 65 => ⟨S128x24x1x1, .f32⟩
  | 66 => ⟨S128x24, .f32⟩
  | 67 => ⟨S128x4096x3x3, .f32⟩
  | 68 => ⟨S4096x128x3x3, .f32⟩
  | 69 => ⟨S4096x128x3x3, .f32⟩
  | 70 => ⟨S4096x24x3x3, .f32⟩
  | 71 => ⟨S128x24x1x1, .f32⟩
  | 72 => ⟨S128x24, .f32⟩
  | 73 => ⟨S128x4096x3x3, .f32⟩
  | 74 => ⟨S4096x128x3x3, .f32⟩
  | 75 => ⟨S4096x128x3x3, .f32⟩
  | 76 => ⟨S4096x24x3x3, .f32⟩
  | 77 => ⟨S128x24x1x1, .f32⟩
  | 78 => ⟨S128x24, .f32⟩
  | 79 => ⟨S128x4096x3x3, .f32⟩
  | 80 => ⟨S4096x128x3x3, .f32⟩
  | 81 => ⟨S4096x128x3x3, .f32⟩
  | 82 => ⟨S4096x24x3x3, .f32⟩
  | 83 => ⟨S128x24x1x1, .f32⟩
  | 84 => ⟨S128x24, .f32⟩
  | 85 => ⟨S128x4096x3x3, .f32⟩
  | 86 => ⟨S4096x128x3x3, .f32⟩
  | 87 => ⟨S4096x128x3x3, .f32⟩
  | 88 => ⟨S4096x24x3x3, .f32⟩
  | 89 => ⟨S128x24x1x1, .f32⟩
  | 90 => ⟨S128x24, .f32⟩
  | 91 => ⟨S128x4096x3x3, .f32⟩
  | 92 => ⟨S4096x128x3x3, .f32⟩
  | 93 => ⟨S4096x128x3x3, .f32⟩
  | 94 => ⟨S4096x24x3x3, .f32⟩
  | 95 => ⟨S128x24x1x1, .f32⟩
  | 96 => ⟨S128x24, .f32⟩
  | 97 => ⟨S128x4096x3x3, .f32⟩
  | 98 => ⟨S4096x128x3x3, .f32⟩
  | 99 => ⟨S4096x128x3x3, .f32⟩
  | 100 => ⟨S4096x24x3x3, .f32⟩
  | 101 => ⟨S128x24x1x1, .f32⟩
  | 102 => ⟨S128x24, .f32⟩
  | 103 => ⟨S128x4096x3x3, .f32⟩
  | 104 => ⟨S4096x128x3x3, .f32⟩
  | 105 => ⟨S4096x128x3x3, .f32⟩
  | 106 => ⟨S4096x24x3x3, .f32⟩
  | 107 => ⟨S128x24x1x1, .f32⟩
  | 108 => ⟨S128x24, .f32⟩
  | 109 => ⟨S128x4096x3x3, .f32⟩
  | 110 => ⟨S4096x128x3x3, .f32⟩
  | 111 => ⟨S4096x128x3x3, .f32⟩
  | 112 => ⟨S4096x24x3x3, .f32⟩
  | 113 => ⟨S128x24x1x1, .f32⟩
  | 114 => ⟨S128x24, .f32⟩
  | 115 => ⟨S128x4096x3x3, .f32⟩
  | 116 => ⟨S4096x128x3x3, .f32⟩
  | 117 => ⟨S4096x128x3x3, .f32⟩
  | 118 => ⟨S4096x24x3x3, .f32⟩
  | 119 => ⟨S128x24x1x1, .f32⟩
  | 120 => ⟨S128x24, .f32⟩
  | 121 => ⟨S128x4096x3x3, .f32⟩
  | 122 => ⟨S4096x128x3x3, .f32⟩
  | 123 => ⟨S4096x128x3x3, .f32⟩
  | 124 => ⟨S4096x24x3x3, .f32⟩
  | 125 => ⟨S128x24x1x1, .f32⟩
  | 126 => ⟨S128x24, .f32⟩
  | 127 => ⟨S128x4096x3x3, .f32⟩
  | _ => ⟨S4096x200x3, .i32⟩

abbrev hbmTy0_2 (i : Nat) : BufTy := match i % 128 with
  | 0 => ⟨S4096x128x3x3, .f32⟩
  | 1 => ⟨S4096x128x3x3, .f32⟩
  | 2 => ⟨S4096x24x3x3, .f32⟩
  | 3 => ⟨S128x24x1x1, .f32⟩
  | 4 => ⟨S128x24, .f32⟩
  | 5 => ⟨S128x4096x3x3, .f32⟩
  | 6 => ⟨S4096x128x3x3, .f32⟩
  | 7 => ⟨S4096x128x3x3, .f32⟩
  | 8 => ⟨S1x128x1x1, .f32⟩
  | 9 => ⟨S4096x128x3x3, .f32⟩
  | 10 => ⟨S4096x128x3x3, .f32⟩
  | 11 => ⟨S_, .f32⟩
  | 12 => ⟨S4096x128x3x3, .f32⟩
  | 13 => ⟨S4096x128x3x3, .f32⟩
  | 14 => ⟨S_, .f32⟩
  | 15 => ⟨S4096x128x1x1, .f32⟩
  | 16 => ⟨S4096x128x1x1, .f32⟩
  | 17 => ⟨S128x128x1x1, .f32⟩
  | 18 => ⟨S128x128, .f32⟩
  | 19 => ⟨S128x4096x1x1, .f32⟩
  | 20 => ⟨S4096x128x1x1, .f32⟩
  | 21 => ⟨S4096x128x1x1, .f32⟩
  | 22 => ⟨S4096x128x1x1, .f32⟩
  | 23 => ⟨S128x128x1x1, .f32⟩
  | 24 => ⟨S128x128, .f32⟩
  | 25 => ⟨S128x4096x1x1, .f32⟩
  | 26 => ⟨S4096x128x1x1, .f32⟩
  | 27 => ⟨S4096x128x1x1, .f32⟩
  | 28 => ⟨S4096x128x1x1, .f32⟩
  | 29 => ⟨S128x128x1x1, .f32⟩
  | 30 => ⟨S128x128, .f32⟩
  | 31 => ⟨S128x4096x1x1, .f32⟩
  | 32 => ⟨S4096x128x1x1, .f32⟩
  | 33 => ⟨S4096x128x1x1, .f32⟩
  | 34 => ⟨S4096x128x1x1, .f32⟩
  | 35 => ⟨S128x128x1x1, .f32⟩
  | 36 => ⟨S128x128, .f32⟩
  | 37 => ⟨S128x4096x1x1, .f32⟩
  | 38 => ⟨S4096x128x1x1, .f32⟩
  | 39 => ⟨S4096x128x1x1, .f32⟩
  | 40 => ⟨S4096x128x1x1, .f32⟩
  | 41 => ⟨S128x128x1x1, .f32⟩
  | 42 => ⟨S128x128, .f32⟩
  | 43 => ⟨S128x4096x1x1, .f32⟩
  | 44 => ⟨S4096x128x1x1, .f32⟩
  | 45 => ⟨S4096x128x1x1, .f32⟩
  | 46 => ⟨S4096x128x1x1, .f32⟩
  | 47 => ⟨S128x128x1x1, .f32⟩
  | 48 => ⟨S128x128, .f32⟩
  | 49 => ⟨S128x4096x1x1, .f32⟩
  | 50 => ⟨S4096x128x1x1, .f32⟩
  | 51 => ⟨S4096x128x1x1, .f32⟩
  | 52 => ⟨S4096x128x1x1, .f32⟩
  | 53 => ⟨S128x128x1x1, .f32⟩
  | 54 => ⟨S128x128, .f32⟩
  | 55 => ⟨S128x4096x1x1, .f32⟩
  | 56 => ⟨S4096x128x1x1, .f32⟩
  | 57 => ⟨S4096x128x1x1, .f32⟩
  | 58 => ⟨S4096x128x1x1, .f32⟩
  | 59 => ⟨S128x128x1x1, .f32⟩
  | 60 => ⟨S128x128, .f32⟩
  | 61 => ⟨S128x4096x1x1, .f32⟩
  | 62 => ⟨S4096x128x1x1, .f32⟩
  | 63 => ⟨S4096x128x1x1, .f32⟩
  | 64 => ⟨S4096x128x1x1, .f32⟩
  | 65 => ⟨S128x128x1x1, .f32⟩
  | 66 => ⟨S128x128, .f32⟩
  | 67 => ⟨S128x4096x1x1, .f32⟩
  | 68 => ⟨S4096x128x1x1, .f32⟩
  | 69 => ⟨S4096x128x1x1, .f32⟩
  | 70 => ⟨S1x128x1x1, .f32⟩
  | 71 => ⟨S4096x128x1x1, .f32⟩
  | 72 => ⟨S4096x128x1x1, .f32⟩
  | 73 => ⟨S_, .f32⟩
  | 74 => ⟨S4096x128x1x1, .f32⟩
  | 75 => ⟨S4096x128x1x1, .f32⟩
  | 76 => ⟨S4096x128, .f32⟩
  | 77 => ⟨S128x256, .f32⟩
  | 78 => ⟨S4096x256, .f32⟩
  | 79 => ⟨S1x256, .f32⟩
  | 80 => ⟨S4096x256, .f32⟩
  | 81 => ⟨S4096x256, .f32⟩
  | 82 => ⟨S_, .f32⟩
  | 83 => ⟨S4096x256, .f32⟩
  | 84 => ⟨S4096x256, .f32⟩
  | 85 => ⟨S4096x512, .f32⟩
  | 86 => ⟨S512x9, .f32⟩
  | 87 => ⟨S4096x9, .f32⟩
  | 88 => ⟨S1x9, .f32⟩
  | 89 => ⟨S4096x9, .f32⟩
  | 90 => ⟨S4096x9, .f32⟩
  | 91 => ⟨S512x256, .f32⟩
  | 92 => ⟨S4096x256, .f32⟩
  | 93 => ⟨S1x256, .f32⟩
  | 94 => ⟨S4096x256, .f32⟩
  | 95 => ⟨S4096x256, .f32⟩
  | 96 => ⟨S512x1, .f32⟩
  | 97 => ⟨S4096x1, .f32⟩
  | 98 => ⟨S1x1, .f32⟩
  | 99 => ⟨S4096x1, .f32⟩
  | 100 => ⟨S4096x1, .f32⟩
  | _ => ⟨S4096x200x3, .i32⟩

abbrev hbmTy (i : Nat) : BufTy := match i / 128 with
  | 0 => hbmTy0_0 i
  | 1 => hbmTy0_1 i
  | 2 => hbmTy0_2 i
  | _ => ⟨S4096x200x3, .i32⟩

abbrev bufTy : (tb : Table) → Fin (tcTables nBuf tb) → BufTy
  | .hbm, ⟨i, _⟩ => hbmTy i
  | _, _ => ⟨S4096x200x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_c_1 : Ref sig .tc := ⟨.hbm, 25, rfl⟩
abbrev main_v5 : Ref sig .tc := ⟨.hbm, 26, rfl⟩
abbrev main_v6 : Ref sig .tc := ⟨.hbm, 27, rfl⟩
abbrev main_c_2 : Ref sig .tc := ⟨.hbm, 28, rfl⟩
abbrev main_v7 : Ref sig .tc := ⟨.hbm, 29, rfl⟩
abbrev main_v8 : Ref sig .tc := ⟨.hbm, 30, rfl⟩
abbrev main_c_3 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_c_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_7 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_8 : Ref sig .tc := ⟨.hbm, 57, rfl⟩
abbrev main_call1_v0 : Ref sig .tc := ⟨.hbm, 58, rfl⟩
abbrev main_call1_v1 : Ref sig .tc := ⟨.hbm, 59, rfl⟩
abbrev main_v30 : Ref sig .tc := ⟨.hbm, 60, rfl⟩
abbrev main_cst : Ref sig .tc := ⟨.hbm, 61, rfl⟩
abbrev main_v31 : Ref sig .tc := ⟨.hbm, 62, rfl⟩
abbrev main_c_9 : Ref sig .tc := ⟨.hbm, 63, rfl⟩
abbrev main_v32 : Ref sig .tc := ⟨.hbm, 64, rfl⟩
abbrev main_v33 : Ref sig .tc := ⟨.hbm, 65, rfl⟩
abbrev main_c_10 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_11 : Ref sig .tc := ⟨.hbm, 70, rfl⟩
abbrev main_v37 : Ref sig .tc := ⟨.hbm, 71, rfl⟩
abbrev main_v38 : Ref sig .tc := ⟨.hbm, 72, rfl⟩
abbrev main_c_12 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_c_13 : Ref sig .tc := ⟨.hbm, 77, rfl⟩
abbrev main_v42 : Ref sig .tc := ⟨.hbm, 78, rfl⟩
abbrev main_v43 : Ref sig .tc := ⟨.hbm, 79, rfl⟩
abbrev main_c_14 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_c_15 : Ref sig .tc := ⟨.hbm, 84, rfl⟩
abbrev main_v47 : Ref sig .tc := ⟨.hbm, 85, rfl⟩
abbrev main_v48 : Ref sig .tc := ⟨.hbm, 86, rfl⟩
abbrev main_c_16 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_17 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call2_cst : Ref sig .tc := ⟨.hbm, 109, rfl⟩
abbrev main_call2_v0 : Ref sig .tc := ⟨.hbm, 110, rfl⟩
abbrev main_v69 : Ref sig .tc := ⟨.hbm, 111, rfl⟩
abbrev main_cst_18 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_call3_cst : Ref sig .tc := ⟨.hbm, 267, rfl⟩
abbrev main_call3_v0 : Ref sig .tc := ⟨.hbm, 268, rfl⟩
abbrev main_v224 : Ref sig .tc := ⟨.hbm, 269, rfl⟩
abbrev main_cst_19 : Ref sig .tc := ⟨.hbm, 270, rfl⟩
abbrev main_v225 : Ref sig .tc := ⟨.hbm, 271, rfl⟩
abbrev main_v226 : Ref sig .tc := ⟨.hbm, 272, rfl⟩
abbrev main_v227 : Ref sig .tc := ⟨.hbm, 273, rfl⟩
abbrev main_v228 : Ref sig .tc := ⟨.hbm, 274, rfl⟩
abbrev main_v229 : Ref sig .tc := ⟨.hbm, 275, rfl⟩
abbrev main_v230 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_v242 : Ref sig .tc := ⟨.hbm, 288, rfl⟩
abbrev main_v243 : Ref sig .tc := ⟨.hbm, 289, rfl⟩
abbrev main_v244 : Ref sig .tc := ⟨.hbm, 290, rfl⟩
abbrev main_v245 : Ref sig .tc := ⟨.hbm, 291, rfl⟩
abbrev main_v246 : Ref sig .tc := ⟨.hbm, 292, rfl⟩
abbrev main_v247 : Ref sig .tc := ⟨.hbm, 293, rfl⟩
abbrev main_v248 : Ref sig .tc := ⟨.hbm, 294, rfl⟩
abbrev main_v249 : Ref sig .tc := ⟨.hbm, 295, rfl⟩
abbrev main_v250 : Ref sig .tc := ⟨.hbm, 296, rfl⟩
abbrev main_v251 : Ref sig .tc := ⟨.hbm, 297, rfl⟩
abbrev main_v252 : Ref sig .tc := ⟨.hbm, 298, rfl⟩
abbrev main_v253 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_v257 : Ref sig .tc := ⟨.hbm, 303, rfl⟩
abbrev main_v258 : Ref sig .tc := ⟨.hbm, 304, rfl⟩
abbrev main_v259 : Ref sig .tc := ⟨.hbm, 305, rfl⟩
abbrev main_v260 : Ref sig .tc := ⟨.hbm, 306, rfl⟩
abbrev main_v261 : Ref sig .tc := ⟨.hbm, 307, rfl⟩
abbrev main_v262 : Ref sig .tc := ⟨.hbm, 308, rfl⟩
abbrev main_v263 : Ref sig .tc := ⟨.hbm, 309, rfl⟩
abbrev main_v264 : Ref sig .tc := ⟨.hbm, 310, rfl⟩
abbrev main_v265 : Ref sig .tc := ⟨.hbm, 311, rfl⟩
abbrev main_v266 : Ref sig .tc := ⟨.hbm, 312, rfl⟩
abbrev main_v267 : Ref sig .tc := ⟨.hbm, 313, rfl⟩
abbrev main_v268 : Ref sig .tc := ⟨.hbm, 314, rfl⟩
abbrev main_v269 : Ref sig .tc := ⟨.hbm, 315, rfl⟩
abbrev main_v270 : Ref sig .tc := ⟨.hbm, 316, rfl⟩
abbrev main_v271 : Ref sig .tc := ⟨.hbm, 317, rfl⟩
abbrev main_v272 : Ref sig .tc := ⟨.hbm, 318, rfl⟩
abbrev main_v273 : Ref sig .tc := ⟨.hbm, 319, rfl⟩
abbrev main_v274 : Ref sig .tc := ⟨.hbm, 320, rfl⟩
abbrev main_v275 : Ref sig .tc := ⟨.hbm, 321, rfl⟩
abbrev main_v276 : Ref sig .tc := ⟨.hbm, 322, rfl⟩
abbrev main_v277 : Ref sig .tc := ⟨.hbm, 323, rfl⟩
abbrev main_v278 : Ref sig .tc := ⟨.hbm, 324, rfl⟩
abbrev main_v279 : Ref sig .tc := ⟨.hbm, 325, rfl⟩
abbrev main_v280 : Ref sig .tc := ⟨.hbm, 326, rfl⟩
abbrev main_v281 : Ref sig .tc := ⟨.hbm, 327, rfl⟩
abbrev main_v282 : Ref sig .tc := ⟨.hbm, 328, rfl⟩
abbrev main_call4_cst : Ref sig .tc := ⟨.hbm, 329, rfl⟩
abbrev main_call4_v0 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_call5_cst : Ref sig .tc := ⟨.hbm, 338, rfl⟩
abbrev main_call5_v0 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_v305 : Ref sig .tc := ⟨.hbm, 355, rfl⟩
abbrev main_v306 : Ref sig .tc := ⟨.hbm, 356, rfl⟩

abbrev nD : Nat := 1
abbrev τ : Topo := Topo.v7x

variable {F : FTy → Type} [FloatOps F]
-- ==== Proof.Tok.lean ====
/-
  The observation box in plain terms. A sample is a row of tokens; each token is three words, a place, a layer and a value.
  `boxVal` is what one column of the box holds after the first `n` tokens of a sample: the value of the last valid token that
  names the column, and zero where none does. Below it, what the kernel's sixteen-lane store does to a block of eight samples:
  two tokens' steps at once.
-/
module

public import proofs.«01_k».proof.Defs
public import Idealize.ShloMosaic.Lib.ValueIdx

@[expose] public section

noncomputable section

namespace Cert.Tok

open Idealize.ShloMosaic

/-! ## One token -/

/-- The word 255 stands for nothing and is read as 0. -/
def mp (v : BitVec 32) : BitVec 32 := Scalar.select (IntOp.cmpi .eq v 255#32) 0#32 v
/-- The token's x coordinate: the high four bits of the place byte. -/
def tx (o : BitVec 32) : BitVec 32 := IntOp.andi (IntOp.shrsi .vector (mp o) 4#32) 15#32
/-- The token's y coordinate: the low four bits. -/
def ty (o : BitVec 32) : BitVec 32 := IntOp.andi (mp o) 15#32
/-- Whether the token is inside the 11 by 11 box and its layer one of the 24. -/
def tok (o a : BitVec 32) : BitVec 1 :=
  IntOp.andi (IntOp.andi (IntOp.cmpi .slt (tx o) 11#32) (IntOp.cmpi .slt (ty o) 11#32)) (IntOp.cmpi .slt (mp a) 24#32)
/-- The column the token is stored at: layer times 128 plus 11 x plus y; 0 if the token is not valid. -/
def tcol (o a : BitVec 32) : BitVec 32 :=
  Scalar.select (tok o a) (IntOp.addi (IntOp.addi (IntOp.muli (mp a) 128#32) (IntOp.muli (tx o) 11#32)) (ty o)) 0#32

/-- A byte's number as the token reads it. -/
def mpN (n : ℕ) : ℕ := if n = 255 then 0 else n

theorem mp_byte : ∀ n : Fin 256, mp (BitVec.ofNat 32 n.val) = BitVec.ofNat 32 (mpN n.val) := by decide +kernel
theorem tx_byte : ∀ n : Fin 256, tx (BitVec.ofNat 32 n.val) = BitVec.ofNat 32 (mpN n.val / 16) := by decide +kernel
theorem ty_byte : ∀ n : Fin 256, ty (BitVec.ofNat 32 n.val) = BitVec.ofNat 32 (mpN n.val % 16) := by decide +kernel

theorem mpN_lt {n : ℕ} (h : n < 256) : mpN n < 256 := by unfold mpN; split <;> omega

/-- A small word is below another, signed, just when their numbers are. -/
theorem slt_small {a b : ℕ} (ha : a < 2 ^ 31) (hb : b < 2 ^ 31) :
    IntOp.cmpi .slt (BitVec.ofNat 32 a) (BitVec.ofNat 32 b) = if a < b then 1#1 else 0#1 := by
  have h : (BitVec.ofNat 32 a).slt (BitVec.ofNat 32 b) = decide (a < b) := by
    rw [BitVec.slt_eq_decide, BitVec.toInt_ofNat', BitVec.toInt_ofNat']
    rw [Int.bmod_eq_of_le (by omega) (by omega), Int.bmod_eq_of_le (by omega) (by omega)]
    simp
  show BitVec.ofBool _ = _
  simp only [h]
  by_cases hab : a < b <;> simp [hab]

/-- Which tokens are valid, by numbers: for a place byte `n` and a layer byte `m`. -/
def okN (n m : ℕ) : Prop := mpN n / 16 < 11 ∧ mpN n % 16 < 11 ∧ mpN m < 24
instance (n m : ℕ) : Decidable (okN n m) := inferInstanceAs (Decidable (_ ∧ _ ∧ _))

theorem tok_byte {n m : ℕ} (hn : n < 256) (hm : m < 256) :
    tok (BitVec.ofNat 32 n) (BitVec.ofNat 32 m) = if okN n m then 1#1 else 0#1 := by
  have hn' := mpN_lt hn
  have hm' := mpN_lt hm
  unfold tok
  rw [tx_byte ⟨n, hn⟩, ty_byte ⟨n, hn⟩, mp_byte ⟨m, hm⟩]
  simp only
  rw [slt_small (by omega) (by omega), slt_small (by omega) (by omega), slt_small (by omega) (by omega)]
  unfold okN
  by_cases h1 : mpN n / 16 < 11 <;> by_cases h2 : mpN n % 16 < 11 <;> by_cases h3 : mpN m < 24 <;> simp [h1, h2, h3, IntOp.andi]

theorem tcol_byte {n m : ℕ} (hn : n < 256) (hm : m < 256) :
    (tcol (BitVec.ofNat 32 n) (BitVec.ofNat 32 m)).toNat =
      if okN n m then mpN m * 128 + mpN n / 16 * 11 + mpN n % 16 else 0 := by
  have hn' := mpN_lt hn
  have hm' := mpN_lt hm
  unfold tcol
  rw [tok_byte hn hm, tx_byte ⟨n, hn⟩, ty_byte ⟨n, hn⟩, mp_byte ⟨m, hm⟩]
  by_cases h : okN n m
  · rw [if_pos h, if_pos h]
    unfold okN at h
    show (IntOp.addi (IntOp.addi (IntOp.muli _ _) (IntOp.muli _ _)) _).toNat = _
    simp only [IntOp.addi, IntOp.muli, BitVec.toNat_add, BitVec.toNat_mul, BitVec.toNat_ofNat]
    omega
  · rw [if_neg h, if_neg h]; rfl

theorem okN_col_lt {n m : ℕ} (h : okN n m) : mpN m * 128 + mpN n / 16 * 11 + mpN n % 16 < 3072 := by
  unfold okN at h; omega

/-- A word below 256, signed, is a byte's number. -/
theorem byte_of_toNat {v : BitVec 32} (h : v.toNat < 256) : v = BitVec.ofNat 32 v.toNat := by simp

/-- Whatever two bytes a token is made of, its column is one of the 3072. -/
theorem tcol_lt {o a : BitVec 32} (ho : o.toNat < 256) (ha : a.toNat < 256) : (tcol o a).toNat < 3072 := by
  have e1 := byte_of_toNat ho
  have e2 := byte_of_toNat ha
  rw [e1, e2, tcol_byte ho ha]
  split
  · exact okN_col_lt ‹_›
  · omega

/-! ## A sample's box, token by token -/

variable {F : FTy → Type} [FloatOps F]

/-- The float zero the box starts from. -/
def zf : F .f32 := Scalar.ofBits .f32 0x00000000#32

/-- Whether token `(o, a)` is stored at column `c`. -/
def hit (o a : BitVec 32) (c : ℕ) : Prop := tok o a = 1 ∧ (tcol o a).toNat = c
instance (o a : BitVec 32) (c : ℕ) : Decidable (hit o a c) := inferInstanceAs (Decidable (_ ∧ _))

/-- Column `c` of a sample's box after its first `n` tokens, the words of token `t` being `w t 0`, `w t 1`, `w t 2`. -/
def boxVal (w : ℕ → ℕ → BitVec 32) (c : ℕ) : ℕ → F .f32
  | 0 => zf
  | n + 1 => if hit (w n 0) (w n 1) c then FloatOps.sitofp .f32 (mp (w n 2)) else boxVal w c n

theorem boxVal_zero (w : ℕ → ℕ → BitVec 32) (c : ℕ) : boxVal (F := F) w c 0 = zf := rfl
theorem boxVal_succ (w : ℕ → ℕ → BitVec 32) (c n : ℕ) :
    boxVal (F := F) w c (n + 1) = if hit (w n 0) (w n 1) c then FloatOps.sitofp .f32 (mp (w n 2)) else boxVal w c n := rfl

/-- The first `n` tokens' words decide the box after them. -/
theorem boxVal_congr {w w' : ℕ → ℕ → BitVec 32} (c : ℕ) : ∀ n : ℕ, (∀ t, t < n → ∀ k, k < 3 → w t k = w' t k) →
    boxVal (F := F) w c n = boxVal w' c n
  | 0, _ => rfl
  | n + 1, h => by
    rw [boxVal_succ, boxVal_succ, boxVal_congr c n fun t ht => h t (by omega), h n (by omega) 0 (by omega), h n (by omega) 1 (by omega),
      h n (by omega) 2 (by omega)]

/-! ## Sixteen lanes: eight samples by two tokens -/

/-- A fold of conditional overwrites, read at an index. -/
theorem foldl_at {ι κ α : Type} (P : κ → Prop) [DecidablePred P] (H : κ → ι → Prop) [∀ k, DecidablePred (H k)] (v : κ → α) (j : ι) :
    ∀ (l : List κ) (f : ι → α),
      (l.foldl (fun g k => if P k then (fun j => if H k j then v k else g j) else g) f) j
        = l.foldl (fun a k => if P k ∧ H k j then v k else a) (f j)
  | [], _ => rfl
  | k :: l, f => by
    rw [List.foldl_cons, List.foldl_cons, foldl_at P H v j l]
    congr 1
    by_cases hP : P k <;> by_cases hH : H k j <;> simp [hP, hH]

/-- An indexed store without adding, read at an index: the lanes in ascending order, each that names the index overwriting. -/
theorem storeIdx_at {s : Shape} {e : EltTy} {d : Fin 1 → ℕ} (f : Vec F s e) (idxs : Fin s.rank → IVec ⟨1, d⟩ 32) (v : Vec F ⟨1, d⟩ e)
    (mask : IVec ⟨1, d⟩ 1) (h : ∀ a x, (idxs a x).toNat < s.size a) (j : s.Idx) :
    storeIdx f idxs v mask false h j = (List.finRange (d 0)).foldl (fun a k =>
      if mask (Shape.ofLane k) = 1 ∧ ∀ a, (j a).val = (idxAt idxs h (Shape.ofLane k) a).val then v (Shape.ofLane k) else a) (f j) := by
  have e := foldl_at (fun k => mask (Shape.ofLane k) = 1) (fun k (j : s.Idx) => ∀ a, (j a).val = (idxAt idxs h (Shape.ofLane k) a).val)
    (fun k => v (Shape.ofLane k)) j (List.finRange (d 0)) f
  refine Eq.trans ?_ e
  simp only [storeIdx, Bool.false_eq_true, if_false]

/-- Of sixteen lanes only lanes `r` and `r + 8` can name row `r`, so the fold is those two lanes' steps, `r` first. -/
theorem foldl_two {α : Type} (r : Fin 8) (H : Fin 16 → Prop) [DecidablePred H] (v : Fin 16 → α) (a : α)
    (hH : ∀ k, H k → k.val % 8 = r.val) :
    (List.finRange 16).foldl (fun a k => if H k then v k else a) a =
      if H (Fin.natAdd 8 r) then v (Fin.natAdd 8 r) else if H (Fin.castAdd 8 r) then v (Fin.castAdd 8 r) else a := by
  have key : ∀ (l : List (Fin 16)) (a : α), (∀ k ∈ l, ¬ H k) → l.foldl (fun a k => if H k then v k else a) a = a := by
    intro l
    induction l with
    | nil => intros; rfl
    | cons k l ih =>
      intro a h
      rw [List.foldl_cons, if_neg (h k (by simp)), ih a fun k hk => h k (by simp [hk])]
  have hs : ∀ r : Fin 8, ∃ l1 l2 l3, List.finRange 16 = l1 ++ [Fin.castAdd 8 r] ++ l2 ++ [Fin.natAdd 8 r] ++ l3 ∧
      ∀ k ∈ l1 ++ l2 ++ l3, k.val % 8 ≠ r.val := by
    intro r
    refine ⟨(List.finRange 16).take r.val, ((List.finRange 16).drop (r.val + 1)).take 7, (List.finRange 16).drop (r.val + 9), ?_⟩
    revert r
    decide +kernel
  obtain ⟨l1, l2, l3, he, hn⟩ := hs r
  have hn' : ∀ k ∈ l1 ++ l2 ++ l3, ¬ H k := fun k hk h => hn k hk (hH k h)
  simp only [List.mem_append] at hn'
  rw [he]
  simp only [List.foldl_append, List.foldl_cons, List.foldl_nil]
  rw [key l1 a fun k hk => hn' k (Or.inl (Or.inl hk)), key l3 _ fun k hk => hn' k (Or.inr hk)]
  rw [key l2 _ fun k hk => hn' k (Or.inl (Or.inr hk))]

end Cert.Tok
-- ==== Proof.HostEq.lean ====
/-
  The program is its host lines around the two calls.
-/
module

public import proofs.«01_k».proof.Proof.Host

@[expose] public section

set_option maxRecDepth 16384

noncomputable section

namespace Cert.Kernel.Host

open Cert.Kernel Cert.Kernel.Gen Idealize.ShloMosaic Idealize.ShloMosaic.TcCoe Idealize.SL.Sem Idealize.ShloMosaic.StableHlo

variable {F : FTy → Type} [FloatOps F]

theorem part0_eq (d : Dev nD) : main_part0 (F := F) d
    = ((hlo rfl tr (fun _ => .ret (⟨⟩ : PUnit)) : Prog (TpuEff nD τ sig (Elt F) (SparseCore.Sig (Pipeline.Sig Λ₀ (Fin 1) fun p => (pcfgs (F := F) p).Adm) 1) .tc) PUnit)
        >>= fun _ => (sc (F := F)).run d 0 >>= fun _ => seq L0) := rfl
theorem part1_eq (d : Dev nD) : main_part1 (F := F) d = seq L1 := rfl
theorem part2_eq (d : Dev nD) : main_part2 (F := F) d = seq L2 := rfl

/-- The TensorCore call and the slices after it. -/
def tail : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ()) >>= fun _ => seq L4

theorem part3_eq (d : Dev nD) : main_part3 (F := F) d = seqK L3 tail := rfl

end Cert.Kernel.Host

end
-- ==== Proof.Pre.lean ====
/-
  The precondition, read: every observation is a byte.
-/
module

public import proofs.«01_k».proof.Proof.Gen.Pre_in_range
public import Idealize.ShloMosaic.Lib.ReduceAll

@[expose] public section

noncomputable section

namespace Cert.Pre_in_range

open Idealize.ShloMosaic

/-- A word between 0 and 255, as signed comparisons see it. -/
theorem byte_of_bits (v : BitVec 32) (e : IntOp.andi (IntOp.cmpi .sge v 0#32) (IntOp.cmpi .slt v 256#32) = 1#1) : v.toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition says every observation is a byte. -/
theorem byte_of_pre [Facts] {F : FTy → Type} [FloatOps F] (a0 : IVec S4096x200x3 32) (a1 : FVec F S128x24x5x5 .f32) (a2 : FVec F S128 .f32)
    (a3 : FVec F S128x128x3x3 .f32) (a4 : FVec F S128 .f32) (a5 : FVec F S256x128 .f32) (a6 : FVec F S256 .f32) (a7 : FVec F S256x24 .f32)
    (a8 : FVec F S256 .f32) (a9 : FVec F S9x512 .f32) (a10 : FVec F S9 .f32) (a11 : FVec F S256x512 .f32) (a12 : FVec F S256 .f32)
    (a13 : FVec F S1x512 .f32) (a14 : FVec F S1 .f32) (a15 : FVec F S1x24x1x1 .f32)
    (h : fn a0 a1 a2 a3 a4 a5 a6 a7 a8 a9 a10 a11 a12 a13 a14 a15 = fun _ => 1#1) (i : S4096x200x3.Idx) : (a0 i).toNat < 256 := by
  have hs : Subsingleton S_.Idx := ⟨fun a b => funext fun k => k.elim0⟩
  have e := congrFun h (fun k : Fin 0 => k.elim0)
  unfold fn at e
  exact byte_of_bits _ (Host.reduce_andi_all _ _ _ _ _ e i)

end Cert.Pre_in_range

end
-- ==== Proof.ILane.lean ====
/-
  The sixteen lanes of one trip of the kernel's token loop: lane `l` handles sample `l % 8` of the group and token
  `2 t + l / 8`. What the lanes' index vectors name, that the loads and the store stay inside their buffers, and that the store
  turns the box after `2 t` tokens into the box after `2 t + 2`.
-/
module

public import proofs.«01_k».proof.Proof.Tok
public import proofs.«01_k».proof.Proof.Gen.KernelIdeal.Skeleton

@[expose] public section

set_option maxRecDepth 16384

noncomputable section

namespace Cert.KernelIdeal.Lane

open Cert.KernelIdeal Cert.KernelIdeal.Gen Cert.Tok
open Idealize.ShloMosaic Idealize.ShloMosaic.ValueIdx

variable {F : FTy → Type} [FloatOps F]

/-- A lane's number. -/
abbrev ln (x : S16.Idx) : ℕ := (x 0).val
theorem ln_lt (x : S16.Idx) : ln x < 16 := (x 0).isLt

theorem v5_at (x : S16.Idx) : k0_pay25 x = BitVec.ofNat 32 (ln x % 8) := by
  have h : ∀ n : Fin 16, IntOp.andi (BitVec.ofNat 32 (0 * 16 + n.val)) 7#32 = BitVec.ofNat 32 (n.val % 8) := by decide +kernel
  exact h (x 0)
theorem v7_at (x : S16.Idx) : k0_pay26 x = BitVec.ofNat 32 (ln x / 8) := by
  have h : ∀ n : Fin 16, IntOp.shrsi .vector (BitVec.ofNat 32 (0 * 16 + n.val)) 3#32 = BitVec.ofNat 32 (n.val / 8) := by decide +kernel
  exact h (x 0)
theorem v9_at (x : S16.Idx) : k0_pay27 x = 0#32 := by
  show IntOp.muli _ 0#32 = 0#32
  simp [IntOp.muli]

/-- The index vectors of one trip, for any words that say the trip and the group. -/
structure Lanes (t g : ℕ) (v5 v7 v9 v57 v59 v62 v65 : IVec S16 32) : Prop where
  h5 : ∀ x, (v5 x).toNat = ln x % 8
  h9 : ∀ x, (v9 x).toNat = 0
  h57 : ∀ x, (v57 x).toNat = 2 * t + ln x / 8
  h59 : ∀ x, (v59 x).toNat = 8 * g + ln x % 8
  h62 : ∀ x, (v62 x).toNat = 1
  h65 : ∀ x, (v65 x).toNat = 2

/-- The trip's index vectors as the program computes them. -/
theorem lanes (t : Fin k0_t3_loop.trips) (g : ℕ) (w : BitVec 32) (hw : w.toNat = 8 * g) (hg : g < 16) :
    Lanes t.val g k0_pay25 k0_pay26 k0_pay27 (k0_pay1 k0_pay26 0#32 1#32 t) (k0_pay2 k0_pay25 w) (k0_pay3 k0_pay27) (k0_pay4 k0_pay27) := by
  have ht : t.val < 100 := t.isLt
  refine ⟨fun x => ?_, fun x => ?_, fun x => ?_, fun x => ?_, fun x => ?_, fun x => ?_⟩
  · rw [v5_at, BitVec.toNat_ofNat]; have := ln_lt x; omega
  · rw [v9_at]; rfl
  · show (IntOp.addi (k0_pay26 x) (Scalar.muli 2#32 (Scf.iv 0#32 1#32 t))).toNat = _
    rw [v7_at]
    have := ln_lt x
    simp only [Scf.iv, Scalar.muli, IntOp.muli, IntOp.addi, BitVec.toNat_add, BitVec.toNat_mul, BitVec.toNat_ofNat]
    omega
  · show (IntOp.addi (k0_pay25 x) w).toNat = _
    rw [v5_at]
    have := ln_lt x
    simp only [IntOp.addi, BitVec.toNat_add, BitVec.toNat_ofNat]
    omega
  · show (IntOp.addi (k0_pay27 x) 1#32).toNat = _
    rw [v9_at]; rfl
  · show (IntOp.addi (k0_pay27 x) 2#32).toNat = _
    rw [v9_at]; rfl

/-- Word `k` of token `t` of sample `b`, out of a tile's block of observations. -/
def wv (f4 : S3x200x128.Idx → BitVec 32) (b t k : ℕ) : BitVec 32 :=
  if h : k < 3 ∧ t < 200 ∧ b < 128 then f4 (ix3 ⟨k, h.1⟩ ⟨t, h.2.1⟩ ⟨b, h.2.2⟩) else 0#32

theorem wv_lt {f4 : S3x200x128.Idx → BitVec 32} (hf : ∀ i, (f4 i).toNat < 256) (b t k : ℕ) : (wv f4 b t k).toNat < 256 := by
  unfold wv; split
  · exact hf _
  · decide

variable {t g : ℕ} {v5 v7 v9 v57 v59 v62 v65 : IVec S16 32}

/-- The three loads are inside the block of observations. -/
theorem chk_load (L : Lanes t g v5 v7 v9 v57 v59 v62 v65) (ht : t < 100) (hg : g < 16) (v : IVec S16 32) (k : ℕ) (hk : k < 3)
    (hv : ∀ x, (v x).toNat = k) : ∀ a x, ((![v, v57, v59] : Fin 3 → IVec S16 32) a x).toNat < S3x200x128.size a := by
  intro a x
  have := ln_lt x
  fin_cases a
  · show (v x).toNat < 3; rw [hv]; exact hk
  · show (v57 x).toNat < 200; rw [L.h57]; omega
  · show (v59 x).toNat < 128; rw [L.h59]; omega

/-- What a load reads at a lane: word `k` of the lane's token and sample. -/
theorem load_at (L : Lanes t g v5 v7 v9 v57 v59 v62 v65) (ht : t < 100) (hg : g < 16) (v : IVec S16 32) (k : ℕ) (hk : k < 3)
    (hv : ∀ x, (v x).toNat = k) (f4 : Vec F S3x200x128 .i32) (h) (x : S16.Idx) :
    loadIdx (F := F) (e := .i32) f4 (![v, v57, v59] : Fin 3 → IVec S16 32) h x = wv f4 (8 * g + ln x % 8) (2 * t + ln x / 8) k := by
  have := ln_lt x
  unfold wv
  rw [dif_pos ⟨hk, by omega, by omega⟩]
  unfold loadIdx
  congr 1
  funext a
  refine Fin.ext ?_
  fin_cases a
  · exact hv x
  · exact L.h57 x
  · exact L.h59 x

/-- The words a trip's loads read, and from them the store's column, value and mask. -/
structure Words (w : ℕ → ℕ → ℕ → BitVec 32) (t g : ℕ) (col : IVec S16 32) (val : FVec F S16 .f32) (mask : IVec S16 1) : Prop where
  hcol : ∀ x, col x = tcol (w (8 * g + ln x % 8) (2 * t + ln x / 8) 0) (w (8 * g + ln x % 8) (2 * t + ln x / 8) 1)
  hmask : ∀ x, mask x = tok (w (8 * g + ln x % 8) (2 * t + ln x / 8) 0) (w (8 * g + ln x % 8) (2 * t + ln x / 8) 1)
  hval : ∀ x, val x = FloatOps.sitofp .f32 (mp (w (8 * g + ln x % 8) (2 * t + ln x / 8) 2))

theorem words (w : ℕ → ℕ → ℕ → BitVec 32) (t g : ℕ) (v60 v63 v66 : Vec F S16 .i32)
    (h0 : ∀ x, v60 x = w (8 * g + ln x % 8) (2 * t + ln x / 8) 0) (h1 : ∀ x, v63 x = w (8 * g + ln x % 8) (2 * t + ln x / 8) 1)
    (h2 : ∀ x, v66 x = w (8 * g + ln x % 8) (2 * t + ln x / 8) 2) :
    Words w t g (k0_pay23 (k0_pay8 v60) (k0_pay9 v60) (k0_pay10 v60 v63) (k0_pay11 v63)) (k0_pay24 (F := F) (k0_pay7 v66)) (k0_pay10 v60 v63) := by
  refine ⟨fun x => ?_, fun x => ?_, fun x => ?_⟩
  · rw [← h0, ← h1]; rfl
  · rw [← h0, ← h1]; rfl
  · rw [← h2]; rfl

variable {col : IVec S16 32} {val : FVec F S16 .f32} {mask : IVec S16 1} {w : ℕ → ℕ → ℕ → BitVec 32}

/-- The store is inside the half of the box. -/
theorem chk_store (L : Lanes t g v5 v7 v9 v57 v59 v62 v65) (W : Words w t g col val mask) (hw : ∀ b t k, (w b t k).toNat < 256) :
    ∀ a x, ((![v5, col] : Fin 2 → IVec S16 32) a x).toNat < S8x3072.size a := by
  intro a x
  fin_cases a
  · show (v5 x).toNat < 8; rw [L.h5]; omega
  · show (col x).toNat < 3072; rw [W.hcol]; exact tcol_lt (hw _ _ _) (hw _ _ _)

/-- A group's half of the box after `n` tokens: row `r` is sample `8 g + r`. -/
def boxAt (w : ℕ → ℕ → ℕ → BitVec 32) (g n : ℕ) : Vec F S8x3072 .f32 := fun j => boxVal (w (8 * g + (j 0).val)) (j 1).val n

/-- Lane `k` as an index. -/
abbrev lane (k : Fin 16) : S16.Idx := Shape.ofLane (d := ![16]) k

/-- The sixteen-lane store is two tokens' steps. -/
theorem store_two (L : Lanes t g v5 v7 v9 v57 v59 v62 v65) (W : Words w t g col val mask)
    (h : ∀ a x, ((![v5, col] : Fin 2 → IVec S16 32) a x).toNat < S8x3072.size a) :
    storeIdx (F := F) (e := .f32) (boxAt w g (2 * t)) (![v5, col] : Fin 2 → IVec S16 32) val mask false h = boxAt w g (2 * (t + 1)) := by
  funext j
  have hj0 : (j 0).val < 8 := (j 0).isLt
  have hx : ∀ k : Fin 16, ln (lane k) = k.val := fun k => rfl
  rw [storeIdx_at]
  have hH : ∀ k : Fin 16, (mask (lane k) = 1 ∧
      ∀ a, (j a).val = (idxAt (s := S8x3072) (t := S16) (![v5, col] : Fin 2 → IVec S16 32) h (lane k) a).val) ↔
      k.val % 8 = (j 0).val ∧ hit (w (8 * g + k.val % 8) (2 * t + k.val / 8) 0) (w (8 * g + k.val % 8) (2 * t + k.val / 8) 1) (j 1).val := by
    intro k
    have e0 : (idxAt (s := S8x3072) (t := S16) (![v5, col] : Fin 2 → IVec S16 32) h (lane k) 0).val = k.val % 8 := L.h5 _
    have e1 : (idxAt (s := S8x3072) (t := S16) (![v5, col] : Fin 2 → IVec S16 32) h (lane k) 1).val = (col (lane k)).toNat := rfl
    rw [show (∀ a, (j a).val = (idxAt (s := S8x3072) (t := S16) (![v5, col] : Fin 2 → IVec S16 32) h (lane k) a).val) ↔ _ from
      Fin.forall_fin_two (p := fun a => (j a).val = (idxAt (s := S8x3072) (t := S16) (![v5, col] : Fin 2 → IVec S16 32) h (lane k) a).val)]
    rw [e0, e1, W.hcol, W.hmask, hx]
    unfold hit
    constructor
    · rintro ⟨a, b, c⟩; exact ⟨b.symm, a, c.symm⟩
    · rintro ⟨a, b, c⟩; exact ⟨b, a.symm, c.symm⟩
  refine (foldl_two (⟨(j 0).val, hj0⟩ : Fin 8) (fun k : Fin 16 => mask (lane k) = 1 ∧
      ∀ a, (j a).val = (idxAt (s := S8x3072) (t := S16) (![v5, col] : Fin 2 → IVec S16 32) h (lane k) a).val) (fun k => val (lane k)) _
      (fun k hk => ((hH k).mp hk).1)).trans ?_
  have c8 : (Fin.natAdd 8 (⟨(j 0).val, hj0⟩ : Fin 8)).val = 8 + (j 0).val := rfl
  have c0 : (Fin.castAdd 8 (⟨(j 0).val, hj0⟩ : Fin 8)).val = (j 0).val := rfl
  have m8 : (8 + (j 0).val) % 8 = (j 0).val := by omega
  have d8 : (8 + (j 0).val) / 8 = 1 := by omega
  have m0 : (j 0).val % 8 = (j 0).val := by omega
  have d0 : (j 0).val / 8 = 0 := by omega
  simp only [hH, W.hval, hx, c8, c0, m8, d8, m0, d0, Nat.add_zero, true_and]
  show _ = boxVal (w (8 * g + (j 0).val)) (j 1).val (2 * t + 1 + 1)
  rw [boxVal_succ, boxVal_succ]
  rfl

end Cert.KernelIdeal.Lane
-- ==== Proof.ISetup.lean ====
/-
  The program as the launch theorem sees it, and the names the proof's modules share: the resource algebra (the handshakes'
  rounds beside the staging cells' rounds and the transfers' counters), the threads, the arrays and the memrefs of a tile.
-/
module

public import proofs.«01_k».proof.Proof.ILane
public import proofs.«01_k».proof.Proof.Gen.KernelIdeal.Launch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds, the staging cells' rounds, and both beside the transfers' counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH 𝕄 := embL
def EP : Emb UP 𝕄 :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance
abbrev EC : UEmb Counters 𝕄 := countersEmb

/-- The observations as the tiles read them, and the boxes they write. -/
abbrev obLoc (d : Dev nD) : Loc nD τ sig := (SparseCore.T d).loc main_v0
abbrev bxLoc (d : Dev nD) : Loc nD τ sig := (SparseCore.T d).loc main_v1

abbrev obM : Memref sig .scVector .hbm S3x200x4096 .i32 := Memref.whole main_v0_scv
abbrev bxM : Memref sig .scVector .hbm S4096x3072 .f32 := Memref.whole main_v1_scv
/-- A tile's block of observations, and its box buffer of two halves. -/
abbrev ovM : Memref sig .scVector .vmem S3x200x128 .i32 := Memref.whole cc0_scratch0
abbrev bvM : Memref sig .scVector .vmem S2x8x3072 .f32 := Memref.whole cc0_scratch1
/-- The two halves of the box buffer. -/
abbrev h0M : Memref sig .scVector .vmem S8x3072 .f32 :=
  (bvM.slice (Rect.unit (s := S2x8x3072) ![0, 0, 0] S1x8x3072.size inb_S2x8x3072_S1x8x3072_0_0_0) (fun _ => rfl)).squeeze S8x3072 squeezes_S1x8x3072_S8x3072
abbrev h1M : Memref sig .scVector .vmem S8x3072 .f32 :=
  (bvM.slice (Rect.unit (s := S2x8x3072) ![1, 0, 0] S1x8x3072.size inb_S2x8x3072_S1x8x3072_1_0_0) (fun _ => rfl)).squeeze S8x3072 squeezes_S1x8x3072_S8x3072

abbrev cV (L : grid0.Coords) : Fin τ.nSC := (L 0).castLE hcore0
abbrev jV (L : grid0.Coords) : Fin τ.nSub := (L 1).castLE hsub0
/-- The tile's thread. -/
abbrev vT (d : Dev nD) (L : grid0.Coords) : Thread nD τ := V d (cV L) (jV L)

/-- The tile's semaphores' cells. -/
abbrev cell0 (d : Dev nD) (L : grid0.Coords) : GSem nD τ sig := (vT d L, .dma cc0_scratch2.sem)
abbrev cell1 (d : Dev nD) (L : grid0.Coords) : GSem nD τ sig := (vT d L, .dma cc0_scratch3.sem)
abbrev cellR (d : Dev nD) (L : grid0.Coords) : GSem nD τ sig := (vT d L, .dma cc0_scoped0.sem)

/-- The first sample of a tile. -/
abbrev base (L : grid0.Coords) : ℕ := 256 * (L 1).val + 128 * (L 0).val
theorem base_lt (L : grid0.Coords) : base L + 128 ≤ 4096 := by
  have h0 : (L 0).val < 2 := (L 0).isLt
  have h1 : (L 1).val < 16 := (L 1).isLt
  unfold base; omega

/-- Word `k` of token `t` of sample `b`, out of all the observations. -/
def ow (fo : S3x200x4096.Idx → BitVec 32) (b t k : ℕ) : BitVec 32 :=
  if h : k < 3 ∧ t < 200 ∧ b < 4096 then fo (ValueIdx.ix3 ⟨k, h.1⟩ ⟨t, h.2.1⟩ ⟨b, h.2.2⟩) else 0#32

/-- The boxes of all samples after all their tokens: what the SparseCore call leaves. -/
def Tgt (fo : S3x200x4096.Idx → BitVec 32) : S4096x3072.Idx → F .f32 := fun i => boxVal (ow fo (i 0).val) (i 1).val 200

/-- The elements of half `p` of the box buffer. -/
def Hs (p : ℕ) : Finset S2x8x3072.Idx := Finset.univ.filter fun i => (i 0).val = p
theorem mem_Hs {p : ℕ} {i : S2x8x3072.Idx} : i ∈ Hs p ↔ (i 0).val = p := by simp [Hs]

/-- The columns of the observations a tile fetches. -/
def Os (L : grid0.Coords) : Finset S3x200x4096.Idx := Finset.univ.filter fun i => base L ≤ (i 2).val ∧ (i 2).val < base L + 128
theorem mem_Os {L : grid0.Coords} {i : S3x200x4096.Idx} : i ∈ Os L ↔ base L ≤ (i 2).val ∧ (i 2).val < base L + 128 := by simp [Os]

/-- The rows of the boxes a tile writes for group `g`, and all it writes. -/
def Gs (L : grid0.Coords) (g : ℕ) : Finset S4096x3072.Idx :=
  Finset.univ.filter fun i => base L + 8 * g ≤ (i 0).val ∧ (i 0).val < base L + 8 * g + 8
theorem mem_Gs {L : grid0.Coords} {g : ℕ} {i : S4096x3072.Idx} : i ∈ Gs L g ↔ base L + 8 * g ≤ (i 0).val ∧ (i 0).val < base L + 8 * g + 8 := by simp [Gs]
def Rs (L : grid0.Coords) : Finset S4096x3072.Idx := Finset.univ.filter fun i => base L ≤ (i 0).val ∧ (i 0).val < base L + 128
theorem mem_Rs {L : grid0.Coords} {i : S4096x3072.Idx} : i ∈ Rs L ↔ base L ≤ (i 0).val ∧ (i 0).val < base L + 128 := by simp [Rs]

/-- The memrefs' elements as these sets. -/
theorem mem_half {p : ℕ} {inb} (i : S2x8x3072.Idx) :
    i ∈ ((bvM.slice (Rect.unit (s := S2x8x3072) ![p, 0, 0] S1x8x3072.size inb) (fun _ => rfl)).squeeze S8x3072 squeezes_S1x8x3072_S8x3072).view.set ↔ i ∈ Hs p := by
  have e : ((bvM.slice (Rect.unit (s := S2x8x3072) ![p, 0, 0] S1x8x3072.size inb) (fun _ => rfl)).squeeze S8x3072 squeezes_S1x8x3072_S8x3072).view.set
      = (Rect.unit (s := S2x8x3072) ![p, 0, 0] S1x8x3072.size inb).set := (View.set_reshape _ _).trans (View.set_slice_whole _ _)
  refine (iff_of_eq (congrArg (i ∈ ·) e)).trans ?_
  rw [Rect.mem_set_unit, mem_Hs]
  have h1 : (i 1).val < 8 := (i 1).isLt
  have h2 : (i 2).val < 3072 := (i 2).isLt
  constructor
  · intro h; have := h 0; simp at this; omega
  · intro h a; fin_cases a <;> simp <;> omega
theorem set_h0M : h0M.view.set = Hs 0 := Finset.ext fun i => mem_half i
theorem set_h1M : h1M.view.set = Hs 1 := Finset.ext fun i => mem_half i
theorem emb_whole_rect {s : Shape} (x : s.Idx) : (Rect.whole s).emb x = x :=
  funext fun a => Fin.ext (by show 0 + 1 * (x a).val = _; omega)
theorem set_access_whole {κ : Kind} {sp : Space} {s : Shape} {e : EltTy} (m : Memref sig κ sp s e) : (m.access (.whole s)).set = m.view.set := by
  ext i; constructor
  · exact fun h => View.set_slice_subset _ _ h
  · intro h
    obtain ⟨x, -, rfl⟩ := Finset.mem_map.mp h
    refine Finset.mem_map.mpr ⟨x, Finset.mem_univ _, ?_⟩
    show m.view.emb ((Rect.whole s).emb x) = m.view.emb x
    rw [emb_whole_rect]
theorem read_access_whole {κ : Kind} {sp : Space} {s : Shape} {e : EltTy} (m : Memref sig κ sp s e) (f : m.view.ty.Contents (Elt F)) :
    (m.access (.whole s)).read (Elt F) f = m.view.read (Elt F) f := by
  funext x
  show m.view.read (Elt F) f ((Rect.whole s).emb x) = _
  rw [emb_whole_rect]
theorem write_access_whole {κ : Kind} {sp : Space} {s : Shape} {e : EltTy} (m : Memref sig κ sp s e) (f : m.view.ty.Contents (Elt F))
    (w : s.Idx → Elt F e) : m.view.read (Elt F) ((m.access (.whole s)).write (Elt F) f w Finset.univ) = w := by
  rw [← read_access_whole]; exact View.read_write_univ (v := m.access (.whole s)) f w

end Cert.KernelIdeal.Sc
-- ==== Proof.ISteps.lean ====
/-
  The two inner loops of a tile's body: the loop that zeroes a half of the box buffer row by row, and the loop over a group's
  tokens. One lemma serves both halves.
-/
module

public import proofs.«01_k».proof.Proof.ISetup

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## Zeroing a half -/

/-- One row's sixteen lanes zeroed: the row is read and then stored. -/
def zeroRow (o : Fin 3 → ℕ) (h : ∀ a, o a + S1x1x16.size a ≤ S2x8x3072.size a) :
    Prog (TpuEff nD τ sig (Elt F) Λ₀ (.scVector (cV L) (jV L))) PUnit := do
  let _ : Vec F S1x1x16 .f32 ← Prog.lift (.load bvM (Rect.unit (s := S2x8x3072) o S1x1x16.size h).toLoadRect (View.loadsAt_vmem h_S1x1x16))
  Prog.lift (.store bvM (Rect.unit (s := S2x8x3072) o S1x1x16.size h) (shapeCast S1x1x16 (k0_pay28 (F := F)) shapeCasts_S16_S1x1x16) Finset.univ (View.stores_vmem_bits_univ h_S1x1x16 rfl) (.inl rfl))

/-- One trip: the eight rows. -/
def zeroTrip (o : Fin 8 → Fin 3 → ℕ) (h : ∀ r a, o r a + S1x1x16.size a ≤ S2x8x3072.size a) :
    Prog (TpuEff nD τ sig (Elt F) Λ₀ (.scVector (cV L) (jV L))) PUnit := do
  zeroRow L (o 0) (h 0); zeroRow L (o 1) (h 1); zeroRow L (o 2) (h 2); zeroRow L (o 3) (h 3)
  zeroRow L (o 4) (h 4); zeroRow L (o 5) (h 5); zeroRow L (o 6) (h 6); zeroRow L (o 7) (h 7)

/-- Of half `p`, the first `t` sixteens of columns are zero, and of the next sixteen the first `r` rows. -/
def Zd (p t r : ℕ) (f : S2x8x3072.Idx → F .f32) : Prop :=
  ∀ i, (i 0).val = p → ((i 2).val < 16 * t ∨ ((i 2).val < 16 * t + 16 ∧ (i 1).val < r)) → f i = zf

theorem zeroRow_wp (p t r : ℕ) (hp : p < 2) (ht : t < 192) (hr : r < 8) (o : Fin 3 → ℕ) (h) (ho : o = ![p, r, 16 * t]) (Q : PUnit → sProp 𝕄) :
    iprop((∃ f : Buf (Elt F) ((vT d L).loc cc0_scratch1), ⌜Zd p t r f⌝ ∗ (vT d L).loc cc0_scratch1 ↦[Hs p]{fullShare} f)
        ∗ ((∃ f : Buf (Elt F) ((vT d L).loc cc0_scratch1), ⌜Zd p t (r + 1) f⌝ ∗ (vT d L).loc cc0_scratch1 ↦[Hs p]{fullShare} f) -∗ Q ⟨⟩))
      ⊢ wp frame (wpE (defs₀ (F := F)) 𝒱₀ (vT d L) none) Set.univ (zeroRow L o h) Q := by
  subst ho
  have e : (bvM.access (Rect.unit (s := S2x8x3072) ![p, r, 16 * t] S1x1x16.size h)).set
      = (Rect.unit (s := S2x8x3072) ![p, r, 16 * t] S1x1x16.size h).set := View.set_slice_whole _ _
  have hset : (bvM.access (Rect.unit (s := S2x8x3072) ![p, r, 16 * t] S1x1x16.size h)).set ⊆ Hs p := by
    intro i hi
    have hi' : i ∈ (Rect.unit (s := S2x8x3072) ![p, r, 16 * t] S1x1x16.size h).set := (Finset.ext_iff.mp e i).mp hi
    rw [Rect.mem_set_unit] at hi'
    have := hi' 0
    refine mem_Hs.mpr ?_
    simp at this
    omega
  unfold zeroRow
  simp only [Prog.lift, Prog.bind_op, Prog.bind_ret, Prog.pure_eq_ret]
  iintro ⟨⟨%f, %hf, H⟩, HQ⟩
  iapply (wp_load_rect 𝒱₀ (vT d L) none Set.univ (m := bvM) (r := Rect.unit (s := S2x8x3072) ![p, r, 16 * t] S1x1x16.size h) (S := Hs p) hset) $$ H
  iintro H
  iapply (wp_store 𝒱₀ (vT d L) none Set.univ (m := bvM) (r := Rect.unit (s := S2x8x3072) ![p, r, 16 * t] S1x1x16.size h) (Mk := Finset.univ) (S := Hs p) hset) $$ H
  iintro H
  rw [wp_ret]; imodintro
  iapply HQ
  iexists _
  isplitr
  · ipureintro
    show Zd p t (r + 1) ((bvM.access (Rect.unit (s := S2x8x3072) ![p, r, 16 * t] S1x1x16.size h)).write (Elt F) f (shapeCast S1x1x16 (k0_pay28 (F := F)) shapeCasts_S16_S1x1x16) Finset.univ)
    intro i hi0 hi
    by_cases hm : i ∈ (bvM.access (Rect.unit (s := S2x8x3072) ![p, r, 16 * t] S1x1x16.size h)).set
    · obtain ⟨x, -, rfl⟩ := Finset.mem_map.mp hm
      exact View.write_emb_of_mem (v := bvM.access (Rect.unit (s := S2x8x3072) ![p, r, 16 * t] S1x1x16.size h)) f _ (Finset.mem_univ x)
    · refine (View.write_of_not_mem (v := bvM.access (Rect.unit (s := S2x8x3072) ![p, r, 16 * t] S1x1x16.size h)) f _ Finset.univ hm).trans ?_
      refine hf i hi0 ?_
      by_contra hc
      refine hm ?_
      have hx : i ∈ (Rect.unit (s := S2x8x3072) ![p, r, 16 * t] S1x1x16.size h).set := by
        rw [Rect.mem_set_unit]
        have h1 : (i 1).val < 8 := (i 1).isLt
        intro a; fin_cases a <;> simp <;> omega
      exact (Finset.ext_iff.mp e i).mpr hx
  · iexact H

theorem zeroTrip_wp (p t : ℕ) (hp : p < 2) (ht : t < 192) (o : Fin 8 → Fin 3 → ℕ) (h) (ho : ∀ r : Fin 8, o r = ![p, r.val, 16 * t]) (Q : PUnit → sProp 𝕄) :
    iprop((∃ f : Buf (Elt F) ((vT d L).loc cc0_scratch1), ⌜Zd p t 0 f⌝ ∗ (vT d L).loc cc0_scratch1 ↦[Hs p]{fullShare} f)
        ∗ ((∃ f : Buf (Elt F) ((vT d L).loc cc0_scratch1), ⌜Zd p (t + 1) 0 f⌝ ∗ (vT d L).loc cc0_scratch1 ↦[Hs p]{fullShare} f) -∗ Q ⟨⟩))
      ⊢ wp frame (wpE (defs₀ (F := F)) 𝒱₀ (vT d L) none) Set.univ (zeroTrip L o h) Q := by
  unfold zeroTrip
  iintro ⟨H, HQ⟩
  rw [wp_bind]; iapply (zeroRow_wp d L p t 0 hp ht (by omega) (o 0) (h 0) (ho 0)); isplitl [H]; · iexact H
  iintro H
  rw [wp_bind]; iapply (zeroRow_wp d L p t 1 hp ht (by omega) (o 1) (h 1) (ho 1)); isplitl [H]; · iexact H
  iintro H
  rw [wp_bind]; iapply (zeroRow_wp d L p t 2 hp ht (by omega) (o 2) (h 2) (ho 2)); isplitl [H]; · iexact H
  iintro H
  rw [wp_bind]; iapply (zeroRow_wp d L p t 3 hp ht (by omega) (o 3) (h 3) (ho 3)); isplitl [H]; · iexact H
  iintro H
  rw [wp_bind]; iapply (zeroRow_wp d L p t 4 hp ht (by omega) (o 4) (h 4) (ho 4)); isplitl [H]; · iexact H
  iintro H
  rw [wp_bind]; iapply (zeroRow_wp d L p t 5 hp ht (by omega) (o 5) (h 5) (ho 5)); isplitl [H]; · iexact H
  iintro H
  rw [wp_bind]; iapply (zeroRow_wp d L p t 6 hp ht (by omega) (o 6) (h 6) (ho 6)); isplitl [H]; · iexact H
  iintro H
  iapply (zeroRow_wp d L p t 7 hp ht (by omega) (o 7) (h 7) (ho 7)); isplitl [H]; · iexact H
  iintro ⟨%f, %hf, H⟩
  iapply HQ
  iexists f
  isplitr
  · ipureintro
    intro i hi0 hi
    have h1 : (i 1).val < 8 := (i 1).isLt
    exact hf i hi0 (by omega)
  · iexact H

/-! ## The tokens of a group -/

/-- One trip of the token loop, storing into the half `hM`: `w` the group's word. -/
def tokTrip (hM : Memref sig .scVector .vmem S8x3072 .f32) (w : BitVec 32) (t : Fin k0_t3_loop.trips) :
    Prog (TpuEff nD τ sig (Elt F) Λ₀ (.scVector (cV L) (jV L))) PUnit := do
  let ⟨v78, v82, v84, v92, v94⟩ : Σ' (v78 : IVec S16 32) (v82 : IVec S16 32) (v84 : IVec S16 32) (v92 : IVec S16 1), IVec S16 32 ←
    k0_part2 (F := F) L obM (Memref.isWhole_whole _) bxM (Memref.isWhole_whole _) ovM (Memref.isWhole_whole _) bvM (Memref.isWhole_whole _)
      cc0_scratch2 cc0_scratch3 cc0_scoped0 k0_pay25 k0_pay26 k0_pay27 w 0#32 1#32 t
  have v100 : IVec S16 32 := k0_pay23 v82 v84 v92 v94
  have k0_hw4 : k0_chk4 k0_pay25 v100 := (← Prog.lift (TpuEff.assume (k0_chk4 k0_pay25 v100) (k0_chk4.dec k0_pay25 v100))).down
  SparseCore.vectorStoreIdx hM ![k0_pay25, v100] (k0_pay24 (F := F) v78) v92 false (k0_idx4_inb k0_pay25 v100 k0_hw4) (View.stores_vmem_bits_univ h_S8x3072 rfl)
  pure ⟨⟩

/-- After `2 t` tokens of group `g`: the half reads as the box after those tokens, out of the tile's block of observations. -/
def tokInv (hM : Memref sig .scVector .vmem S8x3072 .f32) (f4 : Buf (Elt F) ((vT d L).loc cc0_scratch0)) (g t : ℕ) : sProp 𝕄 :=
  iprop(((vT d L).loc cc0_scratch0 ↦{fullShare} f4)
    ∗ ∃ f : Buf (Elt F) (hM.view.loc (vT d L)), ⌜hM.view.read (Elt F) f = boxAt (wv f4) g (2 * t)⌝ ∗ hM.view.loc (vT d L) ↦[hM.view.set]{fullShare} f)

theorem tokTrip_wp (hM : Memref sig .scVector .vmem S8x3072 .f32) (f4 : Buf (Elt F) ((vT d L).loc cc0_scratch0)) (hf4 : ∀ i, (f4 i : BitVec 32).toNat < 256)
    (w : BitVec 32) (g : ℕ) (hw : w.toNat = 8 * g) (hg : g < 16) (t : Fin k0_t3_loop.trips) :
    tokInv d L hM f4 g t.val
      ⊢ wp frame (wpE (defs₀ (F := F)) 𝒱₀ (vT d L) none) Set.univ (tokTrip L hM w t) fun _ => tokInv d L hM f4 g (t.val + 1) := by
  have ht : t.val < 100 := t.isLt
  have hL := lanes t g w hw hg
  have hc1 : k0_chk1 k0_pay27 (k0_pay1 k0_pay26 0#32 1#32 t) (k0_pay2 k0_pay25 w) := chk_load hL ht hg _ 0 (by omega) hL.h9
  have hc2 : k0_chk2 (k0_pay1 k0_pay26 0#32 1#32 t) (k0_pay2 k0_pay25 w) (k0_pay3 k0_pay27) := chk_load hL ht hg _ 1 (by omega) hL.h62
  have hc3 : k0_chk3 (k0_pay1 k0_pay26 0#32 1#32 t) (k0_pay2 k0_pay25 w) (k0_pay4 k0_pay27) := chk_load hL ht hg _ 2 (by omega) hL.h65
  unfold tokTrip
  simp only [k0_part2_eq_skeleton]
  unfold k0_part2_skel
  simp only [Prog.lift, Prog.bind_op, Prog.bind_ret, Prog.pure_eq_ret, bind_assoc]
  unfold tokInv
  iintro ⟨H4, %f, %hf, H⟩
  rw [wp_assume_of _ _ _ _ hc1]
  iapply (SparseCore.wp_vectorLoadIdx 𝒱₀ (vT d L) none Set.univ (base := ovM) (S := Finset.univ) (Finset.subset_univ _)) $$ H4
  iintro H4
  rw [wp_assume_of _ _ _ _ hc2]
  iapply (SparseCore.wp_vectorLoadIdx 𝒱₀ (vT d L) none Set.univ (base := ovM) (S := Finset.univ) (Finset.subset_univ _)) $$ H4
  iintro H4
  rw [wp_assume_of _ _ _ _ hc3]
  iapply (SparseCore.wp_vectorLoadIdx 𝒱₀ (vT d L) none Set.univ (base := ovM) (S := Finset.univ) (Finset.subset_univ _)) $$ H4
  iintro H4
  have hr : (ovM.access (.whole S3x200x128)).read (Elt F) f4 = f4 := read_access_whole (F := F) ovM f4
  have hW := words (F := F) (wv ((ovM.access (.whole S3x200x128)).read (Elt F) f4)) t.val g _ _ _
    (fun x => load_at hL ht hg k0_pay27 0 (by omega) hL.h9 ((ovM.access (.whole S3x200x128)).read (Elt F) f4) (k0_idx1_inb _ _ _ hc1) x)
    (fun x => load_at hL ht hg (k0_pay3 k0_pay27) 1 (by omega) hL.h62 ((ovM.access (.whole S3x200x128)).read (Elt F) f4) (k0_idx2_inb _ _ _ hc2) x)
    (fun x => load_at hL ht hg (k0_pay4 k0_pay27) 2 (by omega) hL.h65 ((ovM.access (.whole S3x200x128)).read (Elt F) f4) (k0_idx3_inb _ _ _ hc3) x)
  have hf4' : ∀ i, ((ovM.access (.whole S3x200x128)).read (Elt F) f4 i : BitVec 32).toNat < 256 := fun i => by rw [hr]; exact hf4 i
  have hc4 : k0_chk4 k0_pay25 _ := chk_store hL hW (fun b t k => wv_lt hf4' b t k)
  rw [wp_assume_of _ _ _ _ hc4]
  ihave H := (Entails.of_eq (congrArg (fun S => (hM.view.loc (vT d L) ↦[S]{fullShare} f : sProp 𝕄)) (set_access_whole hM).symm)) $$ H
  iapply (SparseCore.wp_vectorStoreIdx 𝒱₀ (vT d L) none Set.univ (base := hM)) $$ H
  iintro H
  rw [wp_ret]; imodintro
  isplitl [H4]; · iexact H4
  iexists _
  isplitr
  rotate_left
  · ihave H := (Entails.of_eq (congrArg (fun S => (hM.view.loc (vT d L) ↦[S]{fullShare} _ : sProp 𝕄)) (set_access_whole hM))) $$ H
    iexact H
  · ipureintro
    refine (write_access_whole (F := F) hM f _).trans ?_
    have hrd : (hM.access (.whole S8x3072)).read (Elt F) f = boxAt (wv f4) g (2 * t.val) := (read_access_whole (F := F) hM f).trans hf
    rw [hrd]
    refine (congrArg (fun b => storeIdx (F := F) (e := .f32) b _ _ _ false _) (congrArg (fun z => boxAt (wv z) g (2 * t.val)) hr.symm)).trans ?_
    refine (store_two hL hW _).trans ?_
    rw [hr]

end Cert.KernelIdeal.Sc
-- ==== Proof.IBody.lean ====
/-
  A tile's body: its block of observations fetched, its sixteen groups of eight samples in eight trips of two halves, each half
  zeroed, filled from the group's tokens and sent to the boxes, the copies of a half waited for before the half is used again.
-/
module

public import proofs.«01_k».proof.Proof.ISteps

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## The inner loops, by half -/

theorem t2_eq (v2 : BitVec 32) (v5 v7 v9 : IVec S16 32) (c0 c1 : BitVec 32) (t1 : Fin k0_t1_loop.trips) (t : Fin k0_t2_loop.trips) :
    k0_t2_body (F := F) L obM (Memref.isWhole_whole _) bxM (Memref.isWhole_whole _) ovM (Memref.isWhole_whole _) bvM (Memref.isWhole_whole _)
      cc0_scratch2 cc0_scratch3 cc0_scoped0 v2 v5 v7 v9 k0_pay28 c0 c1 t1 t ()
      = zeroTrip L (fun r => match r with | 0 => k0_off3 t | 1 => k0_off4 t | 2 => k0_off5 t | 3 => k0_off6 t | 4 => k0_off7 t | 5 => k0_off8 t | 6 => k0_off9 t | 7 => k0_off10 t)
        (fun r => match r with | 0 => k0_off3_inb t | 1 => k0_off4_inb t | 2 => k0_off5_inb t | 3 => k0_off6_inb t | 4 => k0_off7_inb t | 5 => k0_off8_inb t | 6 => k0_off9_inb t | 7 => k0_off10_inb t) := by
  unfold k0_t2_body; simp only [k0_part1_eq_skeleton]; rfl
theorem t4_eq (v2 : BitVec 32) (v5 v7 v9 : IVec S16 32) (c0 c1 : BitVec 32) (t1 : Fin k0_t1_loop.trips) (t : Fin k0_t4_loop.trips) :
    k0_t4_body (F := F) L obM (Memref.isWhole_whole _) bxM (Memref.isWhole_whole _) ovM (Memref.isWhole_whole _) bvM (Memref.isWhole_whole _)
      cc0_scratch2 cc0_scratch3 cc0_scoped0 v2 v5 v7 v9 k0_pay28 c0 c1 t1 t ()
      = zeroTrip L (fun r => match r with | 0 => k0_off13 t | 1 => k0_off14 t | 2 => k0_off15 t | 3 => k0_off16 t | 4 => k0_off17 t | 5 => k0_off18 t | 6 => k0_off19 t | 7 => k0_off20 t)
        (fun r => match r with | 0 => k0_off13_inb t | 1 => k0_off14_inb t | 2 => k0_off15_inb t | 3 => k0_off16_inb t | 4 => k0_off17_inb t | 5 => k0_off18_inb t | 6 => k0_off19_inb t | 7 => k0_off20_inb t) := by
  unfold k0_t4_body; simp only [k0_part3_eq_skeleton]; rfl
theorem t3_eq (v2 : BitVec 32) (v10 : FVec F S16 .f32) (c0 c1 : BitVec 32) (t1 : Fin k0_t1_loop.trips) (w : BitVec 32) (t : Fin k0_t3_loop.trips) :
    k0_t3_body (F := F) L obM (Memref.isWhole_whole _) bxM (Memref.isWhole_whole _) ovM (Memref.isWhole_whole _) bvM (Memref.isWhole_whole _)
      cc0_scratch2 cc0_scratch3 cc0_scoped0 v2 k0_pay25 k0_pay26 k0_pay27 v10 c0 c1 t1 w t () = tokTrip L h0M w t := rfl
theorem t5_eq (w : BitVec 32) (t : Fin k0_t5_loop.trips) :
    k0_t5_body (F := F) L obM (Memref.isWhole_whole _) bxM (Memref.isWhole_whole _) ovM (Memref.isWhole_whole _) bvM (Memref.isWhole_whole _)
      cc0_scratch2 cc0_scratch3 cc0_scoped0 k0_pay25 w t () = tokTrip L h1M w t := rfl

/-- Half `p` at some contents. -/
def anyH (p : ℕ) : sProp 𝕄 := iprop(∃ f : Buf (Elt F) ((vT d L).loc cc0_scratch1), (vT d L).loc cc0_scratch1 ↦[Hs p]{fullShare} f)

/-- A zeroed half reads as the box before any token. -/
theorem read_zero {p : ℕ} {inb} (f : S2x8x3072.Idx → F .f32) (hf : Zd p 192 0 f) (w : ℕ → ℕ → ℕ → BitVec 32) (g : ℕ) :
    ((bvM.slice (Rect.unit (s := S2x8x3072) ![p, 0, 0] S1x8x3072.size inb) (fun _ => rfl)).squeeze S8x3072 squeezes_S1x8x3072_S8x3072).view.read (Elt F) f
      = boxAt w g (2 * 0) := by
  funext j
  have hm : ((bvM.slice (Rect.unit (s := S2x8x3072) ![p, 0, 0] S1x8x3072.size inb) (fun _ => rfl)).squeeze S8x3072 squeezes_S1x8x3072_S8x3072).view.emb j ∈ Hs p :=
    (mem_half _).mp (View.emb_mem_set _ _)
  have h2 : ∀ i : S2x8x3072.Idx, i ∈ Hs p → f i = zf := fun i hi => hf i (mem_Hs.mp hi) (.inl (by have : (i 2).val < 3072 := (i 2).isLt; omega))
  exact h2 _ hm

/-- The loop that zeroes half `p`, whichever loop it is. -/
theorem zeroLoop_wp (p : ℕ) (hp : p < 2) {inb} {lb ub st : BitVec 32} (hok : Scf.OK lb ub st) (htr : Scf.trips lb ub st = 192)
    (body : Fin (Scf.trips lb ub st) → Unit → Prog (TpuEff nD τ sig (Elt F) Λ₀ (.scVector (cV L) (jV L))) Unit)
    (hb : ∀ t acc, ∃ o h, body t acc = zeroTrip L o h ∧ ∀ r : Fin 8, o r = ![p, r.val, 16 * t.val])
    (w : ℕ → ℕ → ℕ → BitVec 32) (g : ℕ)
    {β : Type} (kk : PUnit → Prog (TpuEff nD τ sig (Elt F) Λ₀ (.scVector (cV L) (jV L))) β) (Q : β → sProp 𝕄) (hM : Memref sig .scVector .vmem S8x3072 .f32)
    (hhM : hM = (bvM.slice (Rect.unit (s := S2x8x3072) ![p, 0, 0] S1x8x3072.size inb) (fun _ => rfl)).squeeze S8x3072 squeezes_S1x8x3072_S8x3072) :
    iprop(anyH d L p ∗ ((∃ f : Buf (Elt F) (hM.view.loc (vT d L)), ⌜hM.view.read (Elt F) f = boxAt w g (2 * 0)⌝ ∗ hM.view.loc (vT d L) ↦[hM.view.set]{fullShare} f)
        -∗ wp frame (wpE (defs₀ (F := F)) 𝒱₀ (vT d L) none) Set.univ (kk ⟨⟩) Q))
      ⊢ wp frame (wpE (defs₀ (F := F)) 𝒱₀ (vT d L) none) Set.univ (Scf.for lb ub st hok ⟨⟩ body >>= kk) Q := by
  subst hhM
  unfold anyH
  iintro ⟨⟨%f, H⟩, HQ⟩
  iapply (Scf.wp_for_bind frame (wpE (defs₀ (F := F)) 𝒱₀ (vT d L) none) Set.univ lb ub st hok ⟨⟩ body
    (fun t _ => iprop(∃ f : Buf (Elt F) ((vT d L).loc cc0_scratch1), ⌜Zd p t 0 f⌝ ∗ (vT d L).loc cc0_scratch1 ↦[Hs p]{fullShare} f)) ?_) $$ [H]
  · intro t acc
    obtain ⟨o, h, hbt, ho⟩ := hb t acc
    rw [hbt]
    iintro H
    iapply (zeroTrip_wp d L p t.val hp (by have := t.isLt; omega) o h ho)
    isplitl [H]; · iexact H
    iintro H; iexact H
  · iexists f
    isplitr
    · ipureintro; intro i _ hi; omega
    · iexact H
  iintro %_ ⟨%f', %hf', H⟩
  rw [htr] at hf'
  iapply HQ
  iexists f'
  isplitr
  · ipureintro; exact read_zero f' hf' w g
  · rw [show _ = Hs p from Finset.ext fun i => mem_half (p := p) (inb := inb) i]
    iexact H

/-- The loop over a group's tokens, whichever loop it is. -/
theorem tokLoop_wp (hM : Memref sig .scVector .vmem S8x3072 .f32) (f4 : Buf (Elt F) ((vT d L).loc cc0_scratch0)) (hf4 : ∀ i, (f4 i : BitVec 32).toNat < 256)
    (w : BitVec 32) (g : ℕ) (hw : w.toNat = 8 * g) (hg : g < 16) {lb ub st : BitVec 32} (hok : Scf.OK lb ub st) (htr : Scf.trips lb ub st = 100)
    (body : Fin (Scf.trips lb ub st) → Unit → Prog (TpuEff nD τ sig (Elt F) Λ₀ (.scVector (cV L) (jV L))) Unit)
    (hb : ∀ t acc, ∃ t' : Fin k0_t3_loop.trips, t'.val = t.val ∧ body t acc = tokTrip L hM w t')
    {β : Type} (kk : PUnit → Prog (TpuEff nD τ sig (Elt F) Λ₀ (.scVector (cV L) (jV L))) β) (Q : β → sProp 𝕄) :
    iprop(tokInv d L hM f4 g 0 ∗ (tokInv d L hM f4 g 100 -∗ wp frame (wpE (defs₀ (F := F)) 𝒱₀ (vT d L) none) Set.univ (kk ⟨⟩) Q))
      ⊢ wp frame (wpE (defs₀ (F := F)) 𝒱₀ (vT d L) none) Set.univ (Scf.for lb ub st hok ⟨⟩ body >>= kk) Q := by
  iintro ⟨H, HQ⟩
  iapply (Scf.wp_for_bind frame (wpE (defs₀ (F := F)) 𝒱₀ (vT d L) none) Set.univ lb ub st hok ⟨⟩ body (fun t _ => tokInv d L hM f4 g t) ?_) $$ H
  · intro t acc
    obtain ⟨t', ht', hbt⟩ := hb t acc
    rw [hbt, ← ht']
    exact tokTrip_wp d L hM f4 hf4 w g hw hg t'
  iintro %_ H
  iapply HQ
  rw [htr]
  iexact H

/-! ## The copies -/

/-- The tile's block of observations says what the whole says. -/
def Blk (fo : S3x200x4096.Idx → BitVec 32) (f4 : S3x200x128.Idx → BitVec 32) : Prop :=
  ∀ b t k, b < 128 → t < 200 → k < 3 → wv f4 b t k = ow fo (base L + b) t k

theorem blk_read (fo : S3x200x4096.Idx → BitVec 32) :
    Blk L fo ((obM.slice (Rect.unit (s := S3x200x4096) (k0_off1 L) S3x200x128.size (k0_off1_inb L)) (fun _ => rfl)).view.read (Elt F) fo) := by
  intro b t k hb ht hk
  have := base_lt L
  unfold wv ow
  rw [dif_pos ⟨hk, ht, hb⟩, dif_pos ⟨hk, ht, by omega⟩]
  show fo ((Rect.unit (s := S3x200x4096) (k0_off1 L) S3x200x128.size (k0_off1_inb L)).emb (ValueIdx.ix3 _ _ _)) = _
  congr 1
  refine Rect.emb_eq_of_coords _ _ _ fun a => ?_
  refine Eq.trans ?_ (congrArg (· + 1 * (ValueIdx.ix3 (⟨k, hk⟩ : Fin 3) (⟨t, ht⟩ : Fin 200) (⟨b, hb⟩ : Fin 128) a).val) (congrFun (k0_off1_eq L) a).symm)
  fin_cases a
  · show k = 0 + 1 * k; omega
  · show t = 0 + 1 * t; omega
  · show base L + b = _ + 1 * b
    unfold base
    show _ = (256 * (L 1).val + 128 * (L 0).val) + 1 * b
    omega

theorem set_out (o : Fin 2 → ℕ) (inb) (g : ℕ) (ho : o = ![base L + 8 * g, 0]) :
    (bxM.slice (Rect.unit (s := S4096x3072) o S8x3072.size inb) (fun _ => rfl)).view.set = Gs L g := by
  subst ho
  refine (View.set_slice_whole _ _).trans (Finset.ext fun i => ?_)
  rw [Rect.mem_set_unit, mem_Gs]
  have h1 : (i 1).val < 3072 := (i 1).isLt
  constructor
  · intro h; have := h 0; simp at this; omega
  · intro h a; fin_cases a <;> simp <;> omega

theorem write_unit_at (o size : Fin 2 → ℕ) (inb) (fd : S4096x3072.Idx → F .f32) (v : (Rect.unit (s := S4096x3072) o size inb).shape.Idx → F .f32)
    (x : (Rect.unit (s := S4096x3072) o size inb).shape.Idx) :
    (bxM.slice (Rect.unit (s := S4096x3072) o size inb) (fun _ => rfl)).view.write (Elt F) fd v Finset.univ
      ((bxM.slice (Rect.unit (s := S4096x3072) o size inb) (fun _ => rfl)).view.emb x) = v x :=
  (View.write_emb_of_mem (Val := Elt F) (v := (bxM.slice (Rect.unit (s := S4096x3072) o size inb) (fun _ => rfl)).view) fd v (Finset.mem_univ x)).trans (cast_eq rfl (v x))

/-- What is copied to a group's rows, at one of their elements. -/
theorem out_at (o : Fin 2 → ℕ) (inb) (g : ℕ) (ho : o = ![base L + 8 * g, 0]) (fd : S4096x3072.Idx → F .f32) (v : S8x3072.Idx → F .f32)
    (i : S4096x3072.Idx) (hi : i ∈ Gs L g) : ∃ x : S8x3072.Idx, (i 0).val = base L + 8 * g + (x 0).val ∧ (i 1).val = (x 1).val ∧
    (bxM.slice (Rect.unit (s := S4096x3072) o S8x3072.size inb) (fun _ => rfl)).view.write (Elt F) fd v Finset.univ i = v x := by
  have hs := set_out L o inb g ho
  have hi' : i ∈ (bxM.slice (Rect.unit (s := S4096x3072) o S8x3072.size inb) (fun _ => rfl)).view.set := (Finset.ext_iff.mp hs i).mpr hi
  obtain ⟨x, -, hx⟩ := Finset.mem_map.mp hi'
  subst ho
  refine ⟨x, ?_, ?_, ?_⟩
  · rw [← hx]; show (base L + 8 * g) + 1 * (x 0).val = _; omega
  · rw [← hx]; show 0 + 1 * (x 1).val = _; omega
  · exact (congrArg _ hx.symm).trans (write_unit_at _ _ inb fd v x)

theorem boxAt_apply (w : ℕ → ℕ → ℕ → BitVec 32) (g n : ℕ) (j : S8x3072.Idx) : boxAt (F := F) w g n j = boxVal (w (8 * g + (j 0).val)) (j 1).val n := rfl
theorem Tgt_apply (fo : S3x200x4096.Idx → BitVec 32) (i : S4096x3072.Idx) : Tgt (F := F) fo i = boxVal (ow fo (i 0).val) (i 1).val 200 := rfl

/-- A group's box, copied to its rows, is the boxes' contents there. -/
theorem out_val (fo : S3x200x4096.Idx → BitVec 32) (f4 : S3x200x128.Idx → BitVec 32) (hb : Blk L fo f4) (o : Fin 2 → ℕ) (inb) (g : ℕ) (hg : g < 16)
    (ho : o = ![base L + 8 * g, 0]) (fd : S4096x3072.Idx → F .f32) (v : S8x3072.Idx → F .f32) (hv : v = boxAt (wv f4) g (2 * 100)) (i : S4096x3072.Idx) (hi : i ∈ Gs L g) :
    (bxM.slice (Rect.unit (s := S4096x3072) o S8x3072.size inb) (fun _ => rfl)).view.write (Elt F) fd v Finset.univ i = Tgt (F := F) fo i := by
  obtain ⟨x, e0, e1, e⟩ := out_at L o inb g ho fd v i hi
  rw [e, hv, boxAt_apply, Tgt_apply, e0, e1, show 2 * 100 = 200 from rfl]
  have hx0 : (x 0).val < 8 := (x 0).isLt
  generalize (x 0).val = r at *
  generalize (x 1).val = c at *
  refine boxVal_congr _ _ fun t ht k hk => ?_
  rw [hb _ _ _ (by omega) ht hk, ← Nat.add_assoc (base L)]

/-- The credit of one group's copy. -/
abbrev NO : ℕ := sig.dmaCredit .scVector (Kind.scVector.table .hbm) (main_v1_scv : Ref sig .scVector).idx S8x3072 .f32
theorem NO_pos : 0 < NO := sig.dmaCredit_pos _ _ _ _ _ (by decide)

/-- Group `g`'s rows hold the boxes' contents. -/
def outG (fo : S3x200x4096.Idx → BitVec 32) (g : ℕ) : sProp 𝕄 := (bxLoc d ↦[Gs L g]{fullShare} (Tgt (F := F) fo : Buf (Elt F) (bxLoc d)))

/-- Half `p` before trip `u`: free, or on its way to the rows of the trip before. -/
def halfSt (fo : S3x200x4096.Idx → BitVec 32) (sm : DmaSem sig) (p u : ℕ) : sProp 𝕄 :=
  if u = 0 then iprop(anyH d L p ∗ semVal ((vT d L, .dma sm) : GSem nD τ sig) 0)
  else Transfers.Flight EC (vT d L) (.dma sm) none NO iprop(anyH d L p ∗ outG d L fo (2 * (u - 1) + p))
/-- What the wait before trip `u` brings back beside the half. -/
def prevG (fo : S3x200x4096.Idx → BitVec 32) (p u : ℕ) : sProp 𝕄 :=
  if u = 0 then iprop(emp) else outG (F := F) d L fo (2 * (u - 1) + p)

end Cert.KernelIdeal.Sc
-- ==== Proof.ITile.lean ====
/-
  The whole body of a tile: the eight trips, and the task as the launch takes it.
-/
module

public import proofs.«01_k».proof.Proof.IBody

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## One trip -/

theorem cond1_iff (t : Fin k0_t1_loop.trips) : k0_cond1 t = 1#1 ↔ t.val ≠ 0 := by
  have h : ∀ t : Fin k0_t1_loop.trips, k0_cond1 t = 1#1 ↔ t.val ≠ 0 := by decide +kernel
  exact h t
theorem cond2_iff (t : Fin k0_t1_loop.trips) : k0_cond2 t = 1#1 ↔ t.val ≠ 0 := by
  have h : ∀ t : Fin k0_t1_loop.trips, k0_cond2 t = 1#1 ↔ t.val ≠ 0 := by decide +kernel
  exact h t

/-- What the tile owes while it runs: as at its start, with waits of its own recorded. -/
def owed (O : CellTallies nD τ sig (HIx 1)) (W : Waits sig (HIx 1)) : sProp 𝕄 :=
  iprop(∃ W', ⌜∀ p ∈ W', p ∈ W ∨ p.2 = none⌝ ∗ owes (vT d L) O W')

/-- Before trip `u`. -/
def tripInv (fo : S3x200x4096.Idx → BitVec 32) (f4 : Buf (Elt F) ((vT d L).loc cc0_scratch0)) (O : CellTallies nD τ sig (HIx 1)) (W : Waits sig (HIx 1)) (u : ℕ) : sProp 𝕄 :=
  iprop(Transfers.MayWaits (vT d L) (none : HIx 1) O ∗ ((vT d L).loc cc0_scratch0 ↦{fullShare} f4)
    ∗ halfSt (F := F) d L fo cc0_scratch2.sem 0 u ∗ halfSt (F := F) d L fo cc0_scratch3.sem 1 u ∗ owed (F := F) d L O W)

/-- The wait before a half is used again, in all trips but the first. -/
theorem wait_wp (fo : S3x200x4096.Idx → BitVec 32) (sm : DmaSem sig) (p u : ℕ) (O : CellTallies nD τ sig (HIx 1)) (W : Waits sig (HIx 1))
    {α : Type} (c : Prop) [Decidable c] (hc : c ↔ u ≠ 0) (A : c → Prog (TpuEff nD τ sig (Elt F) Λ₀ (.scVector (cV L) (jV L))) α)
    (B : ¬ c → Prog (TpuEff nD τ sig (Elt F) Λ₀ (.scVector (cV L) (jV L))) α) (k : Prog (TpuEff nD τ sig (Elt F) Λ₀ (.scVector (cV L) (jV L))) α)
    (hA : ∀ h, ∃ (srcw : Memref sig .scVector .vmem S8x3072 .f32) (dstw : Memref sig .scVector .hbm S8x3072 .f32) (hs : srcw.view.WordExact) (hd : dstw.view.WordExact),
      A h = .op (.waitDma2 sm srcw dstw hs hd) (fun _ => k) ∧ dstw.view.dmaCredit = NO) (hB : ∀ h, B h = k) (Q : α → sProp 𝕄) :
    iprop(Transfers.MayWaits (vT d L) (none : HIx 1) O ∗ halfSt (F := F) d L fo sm p u ∗ owed (F := F) d L O W
        ∗ ((anyH (F := F) d L p ∗ semVal ((vT d L, .dma sm) : GSem nD τ sig) 0 ∗ prevG (F := F) d L fo p u ∗ owed (F := F) d L O W)
          -∗ wp frame (wpE (defs₀ (F := F)) 𝒱₀ (vT d L) none) Set.univ k Q))
      ⊢ wp frame (wpE (defs₀ (F := F)) 𝒱₀ (vT d L) none) Set.univ (if h : c then A h else B h) Q := by
  by_cases h : c
  · obtain ⟨srcw, dstw, hs, hd, hAh, hN⟩ := hA h
    rw [dif_pos h, hAh]
    unfold halfSt prevG
    rw [if_neg (hc.mp h), if_neg (hc.mp h)]
    unfold owed
    iintro ⟨Hmw, Hh, ⟨%W', %hW', HO⟩, HQ⟩
    ihave Hm1 := (Transfers.MayWaits.elim (SemLoc.dma sm)) $$ Hmw
    iapply (Transfers.wp_waitLocalO EC 𝒱₀ (vT d L) none (none : HIx 1) hN) $$ [Hh HO Hm1]
    · isplitl [Hh]; · iexact Hh
      isplitl [HO]; · iexact HO
      iexact Hm1
    iintro ⟨⟨HA, HG⟩, Hs, HO⟩
    iapply HQ
    isplitl [HA]; · iexact HA
    isplitl [Hs]; · iexact Hs
    isplitl [HG]; · iexact HG
    iexists (insert (SemLoc.dma sm, (none : HIx 1)) W')
    isplitr
    · ipureintro
      intro q hq
      rcases Finset.mem_insert.mp hq with rfl | hq
      · exact .inr rfl
      · exact hW' q hq
    · iexact HO
  · rw [dif_neg h, hB h]
    have hu : u = 0 := by by_contra hu; exact h (hc.mpr hu)
    unfold halfSt prevG
    rw [if_pos hu, if_pos hu]
    iintro ⟨Hmw, ⟨HA, Hs⟩, HO, HQ⟩
    iapply HQ
    isplitl [HA]; · iexact HA
    isplitl [Hs]; · iexact Hs
    isplitr; · iempintro
    iexact HO

theorem out_pts (fo : S3x200x4096.Idx → BitVec 32) (f4 : S3x200x128.Idx → BitVec 32) (hb : Blk L fo f4) (o : Fin 2 → ℕ) (inb) (g : ℕ) (hg : g < 16)
    (ho : o = ![base L + 8 * g, 0]) (fd : Buf (Elt F) (bxLoc d)) (v : S8x3072.Idx → F .f32) (hv : v = boxAt (wv f4) g (2 * 100)) :
    ((bxM.slice (Rect.unit (s := S4096x3072) o S8x3072.size inb) (fun _ => rfl)).view.loc (vT d L) ↦[Gs L g]{fullShare}
      (bxM.slice (Rect.unit (s := S4096x3072) o S8x3072.size inb) (fun _ => rfl)).view.write (Elt F) fd v Finset.univ : sProp 𝕄) ⊢ outG (F := F) d L fo g := by
  unfold outG
  have h := fun i hi => out_val L fo f4 hb o inb g hg ho fd v hv i hi
  revert h
  generalize (bxM.slice (Rect.unit (s := S4096x3072) o S8x3072.size inb) (fun _ => rfl)).view.write (Elt F) fd v Finset.univ = z
  generalize Tgt (F := F) fo = z'
  intro h
  exact Entails.of_eq (pointsTo_congr h)

/-- A group's copy out, issued. -/
theorem out_wp (fo : S3x200x4096.Idx → BitVec 32) (f4 : S3x200x128.Idx → BitVec 32) (hblk : Blk L fo f4) (sm : DmaSem sig) (p u : ℕ) (hu : 2 * u + p < 16)
    (hM : Memref sig .scVector .vmem S8x3072 .f32) (hloc : hM.view.loc (vT d L) = (vT d L).loc cc0_scratch1)
    (hpts : ∀ f : Buf (Elt F) (hM.view.loc (vT d L)), (hM.view.loc (vT d L) ↦[hM.view.set]{fullShare} f : sProp 𝕄) ⊢ anyH (F := F) d L p)
    (o : Fin 2 → ℕ) (inb) (ho : o = ![base L + 8 * (2 * u + p), 0]) (fb : Buf (Elt F) (bxLoc d))
    (f : Buf (Elt F) (hM.view.loc (vT d L))) (hf : hM.view.read (Elt F) f = boxAt (wv f4) (2 * u + p) (2 * 100))
    {α : Type} (hs : hM.view.WordExact) (hd) (ht) (k : PUnit → Prog (TpuEff nD τ sig (Elt F) Λ₀ (.scVector (cV L) (jV L))) α) (Q : α → sProp 𝕄) :
    iprop((hM.view.loc (vT d L) ↦[hM.view.set]{fullShare} f) ∗ (bxLoc d ↦[Gs L (2 * u + p)]{fullShare} fb) ∗ semVal ((vT d L, .dma sm) : GSem nD τ sig) 0
        ∗ (halfSt (F := F) d L fo sm p (u + 1) -∗ wp frame (wpE (defs₀ (F := F)) 𝒱₀ (vT d L) none) Set.univ (k ⟨⟩) Q))
      ⊢ wp frame (wpE (defs₀ (F := F)) 𝒱₀ (vT d L) none) Set.univ
        (.op (.enqueueDma hM (.here (bxM.slice (Rect.unit (s := S4096x3072) o S8x3072.size inb) (fun _ => rfl))) (.dma sm) hs hd ht) k) Q := by
  have hset := set_out L o inb (2 * u + p) ho
  iintro ⟨H, Hg, Hs, HQ⟩
  iapply (Transfers.wp_dmaLocal EC 𝒱₀ (vT d L) none (none : HIx 1) NO rfl NO_pos (Finset.subset_of_eq hset)) $$ [H Hg Hs]
  · isplitl [H]; · iexact H
    isplitl [Hg]; · iexact Hg
    iexact Hs
  iintro Hf
  iapply HQ
  unfold halfSt
  rw [if_neg (Nat.succ_ne_zero u), Nat.add_sub_cancel]
  iapply (Transfers.Flight_mono EC (vT d L) ?_) $$ Hf
  iintro ⟨HG, HH⟩
  isplitl [HH]
  · iapply (hpts f) $$ HH
  · iapply (out_pts d L fo f4 hblk o inb (2 * u + p) hu ho fb _ hf) $$ HG

theorem trip_wp (fo : S3x200x4096.Idx → BitVec 32) (f4 : Buf (Elt F) ((vT d L).loc cc0_scratch0)) (hf4 : ∀ i, (f4 i : BitVec 32).toNat < 256)
    (hblk : Blk L fo f4) (O : CellTallies nD τ sig (HIx 1)) (W : Waits sig (HIx 1)) (v2 : BitVec 32) (t : Fin k0_t1_loop.trips)
    (fb : Buf (Elt F) (bxLoc d)) :
    iprop(tripInv d L fo f4 O W t.val ∗ (bxLoc d ↦[Gs L (2 * t.val)]{fullShare} fb) ∗ (bxLoc d ↦[Gs L (2 * t.val + 1)]{fullShare} fb))
      ⊢ wp frame (wpE (defs₀ (F := F)) 𝒱₀ (vT d L) none) Set.univ
          (k0_t1_body (F := F) L obM (Memref.isWhole_whole _) bxM (Memref.isWhole_whole _) ovM (Memref.isWhole_whole _) bvM (Memref.isWhole_whole _)
            cc0_scratch2 cc0_scratch3 cc0_scoped0 v2 k0_pay25 t ())
          fun _ => iprop(tripInv d L fo f4 O W (t.val + 1) ∗ prevG (F := F) d L fo 0 t.val ∗ prevG (F := F) d L fo 1 t.val) := by
  unfold k0_t1_body
  simp only [k0_part5_eq_skeleton]
  unfold k0_part5_skel
  simp only [Prog.lift, Prog.bind_op, Prog.bind_ret, Prog.pure_eq_ret, bind_assoc]
  unfold tripInv
  have ht : t.val < 8 := t.isLt
  have hw0 : (Scalar.muli (Scalar.muli 2#32 (Scf.iv 0#32 1#32 t.val)) 8#32).toNat = 8 * (2 * t.val) := by
    simp only [Scf.iv, Scalar.muli, IntOp.muli, BitVec.toNat_add, BitVec.toNat_mul, BitVec.toNat_ofNat]
    omega
  have hw1 : (Scalar.muli (Scalar.addi (Scalar.muli 2#32 (Scf.iv 0#32 1#32 t.val)) 1#32) 8#32).toNat = 8 * (2 * t.val + 1) := by
    simp only [Scf.iv, Scalar.muli, Scalar.addi, IntOp.muli, IntOp.addi, BitVec.toNat_add, BitVec.toNat_mul, BitVec.toNat_ofNat]
    omega
  iintro ⟨⟨#Hmw, H4, Hh0, Hh1, HO⟩, Hg0, Hg1⟩
  rw [wp_bind]
  iapply (wait_wp d L fo cc0_scratch2.sem 0 t.val O W (k0_cond1 t = 1#1) (cond1_iff t) _ _ _ (fun h => ⟨_, _, _, _, rfl, rfl⟩) (fun h => rfl))
  isplitr; · iexact Hmw
  isplitl [Hh0]; · iexact Hh0
  isplitl [HO]; · iexact HO
  iintro ⟨HA, Hs0, Hp0, HO⟩
  iapply (zeroLoop_wp d L 0 (by omega) (inb := inb_S2x8x3072_S1x8x3072_0_0_0) k0_t2_ok rfl _ (fun t' acc => ⟨_, _, t2_eq L _ _ _ _ _ _ t t', fun r => by
      fin_cases r
      · exact k0_off3_eq t'
      · exact k0_off4_eq t'
      · exact k0_off5_eq t'
      · exact k0_off6_eq t'
      · exact k0_off7_eq t'
      · exact k0_off8_eq t'
      · exact k0_off9_eq t'
      · exact k0_off10_eq t'⟩) (wv f4) (2 * t.val) _ _ h0M rfl)
  isplitl [HA]; · iexact HA
  iintro H
  iapply (tokLoop_wp d L h0M f4 hf4 _ (2 * t.val) hw0 (by omega) k0_t3_ok rfl _ (fun t' acc => ⟨t', rfl, t3_eq L _ _ _ _ t _ t'⟩))
  isplitl [H H4]
  · unfold tokInv
    isplitl [H4]; · iexact H4
    iexact H
  unfold tokInv
  iintro ⟨H4, %f, %hf, H⟩
  iapply (out_wp d L fo f4 hblk cc0_scratch2.sem 0 t.val (by omega) h0M rfl (fun f => by rw [set_h0M]; unfold anyH; iintro H; iexists f; iexact H)
    (k0_off11 L t) (k0_off11_inb L t) ((k0_off11_eq L t).trans (by unfold base; congr 1; omega)) fb f hf)
  isplitl [H]; · iexact H
  isplitl [Hg0]; · iexact Hg0
  isplitl [Hs0]; · iexact Hs0
  iintro Hh0
  iapply (wait_wp d L fo cc0_scratch3.sem 1 t.val O W (k0_cond2 t = 1#1) (cond2_iff t) _ _ _ (fun h => ⟨_, _, _, _, rfl, rfl⟩) (fun h => rfl))
  isplitr; · iexact Hmw
  isplitl [Hh1]; · iexact Hh1
  isplitl [HO]; · iexact HO
  iintro ⟨HA, Hs1, Hp1, HO⟩
  iapply (zeroLoop_wp d L 1 (by omega) (inb := inb_S2x8x3072_S1x8x3072_1_0_0) k0_t4_ok rfl _ (fun t' acc => ⟨_, _, t4_eq L _ _ _ _ _ _ t t', fun r => by
      fin_cases r
      · exact k0_off13_eq t'
      · exact k0_off14_eq t'
      · exact k0_off15_eq t'
      · exact k0_off16_eq t'
      · exact k0_off17_eq t'
      · exact k0_off18_eq t'
      · exact k0_off19_eq t'
      · exact k0_off20_eq t'⟩) (wv f4) (2 * t.val + 1) _ _ h1M rfl)
  isplitl [HA]; · iexact HA
  iintro H
  rw [wp_ret]; imodintro
  iapply (tokLoop_wp d L h1M f4 hf4 _ (2 * t.val + 1) hw1 (by omega) k0_t5_ok rfl _ (fun t' acc => ⟨t', rfl, t5_eq L _ t'⟩))
  isplitl [H H4]
  · unfold tokInv
    isplitl [H4]; · iexact H4
    iexact H
  unfold tokInv
  iintro ⟨H4, %f', %hf', H⟩
  iapply (out_wp d L fo f4 hblk cc0_scratch3.sem 1 t.val (by omega) h1M rfl (fun f => by rw [set_h1M]; unfold anyH; iintro H; iexists f; iexact H)
    (k0_off21 L t) (k0_off21_inb L t) ((k0_off21_eq L t).trans (by unfold base; congr 1; omega)) fb f' hf')
  isplitl [H]; · iexact H
  isplitl [Hg1]; · iexact Hg1
  isplitl [Hs1]; · iexact Hs1
  iintro Hh1
  rw [wp_ret]; imodintro
  isplitl [H4 Hh0 Hh1 HO]
  · isplitr; · iexact Hmw
    isplitl [H4]; · iexact H4
    isplitl [Hh0]; · iexact Hh0
    isplitl [Hh1]; · iexact Hh1
    iexact HO
  isplitl [Hp0]; · iexact Hp0
  iexact Hp1

end Cert.KernelIdeal.Sc
-- ==== Proof.ITask.lean ====
/-
  A tile's task from its launch: the fetch of its observations, the eight trips, the last two waits; its own buffers and
  semaphores taken and handed back.
-/
module

public import proofs.«01_k».proof.Proof.ITile

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## What a tile owns, in parts -/

theorem Gs_disjoint : ∀ g ∈ Finset.range 16, ∀ g' ∈ Finset.range 16, g ≠ g' → Disjoint (Gs L g) (Gs L g') := by
  intro g _ g' _ h
  refine Finset.disjoint_left.mpr fun i hi hi' => ?_
  rw [mem_Gs] at hi hi'
  omega
theorem Gs_cover : (Finset.range 16).biUnion (Gs L) = Rs L := by
  ext i
  rw [Finset.mem_biUnion, mem_Rs]
  constructor
  · rintro ⟨g, hg, hi⟩
    rw [mem_Gs] at hi; rw [Finset.mem_range] at hg
    omega
  · rintro ⟨h1, h2⟩
    refine ⟨((i 0).val - base L) / 8, Finset.mem_range.mpr (by omega), mem_Gs.mpr (by omega)⟩
omit [FloatOps F] in
/-- A tile's rows are its groups' rows. -/
theorem pts_groups (f : Buf (Elt F) (bxLoc d)) :
    (bxLoc d ↦[Rs L]{fullShare} f : sProp 𝕄) = bigSep (Finset.range 16) fun g => bxLoc d ↦[Gs L g]{fullShare} f := by
  rw [← pointsTo_biUnion (Finset.range 16) (ℓ := bxLoc d) (Gs L) (Gs_disjoint L), Gs_cover]

theorem Hs_disjoint : Disjoint (Hs 0) (Hs 1) := by
  refine Finset.disjoint_left.mpr fun i hi hi' => ?_
  rw [mem_Hs] at hi hi'
  omega
theorem Hs_cover : Hs 0 ∪ Hs 1 = Finset.univ := by
  ext i
  have h : (i 0).val < 2 := (i 0).isLt
  simp only [Finset.mem_union, mem_Hs, Finset.mem_univ, iff_true]
  omega
/-- The box buffer is its two halves. -/
theorem halves_split (f : Buf (Elt F) ((vT d L).loc cc0_scratch1)) :
    ((vT d L).loc cc0_scratch1 ↦{fullShare} f : sProp 𝕄) ⊢ iprop(anyH (F := F) d L 0 ∗ anyH (F := F) d L 1) := by
  have h : ((vT d L).loc cc0_scratch1 ↦[Hs 0 ∪ Hs 1]{fullShare} f : sProp 𝕄) ⊢ _ := (pointsTo_union Hs_disjoint).1
  rw [Hs_cover] at h
  refine h.trans ?_
  unfold anyH
  iintro ⟨H0, H1⟩
  isplitl [H0]
  · iexists f; iexact H0
  · iexists f; iexact H1
theorem halves_join :
    iprop(anyH (F := F) d L 0 ∗ anyH (F := F) d L 1) ⊢ (iprop(∃ f : Buf (Elt F) ((vT d L).loc cc0_scratch1), (vT d L).loc cc0_scratch1 ↦{fullShare} f) : sProp 𝕄) := by
  unfold anyH
  iintro ⟨⟨%f, H0⟩, %g, H1⟩
  ihave H := (pointsTo_join (ℓ := (vT d L).loc cc0_scratch1) (I := Hs 0) (J := Hs 1) (q := fullShare) (f := f) (g := g) Hs_disjoint) $$ [H0 H1]
  · isplitl [H0]; · iexact H0
    iexact H1
  rw [Hs_cover]
  iexists _; iexact H

/-! ## The trips together -/

/-- The groups not yet begun before trip `u`, and those whose copies have been waited for. -/
def todo (fb : Buf (Elt F) (bxLoc d)) (u : ℕ) : sProp 𝕄 := bigSep (Finset.Ico (2 * u) 16) fun g => bxLoc d ↦[Gs L g]{fullShare} fb
def doneG (fo : S3x200x4096.Idx → BitVec 32) (n : ℕ) : sProp 𝕄 := bigSep (Finset.range n) (outG (F := F) d L fo)

theorem todo_step (fb : Buf (Elt F) (bxLoc d)) (u : ℕ) (hu : u < 8) :
    todo d L fb u ⊢ iprop((bxLoc d ↦[Gs L (2 * u)]{fullShare} fb) ∗ (bxLoc d ↦[Gs L (2 * u + 1)]{fullShare} fb) ∗ todo d L fb (u + 1)) := by
  unfold todo
  have e : Finset.Ico (2 * u) 16 = insert (2 * u) (insert (2 * u + 1) (Finset.Ico (2 * (u + 1)) 16)) := by
    ext x; simp only [Finset.mem_Ico, Finset.mem_insert]; omega
  rw [e, SparseCore.bigSep_insert' (by simp only [Finset.mem_insert, Finset.mem_Ico, Finset.mem_range]; omega),
    SparseCore.bigSep_insert' (by simp only [Finset.mem_Ico, Finset.mem_range]; omega)]
theorem done_two (fo : S3x200x4096.Idx → BitVec 32) (v : ℕ) :
    iprop(doneG (F := F) d L fo (2 * v) ∗ outG (F := F) d L fo (2 * v + 0) ∗ outG (F := F) d L fo (2 * v + 1)) ⊢ doneG (F := F) d L fo (2 * (v + 1)) := by
  unfold doneG
  have e : Finset.range (2 * (v + 1)) = insert (2 * v) (insert (2 * v + 1) (Finset.range (2 * v))) := by
    ext x; simp only [Finset.mem_range, Finset.mem_insert]; omega
  rw [e, SparseCore.bigSep_insert' (by simp only [Finset.mem_insert, Finset.mem_Ico, Finset.mem_range]; omega),
    SparseCore.bigSep_insert' (by simp only [Finset.mem_Ico, Finset.mem_range]; omega)]
  iintro ⟨H, H0, H1⟩
  isplitl [H0]; · iexact H0
  isplitl [H1]; · iexact H1
  iexact H
theorem done_step (fo : S3x200x4096.Idx → BitVec 32) (u : ℕ) :
    iprop(doneG (F := F) d L fo (2 * (u - 1)) ∗ prevG (F := F) d L fo 0 u ∗ prevG (F := F) d L fo 1 u) ⊢ doneG (F := F) d L fo (2 * (u + 1 - 1)) := by
  unfold prevG
  by_cases hu : u = 0
  · subst hu
    rw [if_pos rfl, if_pos rfl]
    iintro ⟨H, -, -⟩
    iexact H
  · obtain ⟨v, rfl⟩ := Nat.exists_eq_succ_of_ne_zero hu
    rw [if_neg hu, if_neg hu]
    exact done_two d L fo v

/-- Before trip `u`, all of it. -/
def runInv (fo : S3x200x4096.Idx → BitVec 32) (f4 : Buf (Elt F) ((vT d L).loc cc0_scratch0)) (O : CellTallies nD τ sig (HIx 1)) (W : Waits sig (HIx 1))
    (fb : Buf (Elt F) (bxLoc d)) (u : ℕ) : sProp 𝕄 :=
  iprop(tripInv d L fo f4 O W u ∗ todo d L fb u ∗ doneG (F := F) d L fo (2 * (u - 1)))

theorem run_start (fo : S3x200x4096.Idx → BitVec 32) (f4 : Buf (Elt F) ((vT d L).loc cc0_scratch0)) (O : CellTallies nD τ sig (HIx 1)) (W : Waits sig (HIx 1))
    (fb : Buf (Elt F) (bxLoc d)) :
    iprop(Transfers.MayWaits (vT d L) (none : HIx 1) O ∗ ((vT d L).loc cc0_scratch0 ↦{fullShare} f4)
        ∗ anyH (F := F) d L 0 ∗ semVal (cell0 d L) 0 ∗ anyH (F := F) d L 1 ∗ semVal (cell1 d L) 0 ∗ owed (F := F) d L O W ∗ bxLoc d ↦[Rs L]{fullShare} fb)
      ⊢ runInv d L fo f4 O W fb 0 := by
  unfold runInv tripInv halfSt todo doneG
  rw [if_pos rfl, if_pos rfl, pts_groups, show Finset.Ico (2 * 0) 16 = Finset.range 16 by decide,
    show Finset.range (2 * (0 - 1)) = ∅ by decide, BI.bigSep_empty]
  iintro ⟨Hmw, H4, HA0, Hs0, HA1, Hs1, HO, Hbx⟩
  isplitr [Hbx]
  · isplitl [Hmw]; · iexact Hmw
    isplitl [H4]; · iexact H4
    isplitl [HA0 Hs0]
    · isplitl [HA0]; · iexact HA0
      iexact Hs0
    isplitl [HA1 Hs1]
    · isplitl [HA1]; · iexact HA1
      iexact Hs1
    iexact HO
  isplitl [Hbx]; · iexact Hbx
  iempintro

theorem run_trip (fo : S3x200x4096.Idx → BitVec 32) (f4 : Buf (Elt F) ((vT d L).loc cc0_scratch0)) (hf4 : ∀ i, (f4 i : BitVec 32).toNat < 256)
    (hblk : Blk L fo f4) (O : CellTallies nD τ sig (HIx 1)) (W : Waits sig (HIx 1)) (v2 : BitVec 32) (t : Fin k0_t1_loop.trips)
    (fb : Buf (Elt F) (bxLoc d)) :
    runInv d L fo f4 O W fb t.val
      ⊢ wp frame (wpE (defs₀ (F := F)) 𝒱₀ (vT d L) none) Set.univ
          (k0_t1_body (F := F) L obM (Memref.isWhole_whole _) bxM (Memref.isWhole_whole _) ovM (Memref.isWhole_whole _) bvM (Memref.isWhole_whole _)
            cc0_scratch2 cc0_scratch3 cc0_scoped0 v2 k0_pay25 t ())
          fun _ => runInv d L fo f4 O W fb (t.val + 1) := by
  unfold runInv
  iintro ⟨HT, Htodo, Hdone⟩
  ihave Htodo' := (todo_step d L fb t.val t.isLt) $$ Htodo
  icases Htodo' with ⟨Hg0, Hg1, Htodo⟩
  iapply (wp_wand frame _ _ (Q := fun _ => iprop(tripInv d L fo f4 O W (t.val + 1) ∗ prevG (F := F) d L fo 0 t.val ∗ prevG (F := F) d L fo 1 t.val))) $$ [HT Hg0 Hg1]
  · iapply (trip_wp d L fo f4 hf4 hblk O W v2 t fb)
    isplitl [HT]; · iexact HT
    isplitl [Hg0]; · iexact Hg0
    iexact Hg1
  iintro %_ ⟨HT, Hp0, Hp1⟩
  isplitl [HT]; · iexact HT
  isplitl [Htodo]; · iexact Htodo
  iapply (done_step d L fo t.val)
  isplitl [Hdone]; · iexact Hdone
  isplitl [Hp0]; · iexact Hp0
  iexact Hp1

/-! ## The task -/

omit [FloatOps F] in
theorem ownSems0_V :
    (ownSems0 (vT d L) : sProp 𝕄)
      = iprop(semVal (cell0 d L) 0 ∗ semVal (cell1 d L) 0 ∗ semVal (cellR d L) 0
          ∗ bigSep ((((ownCells (vT d L)).erase (cell0 d L)).erase (cell1 d L)).erase (cellR d L)) fun g => semVal g 0) := by
  unfold SparseCore.Cfg.ownSems0
  rw [SparseCore.bigSep_erase' ((mem_ownCells (g := cell0 d L)).mpr ⟨rfl, by
      show (SemLoc.dma cc0_scratch2.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scratch3.sem : SemLoc sig).isScoped .scVector = true; decide⟩⟩),
    SparseCore.bigSep_erase' (Finset.mem_erase.mpr ⟨by simp [cell1, cellR]; decide, Finset.mem_erase.mpr ⟨by simp [cell0, cellR]; decide,
      (mem_ownCells (g := cellR d L)).mpr ⟨rfl, by show (SemLoc.dma cc0_scoped0.sem : SemLoc sig).isScoped .scVector = true; decide⟩⟩⟩)]

omit [FloatOps F] in
theorem ownBufs_V :
    (ownBufs (vT d L) : sProp 𝕄)
      = iprop((∃ f, (vT d L).loc cc0_scratch0 ↦{fullShare} f) ∗ (∃ f, (vT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The columns a tile fetches, as a memref. -/
abbrev obB : Memref sig .scVector .hbm S3x200x128 .i32 :=
  obM.slice (Rect.unit (s := S3x200x4096) (k0_off1 L) S3x200x128.size (k0_off1_inb L)) (fun _ => rfl)
theorem set_obB : (obB L).view.set = Os L := by
  refine (View.set_slice_whole _ _).trans (Finset.ext fun i => ?_)
  rw [Rect.mem_set_unit, mem_Os]
  have h0 : (i 0).val < 3 := (i 0).isLt
  have h1 : (i 1).val < 200 := (i 1).isLt
  have hb : 256 * (L 1).val + 128 * (L 0).val = base L := rfl
  constructor
  · intro h; have := h 2; rw [k0_off1_eq] at this; simp at this; omega
  · intro h a; rw [k0_off1_eq]
    fin_cases a
    · exact ⟨Nat.zero_le _, by show (i 0).val < 0 + 3; omega⟩
    · exact ⟨Nat.zero_le _, by show (i 1).val < 0 + 200; omega⟩
    · exact ⟨h.1, h.2⟩

/-- The credit of the fetch. -/
abbrev NI : ℕ := (ovM).view.dmaCredit
theorem NI_pos : 0 < NI := sig.dmaCredit_pos _ _ _ _ _ (by decide)

/-- A wait after the trips: the half and its last group come back. -/
theorem last_wait (fo : S3x200x4096.Idx → BitVec 32) (sm : DmaSem sig) (p : ℕ) (O : CellTallies nD τ sig (HIx 1)) (W : Waits sig (HIx 1))
    {α : Type} (srcw : Memref sig .scVector .vmem S8x3072 .f32) (dstw : Memref sig .scVector .hbm S8x3072 .f32) (hs : srcw.view.WordExact) (hd : dstw.view.WordExact)
    (hN : dstw.view.dmaCredit = NO) (k : PUnit → Prog (TpuEff nD τ sig (Elt F) Λ₀ (.scVector (cV L) (jV L))) α) (Q : α → sProp 𝕄) :
    iprop(Transfers.MayWaits (vT d L) (none : HIx 1) O ∗ halfSt (F := F) d L fo sm p 8 ∗ owed (F := F) d L O W
        ∗ ((anyH (F := F) d L p ∗ semVal ((vT d L, .dma sm) : GSem nD τ sig) 0 ∗ outG (F := F) d L fo (14 + p) ∗ owed (F := F) d L O W)
          -∗ wp frame (wpE (defs₀ (F := F)) 𝒱₀ (vT d L) none) Set.univ (k ⟨⟩) Q))
      ⊢ wp frame (wpE (defs₀ (F := F)) 𝒱₀ (vT d L) none) Set.univ (.op (.waitDma2 sm srcw dstw hs hd) k) Q := by
  unfold halfSt
  rw [if_neg (by omega)]
  unfold owed
  iintro ⟨Hmw, Hh, ⟨%W', %hW', HO⟩, HQ⟩
  ihave Hm1 := (Transfers.MayWaits.elim (SemLoc.dma sm)) $$ Hmw
  iapply (Transfers.wp_waitLocalO EC 𝒱₀ (vT d L) none (none : HIx 1) hN) $$ [Hh HO Hm1]
  · isplitl [Hh]; · iexact Hh
    isplitl [HO]; · iexact HO
    iexact Hm1
  iintro ⟨⟨HA, HG⟩, Hs, HO⟩
  iapply HQ
  isplitl [HA]; · iexact HA
  isplitl [Hs]; · iexact Hs
  isplitl [HG]; · iexact HG
  iexists (insert (SemLoc.dma sm, (none : HIx 1)) W')
  isplitr
  · ipureintro
    intro q hq
    rcases Finset.mem_insert.mp hq with rfl | hq
    · exact .inr rfl
    · exact hW' q hq
  · iexact HO

/-- What a tile is handed, and what it hands back: its columns of observations, kept, and its rows of boxes, written. -/
def tileGo (fo : S3x200x4096.Idx → BitVec 32) (fb : Buf (Elt F) (bxLoc d)) : sProp 𝕄 :=
  iprop((obLoc d ↦[Os L]{fullShare} (fo : Buf (Elt F) (obLoc d))) ∗ bxLoc d ↦[Rs L]{fullShare} fb)

/-- The task of a tile: from its columns, all bytes, and its rows at anything, to its rows at the boxes. -/
theorem tile_body (fo : S3x200x4096.Idx → BitVec 32) (hfo : ∀ i, (fo i).toNat < 256) (fb : Buf (Elt F) (bxLoc d)) (hF : (K (F := F)).Facts)
    (O : CellTallies nD τ sig (HIx 1)) (W : Waits sig (HIx 1)) (hO : ∀ g, O g none = 0) :
    iprop(levAts (K (F := F)).L (K (F := F)).lev ∗ emp ∗ tileGo d L fo fb ∗ scopedBufs (vT d L) ∗ scopedSems0 (vT d L) ∗ owes (vT d L) O W)
      ⊢ wp frame (wpE (defs₀ (F := F)) 𝒱₀ (vT d L) none) Set.univ
          (cc0_sck (F := F) L obM (Memref.isWhole_whole _) bxM (Memref.isWhole_whole _) ovM (Memref.isWhole_whole _) bvM (Memref.isWhole_whole _)
            cc0_scratch2 cc0_scratch3 cc0_scoped0)
          fun _ => iprop(tileGo d L fo (Tgt (F := F) fo) ∗ scopedBufs (vT d L) ∗ scopedSems0 (vT d L)
            ∗ ∃ W', ⌜∀ p ∈ W', p ∈ W ∨ p.2 = none⌝ ∗ owes (vT d L) O W') := by
  simp only [cc0_sck_eq_skeleton]
  unfold cc0_sck_skel
  simp only [k0_part6_eq_skeleton]
  unfold k0_part6_skel
  simp only [Prog.lift, Prog.bind_op, Prog.bind_ret, Prog.pure_eq_ret, bind_assoc]
  rw [(K (F := F)).scopedBufs_V hF d (cV L) (jV L), SparseCore.Cfg.scopedSems0_V (Val := Elt F) d (cV L) (jV L), ownSems0_V, ownBufs_V]
  unfold tileGo
  iintro ⟨#Hlv, -, ⟨Hob, Hbx⟩, ⟨⟨%f0, H4⟩, ⟨%f1, H5⟩, Hbufs⟩, ⟨Hs0, Hs1, HsR, Hsems⟩, HO⟩
  ihave Hmw0 := ((K (F := F)).mayWaits_none (thr := vT d L) hO) $$ Hlv
  icases Hmw0 with #Hmw
  iapply (Transfers.wp_dmaLocal EC 𝒱₀ (vT d L) none (none : HIx 1) NI rfl NI_pos (src := obB L) (dst := ovM) (q := fullShare) (fs := fo) (fd := f0)
    (Sd := Finset.univ) (Finset.subset_univ _)) $$ [Hob H4 HsR]
  · isplitl [Hob]
    · rw [set_obB]; iexact Hob
    isplitl [H4]; · iexact H4
    iexact HsR
  iintro Hf
  ihave Hm1 := (Transfers.MayWaits.elim (SemLoc.dma cc0_scoped0.sem)) $$ Hmw
  iapply (Transfers.wp_waitLocalO EC 𝒱₀ (vT d L) none (none : HIx 1) (N := NI) rfl) $$ [Hf HO Hm1]
  · isplitl [Hf]; · iexact Hf
    isplitl [HO]; · iexact HO
    iexact Hm1
  iintro ⟨⟨H4, Hob⟩, HsR, HO⟩
  rw [View.write_whole_univ]
  have hblk : Blk L fo ((obB L).view.read (Elt F) fo) := blk_read L fo
  have hby : ∀ i, ((obB L).view.read (Elt F) fo i : BitVec 32).toNat < 256 := fun i => hfo _
  generalize (obB L).view.read (Elt F) fo = f4 at hblk hby
  ihave Hh := (halves_split d L f1) $$ H5
  icases Hh with ⟨HA0, HA1⟩
  iapply (Scf.wp_for_bind frame (wpE (defs₀ (F := F)) 𝒱₀ (vT d L) none) Set.univ _ _ _ k0_t1_ok ⟨⟩ _ (fun u _ => runInv d L fo f4 O W fb u) ?_) $$ [H4 HA0 HA1 Hs0 Hs1 HO Hbx]
  · intro t acc
    exact run_trip d L fo f4 hby hblk O W _ t fb
  · iapply (run_start d L fo f4 O W fb)
    isplitr; · iexact Hmw
    isplitl [H4]; · iexact H4
    isplitl [HA0]; · iexact HA0
    isplitl [Hs0]; · iexact Hs0
    isplitl [HA1]; · iexact HA1
    isplitl [Hs1]; · iexact Hs1
    isplitl [HO]
    · unfold owed
      iexists _
      isplitr
      rotate_left
      · iexact HO
      · ipureintro
        intro q hq
        rcases Finset.mem_insert.mp hq with rfl | hq
        · exact .inr rfl
        · exact .inl hq
    iexact Hbx
  iintro %_ H
  rw [show Scf.trips k0_t1_loop.lb k0_t1_loop.ub k0_t1_loop.st = 8 by decide]
  unfold runInv tripInv
  icases H with ⟨⟨-, H4, Hh0, Hh1, HO⟩, -, Hdone⟩
  iapply (last_wait d L fo cc0_scratch2.sem 0 O W _ _ _ _ rfl)
  isplitr; · iexact Hmw
  isplitl [Hh0]; · iexact Hh0
  isplitl [HO]; · iexact HO
  iintro ⟨HA0, Hs0, Hg0, HO⟩
  iapply (last_wait d L fo cc0_scratch3.sem 1 O W _ _ _ _ rfl)
  isplitr; · iexact Hmw
  isplitl [Hh1]; · iexact Hh1
  isplitl [HO]; · iexact HO
  iintro ⟨HA1, Hs1, Hg1, HO⟩
  rw [wp_ret]; imodintro
  ihave Hall := (done_two d L fo 7) $$ [Hdone Hg0 Hg1]
  · isplitl [Hdone]; · iexact Hdone
    isplitl [Hg0]; · iexact Hg0
    iexact Hg1
  ihave H5 := (halves_join d L) $$ [HA0 HA1]
  · isplitl [HA0]; · iexact HA0
    iexact HA1
  isplitl [Hob Hall]
  · isplitl [Hob]
    · rw [set_obB]; iexact Hob
    · rw [pts_groups]; unfold doneG outG; iexact Hall
  isplitl [H4 H5 Hbufs]
  · isplitl [H4]
    · iexists f4; iexact H4
    isplitl [H5]; · iexact H5
    iexact Hbufs
  isplitl [Hs0 Hs1 HsR Hsems]
  · isplitl [Hs0]; · iexact Hs0
    isplitl [Hs1]; · iexact Hs1
    isplitl [HsR]; · iexact HsR
    iexact Hsems
  unfold owed
  iexact HO

end Cert.KernelIdeal.Sc
-- ==== Proof.IDense.lean ====
/-
  The TensorCore call: one run of its body as functions of the blocks it reads, and the call over the whole arrays.
-/
module

public import proofs.«01_k».proof.Proof.ISetup
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A memref's buffer on a device's TensorCore: its contents, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The first head, the second head and the value of a block of rows, from the blocks the body reads. -/
def head0 (X1 : Vec F S512x3072 .f32) (X2 : Vec F S3072x1280 .bf16) (X3 : Vec F S1152x128 .f32) (X4 : Vec F S128x256 .f32) (X5 : Vec F S24x256 .f32)
    (X6 : Vec F S1x1152 .f32) (X7 : Vec F S1x128 .f32) (X8 X9 : Vec F S1x256 .f32) (A B : Vec F S256x128 .f32) (C : Vec F S1x128 .f32) : FVec F S512x128 .f32 :=
  k1_pay6 (k1_pay3 X1 X2 X5 X9) (k1_pay4 X1 X2 X6 X3 X7 X4) X8 A B C
def head1 (X1 : Vec F S512x3072 .f32) (X2 : Vec F S3072x1280 .bf16) (X3 : Vec F S1152x128 .f32) (X4 : Vec F S128x256 .f32) (X5 : Vec F S24x256 .f32)
    (X6 : Vec F S1x1152 .f32) (X7 : Vec F S1x128 .f32) (X8 X9 : Vec F S1x256 .f32) (A B : Vec F S256x256 .f32) (C : Vec F S1x256 .f32) : FVec F S512x256 .f32 :=
  k1_pay7 (k1_pay3 X1 X2 X5 X9) (k1_pay4 X1 X2 X6 X3 X7 X4) X8 A B C
def headV (X1 : Vec F S512x3072 .f32) (X2 : Vec F S3072x1280 .bf16) (X3 : Vec F S1152x128 .f32) (X4 : Vec F S128x256 .f32) (X5 : Vec F S24x256 .f32)
    (X6 : Vec F S1x1152 .f32) (X7 : Vec F S1x128 .f32) (X8 X9 : Vec F S1x256 .f32) (A B : Vec F S256x128 .f32) (C : Vec F S1x128 .f32) : FVec F S512x128 .f32 :=
  k1_pay1 (k1_pay5 (k1_pay4 X1 X2 X6 X3 X7 X4) X8) (k1_pay8 (k1_pay3 X1 X2 X5 X9) A) B C

/-- A whole buffer read through the rectangle of all its elements. -/
theorem readAt_all {sp : Space} {S : Shape} {e : EltTy} (M : Memref sig .tc sp S e) (f : M.view.ty.Contents (Elt F)) {off : Fin S.rank → ℕ} (h : ∀ a, off a = 0)
    (hb : ∀ a, off a + S.size a ≤ S.size a) : M.view.readAt (Elt F) (Rect.unit off S.size hb).toLoadRect f = M.view.read (Elt F) f := by
  exact View.ld_unit_zero (funext h) hb _

/-- What one store of a whole buffer leaves to read. -/
theorem read_one {sp : Space} {S : Shape} {e : EltTy} (M : Memref sig .tc sp S e) (f : M.view.ty.Contents (Elt F)) {off : Fin S.rank → ℕ} (h : ∀ a, off a = 0)
    (hb : ∀ a, off a + S.size a ≤ S.size a) (w : S.Idx → Elt F e) :
    M.view.read (Elt F) (M.view.writes (Elt F) f [⟨Rect.unit off S.size hb, w⟩]) = w := by
  have e := View.read_writes_eq_canon M.view f [(⟨Rect.unit off S.size hb, w⟩ : View.Piece (Elt F) S e)]
    fun y => ⟨_, List.mem_singleton_self _, View.mem_set_unit_zero (funext h) hb y⟩
  exact e.trans (View.canon_unit_zero (funext h) hb w)

theorem hz2 : ∀ a : Fin 2, (![0, 0] : Fin 2 → ℕ) a = 0 := fun a => by fin_cases a <;> rfl

/-- One run of the body: every input block as it was, the three results at the heads of the blocks read. -/
theorem dense_run (c : Dev nD) (i : grid1.Coords) (M1 : Memref sig .tc .vmem S512x3072 .f32) (h1 : M1.IsWhole) (M2 : Memref sig .tc .vmem S3072x1280 .bf16) (h2 : M2.IsWhole) (M3 : Memref sig .tc .vmem S1152x128 .f32) (h3 : M3.IsWhole) (M4 : Memref sig .tc .vmem S128x256 .f32) (h4 : M4.IsWhole) (M5 : Memref sig .tc .vmem S24x256 .f32) (h5 : M5.IsWhole) (M6 : Memref sig .tc .vmem S1x1152 .f32) (h6 : M6.IsWhole) (M7 : Memref sig .tc .vmem S1x128 .f32) (h7 : M7.IsWhole) (M8 : Memref sig .tc .vmem S1x256 .f32) (h8 : M8.IsWhole) (M9 : Memref sig .tc .vmem S1x256 .f32) (h9 : M9.IsWhole) (M10 : Memref sig .tc .vmem S256x128 .f32) (h10 : M10.IsWhole) (M11 : Memref sig .tc .vmem S256x128 .f32) (h11 : M11.IsWhole) (M12 : Memref sig .tc .vmem S256x256 .f32) (h12 : M12.IsWhole) (M13 : Memref sig .tc .vmem S256x256 .f32) (h13 : M13.IsWhole) (M14 : Memref sig .tc .vmem S256x128 .f32) (h14 : M14.IsWhole) (M15 : Memref sig .tc .vmem S256x128 .f32) (h15 : M15.IsWhole) (M16 : Memref sig .tc .vmem S1x128 .f32) (h16 : M16.IsWhole) (M17 : Memref sig .tc .vmem S1x256 .f32) (h17 : M17.IsWhole) (M18 : Memref sig .tc .vmem S1x128 .f32) (h18 : M18.IsWhole) (M19 : Memref sig .tc .vmem S512x128 .f32) (h19 : M19.IsWhole) (M20 : Memref sig .tc .vmem S512x256 .f32) (h20 : M20.IsWhole) (M21 : Memref sig .tc .vmem S512x128 .f32) (h21 : M21.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f19 : Bf (F := F) c M19) (f20 : Bf (F := F) c M20) (f21 : Bf (F := F) c M21) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21
        ∗ (∀ g19 g20 g21, ⌜M19.view.read (Elt F) g19 = head0 (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M16.view.read (Elt F) f16)
            ∧ M20.view.read (Elt F) g20 = head1 (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M12.view.read (Elt F) f12) (M13.view.read (Elt F) f13) (M17.view.read (Elt F) f17)
            ∧ M21.view.read (Elt F) g21 = headV (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M14.view.read (Elt F) f14) (M15.view.read (Elt F) f15) (M18.view.read (Elt F) f18)⌝ -∗ iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 g19 ∗ pt c M20 g20 ∗ pt c M21 g21) -∗ Q ⟨⟩))
      ⊢ wp frame (wpE (defs₀ (F := F)) 𝒱₀ c none) E (cc1__dense_body (F := F) i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  iintro ⟨H1, H2, H3, H4, H5, H6, H7, H8, H9, H10, H11, H12, H13, H14, H15, H16, H17, H18, H19, H20, H21, Hk⟩
  rw [cc1__dense_body_eq_skeleton]
  unfold cc1__dense_body_skel
  rw [k1_part1_eq_skeleton, k1_part2_eq_skeleton]
  unfold k1_part1_skel k1_part2_skel
  sl_exec!
  sl_step
  have e19 : M19.view.read (Elt F) (M19.view.writes (Elt F) M19.view.junk (dense_run.sl.H19_1 c M1 M2 M3 M4 M5 M6 M7 M8 M9 M10 M11 M16 f1 f2 f3 f4 f5 f6 f7 f8 f9 f10 f11 f16)) = head0 (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M16.view.read (Elt F) f16) := by
    unfold dense_run.sl.H19_1 head0
    refine (read_one M19 _ hz2 _ _).trans ?_
    simp only [readAt_all M1 f1 hz2, readAt_all M2 f2 hz2, readAt_all M3 f3 hz2, readAt_all M4 f4 hz2, readAt_all M5 f5 hz2, readAt_all M6 f6 hz2, readAt_all M7 f7 hz2, readAt_all M8 f8 hz2, readAt_all M9 f9 hz2, readAt_all M10 f10 hz2, readAt_all M11 f11 hz2, readAt_all M16 f16 hz2]
  have e20 : M20.view.read (Elt F) (M20.view.writes (Elt F) M20.view.junk (dense_run.sl.H20_1 c M1 M2 M3 M4 M5 M6 M7 M8 M9 M12 M13 M17 f1 f2 f3 f4 f5 f6 f7 f8 f9 f12 f13 f17)) = head1 (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M12.view.read (Elt F) f12) (M13.view.read (Elt F) f13) (M17.view.read (Elt F) f17) := by
    unfold dense_run.sl.H20_1 head1
    refine (read_one M20 _ hz2 _ _).trans ?_
    simp only [readAt_all M1 f1 hz2, readAt_all M2 f2 hz2, readAt_all M3 f3 hz2, readAt_all M4 f4 hz2, readAt_all M5 f5 hz2, readAt_all M6 f6 hz2, readAt_all M7 f7 hz2, readAt_all M8 f8 hz2, readAt_all M9 f9 hz2, readAt_all M12 f12 hz2, readAt_all M13 f13 hz2, readAt_all M17 f17 hz2]
  have e21 : M21.view.read (Elt F) (M21.view.writes (Elt F) M21.view.junk (dense_run.sl.H21_1 c M1 M2 M3 M4 M5 M6 M7 M8 M9 M14 M15 M18 f1 f2 f3 f4 f5 f6 f7 f8 f9 f14 f15 f18)) = headV (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M14.view.read (Elt F) f14) (M15.view.read (Elt F) f15) (M18.view.read (Elt F) f18) := by
    unfold dense_run.sl.H21_1 headV
    refine (read_one M21 _ hz2 _ _).trans ?_
    simp only [readAt_all M1 f1 hz2, readAt_all M2 f2 hz2, readAt_all M3 f3 hz2, readAt_all M4 f4 hz2, readAt_all M5 f5 hz2, readAt_all M6 f6 hz2, readAt_all M7 f7 hz2, readAt_all M8 f8 hz2, readAt_all M9 f9 hz2, readAt_all M14 f14 hz2, readAt_all M15 f15 hz2, readAt_all M18 f18 hz2]
  iapply Hk $$ %_ %_ %_
  · ipureintro; exact ⟨e19, e20, e21⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Sc

end
-- ==== Proof.IRegion.lean ====
/-
  The TensorCore call over its whole arrays: the body at every point, and the call from and to the unscoped buffers.
-/
module

public import proofs.«01_k».proof.Proof.IDense
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- A staging buffer owned whole gives its contents. -/
theorem owns_out (c : Thread nD τ) {sp : Space} {S : Shape} {e : EltTy} (M : Memref sig c.2.kind sp S e) (h : M.IsWhole) (X : S.Idx → Elt F e) :
    (owns c M fullShare X : sProp 𝕄) ⊢ iprop(∃ f : Buf (Elt F) (M.view.loc c), ⌜M.view.read (Elt F) f = X⌝ ∗ (M.view.loc c ↦{fullShare} f)) := by
  unfold owns; rw [h.set_eq_univ]

/-- A staging buffer's contents give it owned whole. -/
theorem owns_back (c : Thread nD τ) {sp : Space} {S : Shape} {e : EltTy} (M : Memref sig c.2.kind sp S e) (h : M.IsWhole) (X : S.Idx → Elt F e)
    (f : Buf (Elt F) (M.view.loc c)) (hf : M.view.read (Elt F) f = X) :
    (M.view.loc c ↦{fullShare} f : sProp 𝕄) ⊢ owns c M fullShare X := by
  unfold owns; rw [h.set_eq_univ]
  iintro H; iexists f; isplitr; · ipureintro; exact hf
  iexact H

/-! ## The call over the arrays -/

variable (V : (c : Dev nD) → (b : Ref sig .tc) → Buf (Elt F) ((c : Thread nD τ).loc b))

/-- A window's block at a point, out of its array at the entry. -/
def blkV (c : Dev nD) (w : Fin cfg1.W) (t : Fin cfg1.N) : (cfg1.win w).block.Idx → Elt F (cfg1.win w).elt :=
  (cfg1.win w).fill (cfg1.grid.coords t) (fun _ => Classical.arbitrary _) (((cfg1.win w).blk t).view.read (Elt F) (V c (Pipeline.arrRef spec1 w)))

/-- The proof data of the call: inputs left as fetched, outputs at the heads of the point's blocks. -/
def dat (c : Dev nD) : Dat τ (Elt F) (HIx 1) ℕ UU ℕ cfg1 c where
  A w := V c (Pipeline.arrRef spec1 w)
  after w t := match w with
    | ⟨18, _⟩ => head0 (blkV V c 0 t) (blkV V c 1 t) (blkV V c 2 t) (blkV V c 3 t) (blkV V c 4 t) (blkV V c 5 t) (blkV V c 6 t) (blkV V c 7 t) (blkV V c 8 t) (blkV V c 9 t) (blkV V c 10 t) (blkV V c 15 t)
    | ⟨19, _⟩ => head1 (blkV V c 0 t) (blkV V c 1 t) (blkV V c 2 t) (blkV V c 3 t) (blkV V c 4 t) (blkV V c 5 t) (blkV V c 6 t) (blkV V c 7 t) (blkV V c 8 t) (blkV V c 11 t) (blkV V c 12 t) (blkV V c 16 t)
    | ⟨20, _⟩ => headV (blkV V c 0 t) (blkV V c 1 t) (blkV V c 2 t) (blkV V c 3 t) (blkV V c 4 t) (blkV V c 5 t) (blkV V c 6 t) (blkV V c 7 t) (blkV V c 8 t) (blkV V c 13 t) (blkV V c 14 t) (blkV V c 17 t)
    | w => blkV V c w t
  Φ _ := Pipeline.scopedRest (Ix := HIx 1) (Name := ℕ) (U := UU) (Lvl := ℕ) (Val := Elt F) spec1 c
  q _ := fullShare
  owed _ := 0
  recorded _ := {p | (K (F := F)).lev ((c.tc : Thread nD τ), p.1) p.2 ≤ 8}

theorem after_in (c : Dev nD) (w : Fin cfg1.W) (h : w.val < 18) (t : Fin cfg1.N) : (dat V c).after w t = blkV V c w t := by
  obtain ⟨v, hv⟩ := w
  have h' : v < 18 := h
  clear h
  interval_cases v <;> rfl

/-- A fetch of an input window fills all of its buffer. -/
theorem fetched_in (c : Dev nD) (w : Fin cfg1.W) (h : w.val < 18) (t : Fin cfg1.N) (dd : (cfg1.win w).block.Idx → Elt F (cfg1.win w).elt) :
    (dat V c).fetched w t dd = blkV V c w t := by
  obtain ⟨v, hv⟩ := w
  have h' : v < 18 := h
  clear h
  interval_cases v <;> rfl

theorem cut_in (c : Dev nD) (w : Fin cfg1.W) (h : w.val < 18) (t : Fin cfg1.N) :
    (cfg1.win w).cut (cfg1.grid.coords t) (blkV V c w t) = (dat V c).blockOf w t :=
  funext fun j => (cfg1.win w).fill_xinj _ _ _ j

theorem clip_in (w : Fin cfg1.W) (h : w.val < 18) (i i' : cfg1.grid.Coords) : (cfg1.win w).clip i = (cfg1.win w).clip i' := by
  obtain ⟨v, hv⟩ := w
  have h' : v < 18 := h
  clear h
  interval_cases v <;> rfl

theorem isOut_in (w : Fin cfg1.W) (h : w.val < 18) : (cfg1.win w).isOut = false := by
  obtain ⟨v, hv⟩ := w
  have h' : v < 18 := h
  clear h
  interval_cases v <;> rfl

/-- An input window's buffer holds its block at every point, fetched there or not. -/
theorem before_in (c : Dev nD) (w : Fin cfg1.W) (h : w.val < 18) (t : Fin cfg1.N) (dd : (cfg1.win w).block.Idx → Elt F (cfg1.win w).elt) :
    (dat V c).before w t dd = blkV V c w t :=
  ((dat V c).before_in_eq_fetched w (isOut_in w h) (fun _ => rfl) (fun _ _ _ => clip_in w h _ _)
    (fun t => (congrArg _ (after_in V c w h t)).trans (cut_in V c w h t)) t dd).trans (fetched_in V c w h t dd)

set_option maxHeartbeats 4000000 in
/-- The body runs at every point. -/
theorem body_obligation (c : Dev nD) : BodyObligation (dat V c) (defs₀ (F := F)) 𝒱₀ (none : HIx 1) Set.univ := fun t => by
  rw [bigSep_W1, bigSep_W1]
  rw [show (dat V c).Φ t.castSucc = (dat V c).Φ t.succ from rfl,
    show (dat V c).owesAt (none : HIx 1) t.succ = (dat V c).owesAt (none : HIx 1) t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  ihave G := (owns_out c.tc ((cfg1.win 0).stage (cfg1.slots t 0)) (stage_whole1 0 _) _) $$ H0
  icases G with ⟨%f0, %hf0, H0⟩
  ihave G := (owns_out c.tc ((cfg1.win 1).stage (cfg1.slots t 1)) (stage_whole1 1 _) _) $$ H1
  icases G with ⟨%f1, %hf1, H1⟩
  ihave G := (owns_out c.tc ((cfg1.win 2).stage (cfg1.slots t 2)) (stage_whole1 2 _) _) $$ H2
  icases G with ⟨%f2, %hf2, H2⟩
  ihave G := (owns_out c.tc ((cfg1.win 3).stage (cfg1.slots t 3)) (stage_whole1 3 _) _) $$ H3
  icases G with ⟨%f3, %hf3, H3⟩
  ihave G := (owns_out c.tc ((cfg1.win 4).stage (cfg1.slots t 4)) (stage_whole1 4 _) _) $$ H4
  icases G with ⟨%f4, %hf4, H4⟩
  ihave G := (owns_out c.tc ((cfg1.win 5).stage (cfg1.slots t 5)) (stage_whole1 5 _) _) $$ H5
  icases G with ⟨%f5, %hf5, H5⟩
  ihave G := (owns_out c.tc ((cfg1.win 6).stage (cfg1.slots t 6)) (stage_whole1 6 _) _) $$ H6
  icases G with ⟨%f6, %hf6, H6⟩
  ihave G := (owns_out c.tc ((cfg1.win 7).stage (cfg1.slots t 7)) (stage_whole1 7 _) _) $$ H7
  icases G with ⟨%f7, %hf7, H7⟩
  ihave G := (owns_out c.tc ((cfg1.win 8).stage (cfg1.slots t 8)) (stage_whole1 8 _) _) $$ H8
  icases G with ⟨%f8, %hf8, H8⟩
  ihave G := (owns_out c.tc ((cfg1.win 9).stage (cfg1.slots t 9)) (stage_whole1 9 _) _) $$ H9
  icases G with ⟨%f9, %hf9, H9⟩
  ihave G := (owns_out c.tc ((cfg1.win 10).stage (cfg1.slots t 10)) (stage_whole1 10 _) _) $$ H10
  icases G with ⟨%f10, %hf10, H10⟩
  ihave G := (owns_out c.tc ((cfg1.win 11).stage (cfg1.slots t 11)) (stage_whole1 11 _) _) $$ H11
  icases G with ⟨%f11, %hf11, H11⟩
  ihave G := (owns_out c.tc ((cfg1.win 12).stage (cfg1.slots t 12)) (stage_whole1 12 _) _) $$ H12
  icases G with ⟨%f12, %hf12, H12⟩
  ihave G := (owns_out c.tc ((cfg1.win 13).stage (cfg1.slots t 13)) (stage_whole1 13 _) _) $$ H13
  icases G with ⟨%f13, %hf13, H13⟩
  ihave G := (owns_out c.tc ((cfg1.win 14).stage (cfg1.slots t 14)) (stage_whole1 14 _) _) $$ H14
  icases G with ⟨%f14, %hf14, H14⟩
  ihave G := (owns_out c.tc ((cfg1.win 15).stage (cfg1.slots t 15)) (stage_whole1 15 _) _) $$ H15
  icases G with ⟨%f15, %hf15, H15⟩
  ihave G := (owns_out c.tc ((cfg1.win 16).stage (cfg1.slots t 16)) (stage_whole1 16 _) _) $$ H16
  icases G with ⟨%f16, %hf16, H16⟩
  ihave G := (owns_out c.tc ((cfg1.win 17).stage (cfg1.slots t 17)) (stage_whole1 17 _) _) $$ H17
  icases G with ⟨%f17, %hf17, H17⟩
  ihave G := (owns_out c.tc ((cfg1.win 18).stage (cfg1.slots t 18)) (stage_whole1 18 _) _) $$ H18
  icases G with ⟨%f18, %hf18, H18⟩
  ihave G := (owns_out c.tc ((cfg1.win 19).stage (cfg1.slots t 19)) (stage_whole1 19 _) _) $$ H19
  icases G with ⟨%f19, %hf19, H19⟩
  ihave G := (owns_out c.tc ((cfg1.win 20).stage (cfg1.slots t 20)) (stage_whole1 20 _) _) $$ H20
  icases G with ⟨%f20, %hf20, H20⟩
  rw [before_in V c 0 (by decide)] at hf0
  rw [before_in V c 1 (by decide)] at hf1
  rw [before_in V c 2 (by decide)] at hf2
  rw [before_in V c 3 (by decide)] at hf3
  rw [before_in V c 4 (by decide)] at hf4
  rw [before_in V c 5 (by decide)] at hf5
  rw [before_in V c 6 (by decide)] at hf6
  rw [before_in V c 7 (by decide)] at hf7
  rw [before_in V c 8 (by decide)] at hf8
  rw [before_in V c 9 (by decide)] at hf9
  rw [before_in V c 10 (by decide)] at hf10
  rw [before_in V c 11 (by decide)] at hf11
  rw [before_in V c 12 (by decide)] at hf12
  rw [before_in V c 13 (by decide)] at hf13
  rw [before_in V c 14 (by decide)] at hf14
  rw [before_in V c 15 (by decide)] at hf15
  rw [before_in V c 16 (by decide)] at hf16
  rw [before_in V c 17 (by decide)] at hf17
  iapply (dense_run c (grid1.coords t) ((cfg1.win 0).stage (cfg1.slots t 0)) (stage_whole1 0 _) ((cfg1.win 1).stage (cfg1.slots t 1)) (stage_whole1 1 _) ((cfg1.win 2).stage (cfg1.slots t 2)) (stage_whole1 2 _) ((cfg1.win 3).stage (cfg1.slots t 3)) (stage_whole1 3 _) ((cfg1.win 4).stage (cfg1.slots t 4)) (stage_whole1 4 _) ((cfg1.win 5).stage (cfg1.slots t 5)) (stage_whole1 5 _) ((cfg1.win 6).stage (cfg1.slots t 6)) (stage_whole1 6 _) ((cfg1.win 7).stage (cfg1.slots t 7)) (stage_whole1 7 _) ((cfg1.win 8).stage (cfg1.slots t 8)) (stage_whole1 8 _) ((cfg1.win 9).stage (cfg1.slots t 9)) (stage_whole1 9 _) ((cfg1.win 10).stage (cfg1.slots t 10)) (stage_whole1 10 _) ((cfg1.win 11).stage (cfg1.slots t 11)) (stage_whole1 11 _) ((cfg1.win 12).stage (cfg1.slots t 12)) (stage_whole1 12 _) ((cfg1.win 13).stage (cfg1.slots t 13)) (stage_whole1 13 _) ((cfg1.win 14).stage (cfg1.slots t 14)) (stage_whole1 14 _) ((cfg1.win 15).stage (cfg1.slots t 15)) (stage_whole1 15 _) ((cfg1.win 16).stage (cfg1.slots t 16)) (stage_whole1 16 _) ((cfg1.win 17).stage (cfg1.slots t 17)) (stage_whole1 17 _) ((cfg1.win 18).stage (cfg1.slots t 18)) (stage_whole1 18 _) ((cfg1.win 19).stage (cfg1.slots t 19)) (stage_whole1 19 _) ((cfg1.win 20).stage (cfg1.slots t 20)) (stage_whole1 20 _) f0 f1 f2 f3 f4 f5 f6 f7 f8 f9 f10 f11 f12 f13 f14 f15 f16 f17 f18 f19 f20 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iintro %g18 %g19 %g20 %hg
  obtain ⟨hg18, hg19, hg20⟩ := hg
  iintro ⟨H0, H1, H2, H3, H4, H5, H6, H7, H8, H9, H10, H11, H12, H13, H14, H15, H16, H17, H18, H19, H20⟩
  isplitl [HΦ]; · iexact HΦ
  isplitl [Howes]; · iexact Howes
  isplitl [H0]; · iapply (owns_back c.tc ((cfg1.win 0).stage (cfg1.slots t 0)) (stage_whole1 0 _) _ _ (hf0.trans (after_in V c 0 (by decide) t).symm)); iexact H0
  isplitl [H1]; · iapply (owns_back c.tc ((cfg1.win 1).stage (cfg1.slots t 1)) (stage_whole1 1 _) _ _ (hf1.trans (after_in V c 1 (by decide) t).symm)); iexact H1
  isplitl [H2]; · iapply (owns_back c.tc ((cfg1.win 2).stage (cfg1.slots t 2)) (stage_whole1 2 _) _ _ (hf2.trans (after_in V c 2 (by decide) t).symm)); iexact H2
  isplitl [H3]; · iapply (owns_back c.tc ((cfg1.win 3).stage (cfg1.slots t 3)) (stage_whole1 3 _) _ _ (hf3.trans (after_in V c 3 (by decide) t).symm)); iexact H3
  isplitl [H4]; · iapply (owns_back c.tc ((cfg1.win 4).stage (cfg1.slots t 4)) (stage_whole1 4 _) _ _ (hf4.trans (after_in V c 4 (by decide) t).symm)); iexact H4
  isplitl [H5]; · iapply (owns_back c.tc ((cfg1.win 5).stage (cfg1.slots t 5)) (stage_whole1 5 _) _ _ (hf5.trans (after_in V c 5 (by decide) t).symm)); iexact H5
  isplitl [H6]; · iapply (owns_back c.tc ((cfg1.win 6).stage (cfg1.slots t 6)) (stage_whole1 6 _) _ _ (hf6.trans (after_in V c 6 (by decide) t).symm)); iexact H6
  isplitl [H7]; · iapply (owns_back c.tc ((cfg1.win 7).stage (cfg1.slots t 7)) (stage_whole1 7 _) _ _ (hf7.trans (after_in V c 7 (by decide) t).symm)); iexact H7
  isplitl [H8]; · iapply (owns_back c.tc ((cfg1.win 8).stage (cfg1.slots t 8)) (stage_whole1 8 _) _ _ (hf8.trans (after_in V c 8 (by decide) t).symm)); iexact H8
  isplitl [H9]; · iapply (owns_back c.tc ((cfg1.win 9).stage (cfg1.slots t 9)) (stage_whole1 9 _) _ _ (hf9.trans (after_in V c 9 (by decide) t).symm)); iexact H9
  isplitl [H10]; · iapply (owns_back c.tc ((cfg1.win 10).stage (cfg1.slots t 10)) (stage_whole1 10 _) _ _ (hf10.trans (after_in V c 10 (by decide) t).symm)); iexact H10
  isplitl [H11]; · iapply (owns_back c.tc ((cfg1.win 11).stage (cfg1.slots t 11)) (stage_whole1 11 _) _ _ (hf11.trans (after_in V c 11 (by decide) t).symm)); iexact H11
  isplitl [H12]; · iapply (owns_back c.tc ((cfg1.win 12).stage (cfg1.slots t 12)) (stage_whole1 12 _) _ _ (hf12.trans (after_in V c 12 (by decide) t).symm)); iexact H12
  isplitl [H13]; · iapply (owns_back c.tc ((cfg1.win 13).stage (cfg1.slots t 13)) (stage_whole1 13 _) _ _ (hf13.trans (after_in V c 13 (by decide) t).symm)); iexact H13
  isplitl [H14]; · iapply (owns_back c.tc ((cfg1.win 14).stage (cfg1.slots t 14)) (stage_whole1 14 _) _ _ (hf14.trans (after_in V c 14 (by decide) t).symm)); iexact H14
  isplitl [H15]; · iapply (owns_back c.tc ((cfg1.win 15).stage (cfg1.slots t 15)) (stage_whole1 15 _) _ _ (hf15.trans (after_in V c 15 (by decide) t).symm)); iexact H15
  isplitl [H16]; · iapply (owns_back c.tc ((cfg1.win 16).stage (cfg1.slots t 16)) (stage_whole1 16 _) _ _ (hf16.trans (after_in V c 16 (by decide) t).symm)); iexact H16
  isplitl [H17]; · iapply (owns_back c.tc ((cfg1.win 17).stage (cfg1.slots t 17)) (stage_whole1 17 _) _ _ (hf17.trans (after_in V c 17 (by decide) t).symm)); iexact H17
  isplitl [H18]; · iapply (owns_back c.tc ((cfg1.win 18).stage (cfg1.slots t 18)) (stage_whole1 18 _) _ _ (hg18.trans (by rw [hf0, hf1, hf2, hf3, hf4, hf5, hf6, hf7, hf8, hf9, hf10, hf15]; rfl))); iexact H18
  isplitl [H19]; · iapply (owns_back c.tc ((cfg1.win 19).stage (cfg1.slots t 19)) (stage_whole1 19 _) _ _ (hg19.trans (by rw [hf0, hf1, hf2, hf3, hf4, hf5, hf6, hf7, hf8, hf11, hf12, hf16]; rfl))); iexact H19
  iapply (owns_back c.tc ((cfg1.win 20).stage (cfg1.slots t 20)) (stage_whole1 20 _) _ _ (hg20.trans (by rw [hf0, hf1, hf2, hf3, hf4, hf5, hf6, hf7, hf8, hf13, hf14, hf17]; rfl))); iexact H20

end Cert.KernelIdeal.Sc
-- ==== Proof.IReg.lean ====
/-
  The TensorCore call over its whole arrays: the body at every point, and the call from and to the unscoped buffers.
-/
module

public import proofs.«01_k».proof.Proof.IRegion
public import Idealize.ShloMosaic.Lib.Pipeline.RegionsLoop
public import proofs.«01_k».proof.Proof.IDense
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-- No table is prefetched. -/
abbrev adm0 : (p : Fin 1) → (pcfgs (F := F) p).Adm := fun p => (cfgs p).toPCfg_adm

/-- The call's one proof data. -/
def pdats : (p : Fin 1) → (c : Dev nD) → Dat τ (Elt F) (HIx 1) ℕ UU ℕ (Pipeline.pin (pcfgs (F := F)) adm0 p) c :=
  fun _ c => dat V c

/-- The three results' arrays after the call. -/
def res0 (c : Dev nD) : Buf (Elt F) ((c : Thread nD τ).loc main_v170_0) := (dat V c).arrAt 18 cfg1.N
def res1 (c : Dev nD) : Buf (Elt F) ((c : Thread nD τ).loc main_v170_1) := (dat V c).arrAt 19 cfg1.N
def res2 (c : Dev nD) : Buf (Elt F) ((c : Thread nD τ).loc main_v170_2) := (dat V c).arrAt 20 cfg1.N

variable (Vp : (c : Dev nD) → (b : Ref sig .tc) → Buf (Elt F) ((c : Thread nD τ).loc b))

/-- The core owes nothing, its recorded waits at the calls' levels before the second. -/
def owesLow (c : Dev nD) : sProp 𝕄 :=
  iprop(∃ W, ⌜∀ p ∈ W, (K (F := F)).lev ((c.tc : Thread nD τ), p.1) p.2 ≤ 8⌝ ∗ owes (c : Thread nD τ) (0 : CellTallies nD τ sig (HIx 1)) W)

theorem low_of_bound (c : Dev nD) (t : Fin (cfg1.N + 1)) (p : SemLoc sig × HIx 1) (h : p ∈ (dat V c).bound (none : HIx 1) t) :
    (K (F := F)).lev ((c.tc : Thread nD τ), p.1) p.2 ≤ 8 := by
  rcases h with h | ⟨w, s, h⟩
  · exact h
  · subst h; exact Nat.zero_le _

/-- No input's array is a result's. -/
theorem arr_ne : ∀ w : Fin 21, w.val < 18 →
    Pipeline.arrRef spec1 w ≠ main_v170_0 ∧ Pipeline.arrRef spec1 w ≠ main_v170_1 ∧ Pipeline.arrRef spec1 w ≠ main_v170_2 := by decide

/-- An input's array is left as it was, and a result's is the one named. -/
theorem arr_after (h0 : ∀ c, Vp c main_v170_0 = res0 V c) (h1 : ∀ c, Vp c main_v170_1 = res1 V c) (h2 : ∀ c, Vp c main_v170_2 = res2 V c)
    (hne : ∀ c (b : Ref sig .tc), b ≠ main_v170_0 → b ≠ main_v170_1 → b ≠ main_v170_2 → Vp c b = V c b) (c : Dev nD) (w : Fin cfg1.W) :
    (dat V c).arrAt w cfg1.N = Vp c (Pipeline.arrRef spec1 w) := by
  by_cases h : w.val < 18
  · obtain ⟨n0, n1, n2⟩ := arr_ne w h
    exact ((dat V c).arrAt_in w (isOut_in w h) _).trans (hne c _ n0 n1 n2).symm
  · have hw : w = 18 ∨ w = 19 ∨ w = 20 := by
      have h1 : w.val < 21 := w.isLt
      rcases (show w.val = 18 ∨ w.val = 19 ∨ w.val = 20 by omega) with e | e | e
      exacts [Or.inl (Fin.ext e), Or.inr (Or.inl (Fin.ext e)), Or.inr (Or.inr (Fin.ext e))]
    rcases hw with rfl | rfl | rfl
    exacts [(h0 c).symm, (h1 c).symm, (h2 c).symm]

theorem pdats_Φ (c : Dev nD) (t : Fin (cfg1.N + 1)) :
    (pdats V 0 c).Φ t = Pipeline.scopedRest (Ix := HIx 1) (Name := ℕ) (U := UU) (Lvl := ℕ) (Val := Elt F) spec1 c := rfl

set_option backward.isDefEq.respectTransparency.types false in
/-- The call from the unscoped buffers at one valuation to the same buffers at another, which differs by the three results. -/
def reg (h0 : ∀ c, Vp c main_v170_0 = res0 V c) (h1 : ∀ c, Vp c main_v170_1 = res1 V c) (h2 : ∀ c, Vp c main_v170_2 = res2 V c)
    (hne : ∀ c (b : Ref sig .tc), b ≠ main_v170_0 → b ≠ main_v170_1 → b ≠ main_v170_2 → Vp c b = V c b)
    :
    Pipeline.RegionSeg (pcfgs (F := F)) adm0 (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesLow c)
  post c := iprop(unscopedBufs c (Vp c) ∗ owesLow c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm0 (pdats V) (launch1).win (launch1).arr_whole c
      ((pdats V 0 c).share_full fun _ => rfl) (V c) fun _ => rfl
    unfold owesLow
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W; isplitr; · ipureintro; exact fun p hp => Or.inl (hW p hp)
      iexact HO
    isplitr; · iempintro
    iexact Hrest
  hin c := by
    rw [pdats_Φ V c 0]
    iintro ⟨-, -, Hr⟩; iexact Hr
  hout c := by
    rw [Pipeline.ownSems0_none, pdats_Φ V c (Fin.last cfg1.N)]
    iintro Hr
    isplitr; · iempintro
    isplitr; · iempintro
    iexact Hr
  hexit c := by
    have hjoin := Pipeline.unscopedBufs_of_arrays (p := 0) (pcfgs (F := F)) adm0 (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => (arr_after V Vp h0 h1 h2 hne c w))
      (fun b hb => hne c b (fun h => hb (h ▸ Finset.mem_image.mpr ⟨18, Finset.mem_univ _, rfl⟩)) (fun h => hb (h ▸ Finset.mem_image.mpr ⟨19, Finset.mem_univ _, rfl⟩))
        (fun h => hb (h ▸ Finset.mem_image.mpr ⟨20, Finset.mem_univ _, rfl⟩)))
    iintro ⟨Ha, HO, -, Hrest⟩
    imodintro
    isplitl [Ha Hrest]
    · iapply hjoin; isplitl [Ha] <;> iassumption
    unfold owesLow Pipeline.Dat.owesAt Pipeline.owesWithin
    icases HO with ⟨%W, %hW, HO⟩; iexists W; isplitr; swap; (· iexact HO)
    ipureintro; exact fun p hp => low_of_bound V c _ p (hW hp)

end Cert.KernelIdeal.Sc

end
-- ==== Proof.ILaunch.lean ====
/-
  What the launch of the SparseCore call passes between the TensorCore, the sequencers and the tiles, and the obligations
  of the tiles under it.
-/
module

public import proofs.«01_k».proof.Proof.ITask
public import proofs.«01_k».proof.Proof.IReg

@[expose] public section

set_option maxRecDepth 16384

noncomputable section

namespace Cert.KernelIdeal.Sc

open Cert.KernelIdeal Cert.KernelIdeal.Gen Cert.Tok Cert.KernelIdeal.Lane
open Idealize.ShloMosaic
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TcCoe Idealize.ShloMosaic.Tactic

variable {F : FTy → Type} [FloatOps F]

local notation "𝕄" => MT nD τ sig (HIx 1) (Elt F) ℕ UU ℕ

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) : defs₀ (F := F) (.scVector c s) 0 ()
    = SparseCore.onTile hcore0 hsub0 (fun c s => cc0_sck (F := F) (coordsV c s) obM (Memref.isWhole_whole _) bxM (Memref.isWhole_whole _)
        ovM (Memref.isWhole_whole _) bvM (Memref.isWhole_whole _) cc0_scratch2 cc0_scratch3 cc0_scoped0) ⟨⟩ c s := rfl

theorem nCore_zero : (K (F := F)).nCore 0 = 2 := rfl
theorem nSub_zero : (K (F := F)).nSub 0 = 16 := rfl

/-- The coordinates of the call's `i`-th tile of its `c`-th core. -/
def crd (c : Fin ((K (F := F)).nCore 0)) (i : Fin ((K (F := F)).nSub 0)) : grid0.Coords :=
  coordsV (Fin.cast nCore_zero c) (Fin.cast nSub_zero i)

theorem base_crd (c : Fin ((K (F := F)).nCore 0)) (i : Fin ((K (F := F)).nSub 0)) : base (crd c i) = 256 * i.val + 128 * c.val := rfl

-- The transposed observations on every device, and what the boxes' buffer holds before the call.
variable (fo : Dev nD → S3x200x4096.Idx → BitVec 32) (fb : (d : Dev nD) → Buf (Elt F) (bxLoc d))

/-- What the call's handshakes carry: to each tile its columns of the observations and its rows of the boxes' buffer; back
    from it the same, the rows at the boxes. -/
def P : (K (F := F)).Pay (nD := nD) (Val := Elt F) (Name := ℕ) (U := UU) where
  st := fun q d c => match q with
    | 0 => bigSep Finset.univ fun i : Fin ((K (F := F)).nSub 0) => tileGo d (crd c i) (fo d) (fb d)
  dn := fun q d c => match q with
    | 0 => bigSep Finset.univ fun i : Fin ((K (F := F)).nSub 0) => tileGo d (crd c i) (fo d) (Tgt (F := F) (fo d))
  go := fun q d c i => match q with
    | 0 => tileGo d (crd c i) (fo d) (fb d)
  td := fun q d c i => match q with
    | 0 => tileGo d (crd c i) (fo d) (Tgt (F := F) (fo d))
  x := fun _ _ => iprop(emp)

instance tileGo_storable (d : Dev nD) (L : grid0.Coords) (fo : S3x200x4096.Idx → BitVec 32) (fb : Buf (Elt F) (bxLoc d)) :
    BI.Storable (upEmb : UEmb _ 𝕄) (tileGo d L fo fb) := by unfold tileGo; infer_instance

instance P_storable : (P (F := F) fo fb).IsStorable where
  st q d c := match q with
    | 0 => (inferInstance : BI.Storable (upEmb : UEmb _ 𝕄) (bigSep Finset.univ fun i : Fin ((K (F := F)).nSub 0) => tileGo d (crd c i) (fo d) (fb d)))
  dn q d c := match q with
    | 0 => (inferInstance : BI.Storable (upEmb : UEmb _ 𝕄) (bigSep Finset.univ fun i : Fin ((K (F := F)).nSub 0) => tileGo d (crd c i) (fo d) (Tgt (F := F) (fo d))))
  go q d c i := match q with
    | 0 => tileGo_storable d (crd c i) (fo d) (fb d)
  td q d c i := match q with
    | 0 => tileGo_storable d (crd c i) (fo d) (Tgt (F := F) (fo d))

/-- The waits a task leaves recorded, at the handshake's bound. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  refine sep_mono_right (sep_mono_right (sep_mono_right (exists_elim fun W' => ?_)))
  iintro ⟨%h, HO⟩
  iexists W'
  isplitr
  · ipureintro; exact fun p hp => (h p hp).imp_right Or.inl
  iexact HO

/-- Every tile's task meets what the launch asks of it. -/
theorem tileObl (hF : (K (F := F)).Facts) (hfo : ∀ d i, (fo d i).toNat < 256) : (K (F := F)).TileObl (D (F := F)) 𝒱 (P fo fb) v₀ 0 := by
  intro d c i O W hO _ _
  simp only [show (P (F := F) fo fb).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body d (coordsV ⟨_, hc.1⟩ ⟨_, hc.2⟩) (fo d) (hfo d) (fb d) hF O W hO).trans (wp_mono frame _ _ fun _ => obl_post)

/-- What a sequencer gets for its core is what its tiles get, and back. -/
theorem vecSplit : (K (F := F)).VecSplit' (P fo fb) 0 := by
  intro d c
  show (bigSep Finset.univ fun i : Fin ((K (F := F)).nSub 0) => tileGo d (crd c i) (fo d) (fb d)) ⊢ |={Set.univ}=> iprop(
      (bigSep Finset.univ fun i : Fin ((K (F := F)).nSub 0) => tileGo d (crd c i) (fo d) (fb d))
      ∗ ((bigSep Finset.univ fun i : Fin ((K (F := F)).nSub 0) => tileGo d (crd c i) (fo d) (Tgt (F := F) (fo d)))
          -∗ bigSep Finset.univ fun i : Fin ((K (F := F)).nSub 0) => tileGo d (crd c i) (fo d) (Tgt (F := F) (fo d))))
  iintro H; imodintro
  isplitl [H]; · iexact H
  iintro H; iexact H

/-! ## The whole arrays, over the tiles -/

/-- The tile a column of the observations, or a row of the boxes, belongs to. -/
theorem tile_of (n : ℕ) (h : n < 4096) : ∃ p : Fin ((K (F := F)).nCore 0) × Fin ((K (F := F)).nSub 0),
    base (crd p.1 p.2) ≤ n ∧ n < base (crd p.1 p.2) + 128 := by
  have e0 : n / 128 % 2 < 2 := Nat.mod_lt _ (by omega)
  have e1 : n / 256 < 16 := by omega
  refine ⟨(⟨n / 128 % 2, e0⟩, ⟨n / 256, e1⟩), ?_, ?_⟩ <;> rw [base_crd] <;> dsimp only <;> omega

theorem tile_uniq {p p' : Fin ((K (F := F)).nCore 0) × Fin ((K (F := F)).nSub 0)} {n : ℕ}
    (h : base (crd p.1 p.2) ≤ n ∧ n < base (crd p.1 p.2) + 128) (h' : base (crd p'.1 p'.2) ≤ n ∧ n < base (crd p'.1 p'.2) + 128) : p = p' := by
  obtain ⟨c, i⟩ := p; obtain ⟨c', i'⟩ := p'
  rw [base_crd] at h h'; dsimp only at h h'
  have hc : c.val < 2 := c.isLt
  have hc' : c'.val < 2 := c'.isLt
  have h1 : c.val = c'.val := by omega
  have h2 : i.val = i'.val := by omega
  exact Prod.ext (Fin.ext h1) (Fin.ext h2)

theorem Os_cover : (Finset.univ : Finset (Fin ((K (F := F)).nCore 0) × Fin ((K (F := F)).nSub 0))).biUnion (fun p => Os (crd p.1 p.2)) = Finset.univ := by
  refine Finset.eq_univ_iff_forall.mpr fun i => Finset.mem_biUnion.mpr ?_
  obtain ⟨p, hp⟩ := tile_of (F := F) (i 2).val (i 2).isLt
  exact ⟨p, Finset.mem_univ p, mem_Os.mpr hp⟩
theorem Rs_cover : (Finset.univ : Finset (Fin ((K (F := F)).nCore 0) × Fin ((K (F := F)).nSub 0))).biUnion (fun p => Rs (crd p.1 p.2)) = Finset.univ := by
  refine Finset.eq_univ_iff_forall.mpr fun i => Finset.mem_biUnion.mpr ?_
  obtain ⟨p, hp⟩ := tile_of (F := F) (i 0).val (i 0).isLt
  exact ⟨p, Finset.mem_univ p, mem_Rs.mpr hp⟩
theorem Os_disjoint (p p' : Fin ((K (F := F)).nCore 0) × Fin ((K (F := F)).nSub 0)) (h : p ≠ p') : Disjoint (Os (crd p.1 p.2)) (Os (crd p'.1 p'.2)) :=
  Finset.disjoint_left.mpr fun _ h1 h2 => h (tile_uniq (mem_Os.mp h1) (mem_Os.mp h2))
theorem Rs_disjoint (p p' : Fin ((K (F := F)).nCore 0) × Fin ((K (F := F)).nSub 0)) (h : p ≠ p') : Disjoint (Rs (crd p.1 p.2)) (Rs (crd p'.1 p'.2)) :=
  Finset.disjoint_left.mpr fun _ h1 h2 => h (tile_uniq (mem_Rs.mp h1) (mem_Rs.mp h2))

/-- The two whole arrays are the tiles' parts. -/
theorem whole_tiles (d : Dev nD) (fo : S3x200x4096.Idx → BitVec 32) (fb : Buf (Elt F) (bxLoc d)) :
    (bigSep Finset.univ fun c : Fin ((K (F := F)).nCore 0) => bigSep Finset.univ fun i : Fin ((K (F := F)).nSub 0) => tileGo d (crd c i) fo fb)
      = (iprop((obLoc d ↦{fullShare} (fo : Buf (Elt F) (obLoc d))) ∗ bxLoc d ↦{fullShare} fb) : sProp 𝕄) := by
  have e := SparseCore.bigSep_product (M := 𝕄) (Finset.univ : Finset (Fin ((K (F := F)).nCore 0))) (Finset.univ : Finset (Fin ((K (F := F)).nSub 0)))
    (fun p => tileGo d (crd p.1 p.2) fo fb)
  refine e.symm.trans ?_
  rw [Finset.univ_product_univ]
  unfold tileGo
  rw [bigSep_sep']
  have e1 : (obLoc d ↦{fullShare} (fo : Buf (Elt F) (obLoc d)) : sProp 𝕄)
      = bigSep (Finset.univ : Finset (Fin ((K (F := F)).nCore 0) × Fin ((K (F := F)).nSub 0))) fun p => obLoc d ↦[Os (crd p.1 p.2)]{fullShare} (fo : Buf (Elt F) (obLoc d)) := by
    rw [← pointsTo_biUnion (Finset.univ : Finset (Fin ((K (F := F)).nCore 0) × Fin ((K (F := F)).nSub 0))) _ (fun p _ p' _ h => Os_disjoint p p' h), Os_cover]
  have e2 : (bxLoc d ↦{fullShare} fb : sProp 𝕄)
      = bigSep (Finset.univ : Finset (Fin ((K (F := F)).nCore 0) × Fin ((K (F := F)).nSub 0))) fun p => bxLoc d ↦[Rs (crd p.1 p.2)]{fullShare} fb := by
    rw [← pointsTo_biUnion (Finset.univ : Finset (Fin ((K (F := F)).nCore 0) × Fin ((K (F := F)).nSub 0))) _ (fun p _ p' _ h => Rs_disjoint p p' h), Rs_cover]
  rw [e1, e2]

theorem st0_eq (d : Dev nD) : (bigSep Finset.univ fun c : Fin ((K (F := F)).nCore 0) => (P (F := F) fo fb).st 0 d c)
    = iprop((obLoc d ↦{fullShare} (fo d : Buf (Elt F) (obLoc d))) ∗ bxLoc d ↦{fullShare} fb d) := whole_tiles d (fo d) (fb d)
theorem dn0_eq (d : Dev nD) : (bigSep Finset.univ fun c : Fin ((K (F := F)).nCore 0) => (P (F := F) fo fb).dn 0 d c)
    = iprop((obLoc d ↦{fullShare} (fo d : Buf (Elt F) (obLoc d))) ∗ bxLoc d ↦{fullShare} (Tgt (F := F) (fo d) : Buf (Elt F) (bxLoc d))) := whole_tiles d (fo d) _

/-! ## The launch's own state -/

/-- The handshakes' and the TensorCore call's rounds at launch. -/
def u₀ : UU := (initOf (K (F := F)).hsCells (K (F := F)).hsToks,
  (initOf (Pipeline.cells (Pipeline.pin (pcfgs (F := F)) adm0) cellOf_inj) (Pipeline.launchToks (Pipeline.pin (pcfgs (F := F)) adm0) cellOf_inj), 1))

/-- The TensorCore call's cells and tokens on a device. -/
def G (d : Dev nD) : sProp 𝕄 :=
  iprop(Pipeline.cellsGhost (Pipeline.pin (pcfgs (F := F)) adm0) EP 0 d ∗ Pipeline.toksInit (Pipeline.pin (pcfgs (F := F)) adm0) EP 0 d)

theorem own_split (a : UH) (b : UP) : (ownU ((a, (b, 1)) : UU) : sProp 𝕄) ⊢ iprop(BI.own (EH a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (P (F := F) fo fb).x q thr) := by
  have hx : (bigSep Finset.univ fun thr : Thread nD τ => bigSep Finset.univ fun q : Fin 1 => (P (F := F) fo fb).x q thr) = (iprop(emp) : sProp 𝕄) := by
    exact (bigSep_congr fun _ _ => bigSep_emp_const _).trans (bigSep_emp_const _)
  have hG : iprop((bigSep Finset.univ fun c : Dev nD => bigSep Finset.univ fun p : Fin 1 => Pipeline.cellsGhost (Pipeline.pin (pcfgs (F := F)) adm0) EP p c)
      ∗ (bigSep Finset.univ fun c : Dev nD => bigSep Finset.univ fun p : Fin 1 => (Pipeline.toksInit (Pipeline.pin (pcfgs (F := F)) adm0) EP p c : sProp 𝕄)))
      = bigSep Finset.univ (G (F := F)) := by
    rw [← bigSep_sep']
    refine bigSep_congr fun c _ => ?_
    rw [bigSep_univ_of_subsingleton (0 : Fin 1), bigSep_univ_of_subsingleton (0 : Fin 1)]
    rfl
  rw [hx]
  unfold u₀
  iintro Hu
  ihave H := (own_split _ _) $$ Hu
  icases H with ⟨HH, HK⟩
  imod (Pipeline.fund_ghost (Pipeline.pin (pcfgs (F := F)) adm0) EP cellOf_inj) $$ HK with Hk
  imodintro
  isplitl [HH]; · iexact HH
  isplitl [Hk]
  · iapply (Entails.of_eq hG); iexact Hk
  iempintro

end Cert.KernelIdeal.Sc
end
-- ==== Proof.IHost.lean ====
/-
  The program's host operations as lines: the transpose before the SparseCore call, the lines between the two calls, and
  the slices after the second.
-/
module

public import proofs.«01_k».proof.Proof.Gen.KernelIdeal
public import Idealize.ShloMosaic.Lib.StableHlo.Run
public import Idealize.ShloMosaic.Lib.StableHlo.RunRead
public import Idealize.ShloMosaic.Lib.Pipeline.Frame

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- The transpose of the observations, before the SparseCore call. -/
abbrev tr : HloOp τ sig (Elt F) := unary main_arg0 main_v0 ((transpose S3x200x4096 [2, 1, 0] · transposes_S4096x200x3_S3x200x4096_2_1_0) : (⟨S4096x200x3, .i32⟩ : BufTy).Contents (Elt F) → (⟨S3x200x4096, .i32⟩ : BufTy).Contents (Elt F))

/-- The line after the SparseCore call, to the end of the first part. -/
abbrev L0 : List (HloOp τ sig (Elt F)) :=
  [ reshape main_arg15 main_v2 (rfl : (.f32 : EltTy) = .f32) shapeCasts_S1x24x1x1_S24,
    nullary main_cst (constant S_ .f32 0x322BCC77#32),
    unary main_cst main_v3 (broadcastInDim S24 ![] bcast_S_S24 : (⟨S_, .f32⟩ : BufTy).Contents (Elt F) → (⟨S24, .f32⟩ : BufTy).Contents (Elt F)),
    binary main_v2 main_v3 main_v4 (addf : (⟨S24, .f32⟩ : BufTy).Contents (Elt F) → (⟨S24, .f32⟩ : BufTy).Contents (Elt F) → (⟨S24, .f32⟩ : BufTy).Contents (Elt F)),
    nullary main_cst_0 (constant S_ .f32 0x3F800000#32),
    unary main_cst_0 main_v5 (broadcastInDim S24 ![] bcast_S_S24 : (⟨S_, .f32⟩ : BufTy).Contents (Elt F) → (⟨S24, .f32⟩ : BufTy).Contents (Elt F)),
    binary main_v5 main_v4 main_v6 (Host.divf : (⟨S24, .f32⟩ : BufTy).Contents (Elt F) → (⟨S24, .f32⟩ : BufTy).Contents (Elt F) → (⟨S24, .f32⟩ : BufTy).Contents (Elt F)),
    unary main_arg1 main_v7 ((transpose S24x5x5x128 [1, 2, 3, 0] · transposes_S128x24x5x5_S24x5x5x128_1_2_3_0) : (⟨S128x24x5x5, .f32⟩ : BufTy).Contents (Elt F) → (⟨S24x5x5x128, .f32⟩ : BufTy).Contents (Elt F)),
    nullary main_cst_1 (constant S_ .f32 0x00000000#32),
    unary main_cst_1 main_v8 (broadcastInDim S24x11x11x128 ![] bcast_S_S24x11x11x128 : (⟨S_, .f32⟩ : BufTy).Contents (Elt F) → (⟨S24x11x11x128, .f32⟩ : BufTy).Contents (Elt F)),
    nullary main_c (constantI S_ 32 0#32),
    unary main_c main_v9 (broadcastInDim S1 ![] bcast_S_S1 : (⟨S_, .i32⟩ : BufTy).Contents (Elt F) → (⟨S1, .i32⟩ : BufTy).Contents (Elt F)),
    nullary main_c_2 (constantI S_ 32 0#32),
    unary main_c_2 main_v10 (broadcastInDim S1 ![] bcast_S_S1 : (⟨S_, .i32⟩ : BufTy).Contents (Elt F) → (⟨S1, .i32⟩ : BufTy).Contents (Elt F)),
    binary main_v9 main_v10 main_v11 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v8 main_v11 main_v7 main_v12 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v12 main_v13 (rfl : (.f32 : EltTy) = .f32) shapeCasts_S24x11x11x128_S24x121x128,
    nullary main_c_3 (constantI S_ 32 0#32),
    TRef.unary (TRef.of (T := ⟨S_, .i32⟩) main_c_3) (TRef.of (T := ⟨S_, .f32⟩) main_call0_v0) (sitofp .f32),
    TRef.binary (TRef.of (T := ⟨S24x121x128, .f32⟩) main_v13) (TRef.of (T := ⟨S_, .f32⟩) main_call0_v0) (TRef.of (T := ⟨S24x128x128, .f32⟩) main_v14) (fun x v => pad S24x128x128 ![0, 0, 0] ![0, 7, 0] ![0, 0, 0] x v pads_S24x121x128_S24x128x128_000_070_000 h_S_),
    reshape main_v14 main_v15 (rfl : (.f32 : EltTy) = .f32) shapeCasts_S24x128x128_S3072x128,
    nullary main_cst_4 (constant S_ .f32 0x00000000#32),
    unary main_cst_4 main_v16 (broadcastInDim S24x11x11x128 ![] bcast_S_S24x11x11x128 : (⟨S_, .f32⟩ : BufTy).Contents (Elt F) → (⟨S24x11x11x128, .f32⟩ : BufTy).Contents (Elt F)),
    nullary main_c_5 (constantI S_ 32 0#32),
    unary main_c_5 main_v17 (broadcastInDim S1 ![] bcast_S_S1 : (⟨S_, .i32⟩ : BufTy).Contents (Elt F) → (⟨S1, .i32⟩ : BufTy).Contents (Elt F)),
    nullary main_c_6 (constantI S_ 32 3#32),
    unary main_c_6 main_v18 (broadcastInDim S1 ![] bcast_S_S1 : (⟨S_, .i32⟩ : BufTy).Contents (Elt F) → (⟨S1, .i32⟩ : BufTy).Contents (Elt F)),
    binary main_v17 main_v18 main_v19 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v16 main_v19 main_v7 main_v20 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v20 main_v21 (rfl : (.f32 : EltTy) = .f32) shapeCasts_S24x11x11x128_S24x121x128,
    nullary main_c_7 (constantI S_ 32 0#32),
    TRef.unary (TRef.of (T := ⟨S_, .i32⟩) main_c_7) (TRef.of (T := ⟨S_, .f32⟩) main_call1_v0) (sitofp .f32),
    TRef.binary (TRef.of (T := ⟨S24x121x128, .f32⟩) main_v21) (TRef.of (T := ⟨S_, .f32⟩) main_call1_v0) (TRef.of (T := ⟨S24x128x128, .f32⟩) main_v22) (fun x v => pad S24x128x128 ![0, 0, 0] ![0, 7, 0] ![0, 0, 0] x v pads_S24x121x128_S24x128x128_000_070_000 h_S_),
    reshape main_v22 main_v23 (rfl : (.f32 : EltTy) = .f32) shapeCasts_S24x128x128_S3072x128,
    nullary main_cst_8 (constant S_ .f32 0x00000000#32),
    unary main_cst_8 main_v24 (broadcastInDim S24x11x11x128 ![] bcast_S_S24x11x11x128 : (⟨S_, .f32⟩ : BufTy).Contents (Elt F) → (⟨S24x11x11x128, .f32⟩ : BufTy).Contents (Elt F)),
    nullary main_c_9 (constantI S_ 32 0#32),
    unary main_c_9 main_v25 (broadcastInDim S1 ![] bcast_S_S1 : (⟨S_, .i32⟩ : BufTy).Contents (Elt F) → (⟨S1, .i32⟩ : BufTy).Contents (Elt F)),
    nullary main_c_10 (constantI S_ 32 6#32),
    unary main_c_10 main_v26 (broadcastInDim S1 ![] bcast_S_S1 : (⟨S_, .i32⟩ : BufTy).Contents (Elt F) → (⟨S1, .i32⟩ : BufTy).Contents (Elt F)),
    binary main_v25 main_v26 main_v27 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v24 main_v27 main_v7 main_v28 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v28 main_v29 (rfl : (.f32 : EltTy) = .f32) shapeCasts_S24x11x11x128_S24x121x128,
    nullary main_c_11 (constantI S_ 32 0#32),
    TRef.unary (TRef.of (T := ⟨S_, .i32⟩) main_c_11) (TRef.of (T := ⟨S_, .f32⟩) main_call2_v0) (sitofp .f32),
    TRef.binary (TRef.of (T := ⟨S24x121x128, .f32⟩) main_v29) (TRef.of (T := ⟨S_, .f32⟩) main_call2_v0) (TRef.of (T := ⟨S24x128x128, .f32⟩) main_v30) (fun x v => pad S24x128x128 ![0, 0, 0] ![0, 7, 0] ![0, 0, 0] x v pads_S24x121x128_S24x128x128_000_070_000 h_S_),
    reshape main_v30 main_v31 (rfl : (.f32 : EltTy) = .f32) shapeCasts_S24x128x128_S3072x128,
    nullary main_cst_12 (constant S_ .f32 0x00000000#32),
    unary main_cst_12 main_v32 (broadcastInDim S24x11x11x128 ![] bcast_S_S24x11x11x128 : (⟨S_, .f32⟩ : BufTy).Contents (Elt F) → (⟨S24x11x11x128, .f32⟩ : BufTy).Contents (Elt F)),
    nullary main_c_13 (constantI S_ 32 3#32),
    unary main_c_13 main_v33 (broadcastInDim S1 ![] bcast_S_S1 : (⟨S_, .i32⟩ : BufTy).Contents (Elt F) → (⟨S1, .i32⟩ : BufTy).Contents (Elt F)),
    nullary main_c_14 (constantI S_ 32 0#32),
    unary main_c_14 main_v34 (broadcastInDim S1 ![] bcast_S_S1 : (⟨S_, .i32⟩ : BufTy).Contents (Elt F) → (⟨S1, .i32⟩ : BufTy).Contents (Elt F)),
    binary main_v33 main_v34 main_v35 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v32 main_v35 main_v7 main_v36 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v36 main_v37 (rfl : (.f32 : EltTy) = .f32) shapeCasts_S24x11x11x128_S24x121x128,
    nullary main_c_15 (constantI S_ 32 0#32),
    TRef.unary (TRef.of (T := ⟨S_, .i32⟩) main_c_15) (TRef.of (T := ⟨S_, .f32⟩) main_call3_v0) (sitofp .f32),
    TRef.binary (TRef.of (T := ⟨S24x121x128, .f32⟩) main_v37) (TRef.of (T := ⟨S_, .f32⟩) main_call3_v0) (TRef.of (T := ⟨S24x128x128, .f32⟩) main_v38) (fun x v => pad S24x128x128 ![0, 0, 0] ![0, 7, 0] ![0, 0, 0] x v pads_S24x121x128_S24x128x128_000_070_000 h_S_),
    reshape main_v38 main_v39 (rfl : (.f32 : EltTy) = .f32) shapeCasts_S24x128x128_S3072x128,
    nullary main_cst_16 (constant S_ .f32 0x00000000#32),
    unary main_cst_16 main_v40 (broadcastInDim S24x11x11x128 ![] bcast_S_S24x11x11x128 : (⟨S_, .f32⟩ : BufTy).Contents (Elt F) → (⟨S24x11x11x128, .f32⟩ : BufTy).Contents (Elt F)) ]

/-- What it writes. -/
abbrev W0 : List (Ref sig .tc) :=
  [main_v2, main_cst, main_v3, main_v4, main_cst_0, main_v5, main_v6, main_v7, main_cst_1, main_v8, main_c, main_v9, main_c_2, main_v10, main_v11, main_v12, main_v13, main_c_3, main_call0_v0, main_v14, main_v15, main_cst_4, main_v16, main_c_5, main_v17, main_c_6, main_v18, main_v19, main_v20, main_v21, main_c_7, main_call1_v0, main_v22, main_v23, main_cst_8, main_v24, main_c_9, main_v25, main_c_10, main_v26, main_v27, main_v28, main_v29, main_c_11, main_call2_v0, main_v30, main_v31, main_cst_12, main_v32, main_c_13, main_v33, main_c_14, main_v34, main_v35, main_v36, main_v37, main_c_15, main_call3_v0, main_v38, main_v39, main_cst_16, main_v40]

theorem W0_eq : (L0 (F := F)).map HloOp.writes = W0.map fun w => {Proc.devRef (τ := τ) .tc w} := rfl

theorem L0_sub : (L0 (F := F)).Forall fun op => op.bufs ⊆ tcRefs τ sig :=
  ⟨reshape_bufs_sub .., nullary_bufs_sub .., unary_bufs_sub .., binary_bufs_sub .., nullary_bufs_sub .., unary_bufs_sub .., binary_bufs_sub .., unary_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub ..⟩

theorem L0_fresh : (L0 (F := F)).Forall fun op => op.fresh = ∅ := by
  repeat' constructor

/-- The second part. -/
abbrev L1 : List (HloOp τ sig (Elt F)) :=
  [ nullary main_c_17 (constantI S_ 32 3#32),
    unary main_c_17 main_v41 (broadcastInDim S1 ![] bcast_S_S1 : (⟨S_, .i32⟩ : BufTy).Contents (Elt F) → (⟨S1, .i32⟩ : BufTy).Contents (Elt F)),
    nullary main_c_18 (constantI S_ 32 3#32),
    unary main_c_18 main_v42 (broadcastInDim S1 ![] bcast_S_S1 : (⟨S_, .i32⟩ : BufTy).Contents (Elt F) → (⟨S1, .i32⟩ : BufTy).Contents (Elt F)),
    binary main_v41 main_v42 main_v43 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v40 main_v43 main_v7 main_v44 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v44 main_v45 (rfl : (.f32 : EltTy) = .f32) shapeCasts_S24x11x11x128_S24x121x128,
    nullary main_c_19 (constantI S_ 32 0#32),
    TRef.unary (TRef.of (T := ⟨S_, .i32⟩) main_c_19) (TRef.of (T := ⟨S_, .f32⟩) main_call4_v0) (sitofp .f32),
    TRef.binary (TRef.of (T := ⟨S24x121x128, .f32⟩) main_v45) (TRef.of (T := ⟨S_, .f32⟩) main_call4_v0) (TRef.of (T := ⟨S24x128x128, .f32⟩) main_v46) (fun x v => pad S24x128x128 ![0, 0, 0] ![0, 7, 0] ![0, 0, 0] x v pads_S24x121x128_S24x128x128_000_070_000 h_S_),
    reshape main_v46 main_v47 (rfl : (.f32 : EltTy) = .f32) shapeCasts_S24x128x128_S3072x128,
    nullary main_cst_20 (constant S_ .f32 0x00000000#32),
    unary main_cst_20 main_v48 (broadcastInDim S24x11x11x128 ![] bcast_S_S24x11x11x128 : (⟨S_, .f32⟩ : BufTy).Contents (Elt F) → (⟨S24x11x11x128, .f32⟩ : BufTy).Contents (Elt F)),
    nullary main_c_21 (constantI S_ 32 3#32),
    unary main_c_21 main_v49 (broadcastInDim S1 ![] bcast_S_S1 : (⟨S_, .i32⟩ : BufTy).Contents (Elt F) → (⟨S1, .i32⟩ : BufTy).Contents (Elt F)),
    nullary main_c_22 (constantI S_ 32 6#32),
    unary main_c_22 main_v50 (broadcastInDim S1 ![] bcast_S_S1 : (⟨S_, .i32⟩ : BufTy).Contents (Elt F) → (⟨S1, .i32⟩ : BufTy).Contents (Elt F)),
    binary main_v49 main_v50 main_v51 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v48 main_v51 main_v7 main_v52 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v52 main_v53 (rfl : (.f32 : EltTy) = .f32) shapeCasts_S24x11x11x128_S24x121x128,
    nullary main_c_23 (constantI S_ 32 0#32),
    TRef.unary (TRef.of (T := ⟨S_, .i32⟩) main_c_23) (TRef.of (T := ⟨S_, .f32⟩) main_call5_v0) (sitofp .f32),
    TRef.binary (TRef.of (T := ⟨S24x121x128, .f32⟩) main_v53) (TRef.of (T := ⟨S_, .f32⟩) main_call5_v0) (TRef.of (T := ⟨S24x128x128, .f32⟩) main_v54) (fun x v => pad S24x128x128 ![0, 0, 0] ![0, 7, 0] ![0, 0, 0] x v pads_S24x121x128_S24x128x128_000_070_000 h_S_),
    reshape main_v54 main_v55 (rfl : (.f32 : EltTy) = .f32) shapeCasts_S24x128x128_S3072x128,
    nullary main_cst_24 (constant S_ .f32 0x00000000#32),
    unary main_cst_24 main_v56 (broadcastInDim S24x11x11x128 ![] bcast_S_S24x11x11x128 : (⟨S_, .f32⟩ : BufTy).Contents (Elt F) → (⟨S24x11x11x128, .f32⟩ : BufTy).Contents (Elt F)),
    nullary main_c_25 (constantI S_ 32 6#32),
    unary main_c_25 main_v57 (broadcastInDim S1 ![] bcast_S_S1 : (⟨S_, .i32⟩ : BufTy).Contents (Elt F) → (⟨S1, .i32⟩ : BufTy).Contents (Elt F)),
    nullary main_c_26 (constantI S_ 32 0#32),
    unary main_c_26 main_v58 (broadcastInDim S1 ![] bcast_S_S1 : (⟨S_, .i32⟩ : BufTy).Contents (Elt F) → (⟨S1, .i32⟩ : BufTy).Contents (Elt F)),
    binary main_v57 main_v58 main_v59 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v56 main_v59 main_v7 main_v60 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v60 main_v61 (rfl : (.f32 : EltTy) = .f32) shapeCasts_S24x11x11x128_S24x121x128,
    nullary main_c_27 (constantI S_ 32 0#32),
    TRef.unary (TRef.of (T := ⟨S_, .i32⟩) main_c_27) (TRef.of (T := ⟨S_, .f32⟩) main_call6_v0) (sitofp .f32),
    TRef.binary (TRef.of (T := ⟨S24x121x128, .f32⟩) main_v61) (TRef.of (T := ⟨S_, .f32⟩) main_call6_v0) (TRef.of (T := ⟨S24x128x128, .f32⟩) main_v62) (fun x v => pad S24x128x128 ![0, 0, 0] ![0, 7, 0] ![0, 0, 0] x v pads_S24x121x128_S24x128x128_000_070_000 h_S_),
    reshape main_v62 main_v63 (rfl : (.f32 : EltTy) = .f32) shapeCasts_S24x128x128_S3072x128,
    nullary main_cst_28 (constant S_ .f32 0x00000000#32),
    unary main_cst_28 main_v64 (broadcastInDim S24x11x11x128 ![] bcast_S_S24x11x11x128 : (⟨S_, .f32⟩ : BufTy).Contents (Elt F) → (⟨S24x11x11x128, .f32⟩ : BufTy).Contents (Elt F)),
    nullary main_c_29 (constantI S_ 32 6#32),
    unary main_c_29 main_v65 (broadcastInDim S1 ![] bcast_S_S1 : (⟨S_, .i32⟩ : BufTy).Contents (Elt F) → (⟨S1, .i32⟩ : BufTy).Contents (Elt F)),
    nullary main_c_30 (constantI S_ 32 3#32),
    unary main_c_30 main_v66 (broadcastInDim S1 ![] bcast_S_S1 : (⟨S_, .i32⟩ : BufTy).Contents (Elt F) → (⟨S1, .i32⟩ : BufTy).Contents (Elt F)),
    binary main_v65 main_v66 main_v67 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v64 main_v67 main_v7 main_v68 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v68 main_v69 (rfl : (.f32 : EltTy) = .f32) shapeCasts_S24x11x11x128_S24x121x128,
    nullary main_c_31 (constantI S_ 32 0#32),
    TRef.unary (TRef.of (T := ⟨S_, .i32⟩) main_c_31) (TRef.of (T := ⟨S_, .f32⟩) main_call7_v0) (sitofp .f32),
    TRef.binary (TRef.of (T := ⟨S24x121x128, .f32⟩) main_v69) (TRef.of (T := ⟨S_, .f32⟩) main_call7_v0) (TRef.of (T := ⟨S24x128x128, .f32⟩) main_v70) (fun x v => pad S24x128x128 ![0, 0, 0] ![0, 7, 0] ![0, 0, 0] x v pads_S24x121x128_S24x128x128_000_070_000 h_S_),
    reshape main_v70 main_v71 (rfl : (.f32 : EltTy) = .f32) shapeCasts_S24x128x128_S3072x128,
    nullary main_cst_32 (constant S_ .f32 0x00000000#32),
    unary main_cst_32 main_v72 (broadcastInDim S24x11x11x128 ![] bcast_S_S24x11x11x128 : (⟨S_, .f32⟩ : BufTy).Contents (Elt F) → (⟨S24x11x11x128, .f32⟩ : BufTy).Contents (Elt F)),
    nullary main_c_33 (constantI S_ 32 6#32),
    unary main_c_33 main_v73 (broadcastInDim S1 ![] bcast_S_S1 : (⟨S_, .i32⟩ : BufTy).Contents (Elt F) → (⟨S1, .i32⟩ : BufTy).Contents (Elt F)),
    nullary main_c_34 (constantI S_ 32 6#32),
    unary main_c_34 main_v74 (broadcastInDim S1 ![] bcast_S_S1 : (⟨S_, .i32⟩ : BufTy).Contents (Elt F) → (⟨S1, .i32⟩ : BufTy).Contents (Elt F)),
    binary main_v73 main_v74 main_v75 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    ternary main_v72 main_v75 main_v7 main_v76 ((fun x i u => Host.scatter scatter_S24x11x11x128_S2_S24x5x5x128_0123_n_12_0 (fun _ b => b) x i u) : (⟨S24x11x11x128, .f32⟩ : BufTy).Contents (Elt F) → (⟨S2, .i32⟩ : BufTy).Contents (Elt F) → (⟨S24x5x5x128, .f32⟩ : BufTy).Contents (Elt F) → (⟨S24x11x11x128, .f32⟩ : BufTy).Contents (Elt F)),
    reshape main_v76 main_v77 (rfl : (.f32 : EltTy) = .f32) shapeCasts_S24x11x11x128_S24x121x128,
    nullary main_c_35 (constantI S_ 32 0#32),
    TRef.unary (TRef.of (T := ⟨S_, .i32⟩) main_c_35) (TRef.of (T := ⟨S_, .f32⟩) main_call8_v0) (sitofp .f32),
    TRef.binary (TRef.of (T := ⟨S24x121x128, .f32⟩) main_v77) (TRef.of (T := ⟨S_, .f32⟩) main_call8_v0) (TRef.of (T := ⟨S24x128x128, .f32⟩) main_v78) (fun x v => pad S24x128x128 ![0, 0, 0] ![0, 7, 0] ![0, 0, 0] x v pads_S24x121x128_S24x128x128_000_070_000 h_S_),
    reshape main_v78 main_v79 (rfl : (.f32 : EltTy) = .f32) shapeCasts_S24x128x128_S3072x128,
    nullary main_cst_36 (constant S_ .f32 0x00000000#32),
    unary main_cst_36 main_v80 (broadcastInDim S3072x128 ![] bcast_S_S3072x128 : (⟨S_, .f32⟩ : BufTy).Contents (Elt F) → (⟨S3072x128, .f32⟩ : BufTy).Contents (Elt F)) ]

/-- What it writes. -/
abbrev W1 : List (Ref sig .tc) :=
  [main_c_17, main_v41, main_c_18, main_v42, main_v43, main_v44, main_v45, main_c_19, main_call4_v0, main_v46, main_v47, main_cst_20, main_v48, main_c_21, main_v49, main_c_22, main_v50, main_v51, main_v52, main_v53, main_c_23, main_call5_v0, main_v54, main_v55, main_cst_24, main_v56, main_c_25, main_v57, main_c_26, main_v58, main_v59, main_v60, main_v61, main_c_27, main_call6_v0, main_v62, main_v63, main_cst_28, main_v64, main_c_29, main_v65, main_c_30, main_v66, main_v67, main_v68, main_v69, main_c_31, main_call7_v0, main_v70, main_v71, main_cst_32, main_v72, main_c_33, main_v73, main_c_34, main_v74, main_v75, main_v76, main_v77, main_c_35, main_call8_v0, main_v78, main_v79, main_cst_36, main_v80]

theorem W1_eq : (L1 (F := F)).map HloOp.writes = W1.map fun w => {Proc.devRef (τ := τ) .tc w} := rfl

theorem L1_sub : (L1 (F := F)).Forall fun op => op.bufs ⊆ tcRefs τ sig :=
  ⟨nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub .., nullary_bufs_sub .., unary_bufs_sub .., nullary_bufs_sub .., unary_bufs_sub .., binary_bufs_sub .., ternary_bufs_sub .., reshape_bufs_sub .., nullary_bufs_sub .., unary_bufs_sub .., binary_bufs_sub .., reshape_bufs_sub .., nullary_bufs_sub .., unary_bufs_sub ..⟩

theorem L1_fresh : (L1 (F := F)).Forall fun op => op.fresh = ∅ := by
  repeat' constructor

/-- The third part. -/
abbrev L2 : List (HloOp τ sig (Elt F)) :=
  [ nullary main_v81 (iotaInDim S24 32 0),
    nullary main_c_37 (constantI S_ 32 128#32),
    unary main_c_37 main_v82 (broadcastInDim S24 ![] bcast_S_S24 : (⟨S_, .i32⟩ : BufTy).Contents (Elt F) → (⟨S24, .i32⟩ : BufTy).Contents (Elt F)),
    binary main_v81 main_v82 main_v83 (muli : (⟨S24, .i32⟩ : BufTy).Contents (Elt F) → (⟨S24, .i32⟩ : BufTy).Contents (Elt F) → (⟨S24, .i32⟩ : BufTy).Contents (Elt F)),
    nullary main_c_38 (constantI S_ 32 55#32),
    unary main_c_38 main_v84 (broadcastInDim S24 ![] bcast_S_S24 : (⟨S_, .i32⟩ : BufTy).Contents (Elt F) → (⟨S24, .i32⟩ : BufTy).Contents (Elt F)),
    binary main_v83 main_v84 main_v85 (addi : (⟨S24, .i32⟩ : BufTy).Contents (Elt F) → (⟨S24, .i32⟩ : BufTy).Contents (Elt F) → (⟨S24, .i32⟩ : BufTy).Contents (Elt F)),
    nullary main_c_39 (constantI S_ 32 5#32),
    unary main_c_39 main_v86 (broadcastInDim S24 ![] bcast_S_S24 : (⟨S_, .i32⟩ : BufTy).Contents (Elt F) → (⟨S24, .i32⟩ : BufTy).Contents (Elt F)),
    binary main_v85 main_v86 main_v87 (addi : (⟨S24, .i32⟩ : BufTy).Contents (Elt F) → (⟨S24, .i32⟩ : BufTy).Contents (Elt F) → (⟨S24, .i32⟩ : BufTy).Contents (Elt F)),
    nullary main_v88 (iotaInDim S24 32 0),
    nullary main_cst_40 (constant S_ .f32 0x3F800000#32),
    unary main_cst_40 main_v89 (broadcastInDim S24 ![] bcast_S_S24 : (⟨S_, .f32⟩ : BufTy).Contents (Elt F) → (⟨S24, .f32⟩ : BufTy).Contents (Elt F)),
    nullary main_c_41 (constantI S_ 32 0#32),
    unary main_c_41 main_v90 (broadcastInDim S24 ![] bcast_S_S24 : (⟨S_, .i32⟩ : BufTy).Contents (Elt F) → (⟨S24, .i32⟩ : BufTy).Contents (Elt F)),
    binary main_v87 main_v90 main_v91 (cmpi .slt : (⟨S24, .i32⟩ : BufTy).Contents (Elt F) → (⟨S24, .i32⟩ : BufTy).Contents (Elt F) → (⟨S24, .i1⟩ : BufTy).Contents (Elt F)),
    nullary main_c_42 (constantI S_ 32 3072#32),
    unary main_c_42 main_v92 (broadcastInDim S24 ![] bcast_S_S24 : (⟨S_, .i32⟩ : BufTy).Contents (Elt F) → (⟨S24, .i32⟩ : BufTy).Contents (Elt F)),
    binary main_v87 main_v92 main_v93 (addi : (⟨S24, .i32⟩ : BufTy).Contents (Elt F) → (⟨S24, .i32⟩ : BufTy).Contents (Elt F) → (⟨S24, .i32⟩ : BufTy).Contents (Elt F)),
    ternary main_v91 main_v93 main_v87 main_v94 (select : (⟨S24, .i1⟩ : BufTy).Contents (Elt F) → (⟨S24, .i32⟩ : BufTy).Contents (Elt F) → (⟨S24, .i32⟩ : BufTy).Contents (Elt F) → (⟨S24, .i32⟩ : BufTy).Contents (Elt F)),
    nullary main_c_43 (constantI S_ 32 0#32),
    unary main_c_43 main_v95 (broadcastInDim S24 ![] bcast_S_S24 : (⟨S_, .i32⟩ : BufTy).Contents (Elt F) → (⟨S24, .i32⟩ : BufTy).Contents (Elt F)),
    binary main_v88 main_v95 main_v96 (cmpi .slt : (⟨S24, .i32⟩ : BufTy).Contents (Elt F) → (⟨S24, .i32⟩ : BufTy).Contents (Elt F) → (⟨S24, .i1⟩ : BufTy).Contents (Elt F)),
    nullary main_c_44 (constantI S_ 32 128#32),
    unary main_c_44 main_v97 (broadcastInDim S24 ![] bcast_S_S24 : (⟨S_, .i32⟩ : BufTy).Contents (Elt F) → (⟨S24, .i32⟩ : BufTy).Contents (Elt F)),
    binary main_v88 main_v97 main_v98 (addi : (⟨S24, .i32⟩ : BufTy).Contents (Elt F) → (⟨S24, .i32⟩ : BufTy).Contents (Elt F) → (⟨S24, .i32⟩ : BufTy).Contents (Elt F)),
    ternary main_v96 main_v98 main_v88 main_v99 (select : (⟨S24, .i1⟩ : BufTy).Contents (Elt F) → (⟨S24, .i32⟩ : BufTy).Contents (Elt F) → (⟨S24, .i32⟩ : BufTy).Contents (Elt F) → (⟨S24, .i32⟩ : BufTy).Contents (Elt F)),
    unary main_v94 main_v100 (broadcastInDim S24x1 ![0] bcast_S24_S24x1_0 : (⟨S24, .i32⟩ : BufTy).Contents (Elt F) → (⟨S24x1, .i32⟩ : BufTy).Contents (Elt F)),
    unary main_v99 main_v101 (broadcastInDim S24x1 ![0] bcast_S24_S24x1_0 : (⟨S24, .i32⟩ : BufTy).Contents (Elt F) → (⟨S24x1, .i32⟩ : BufTy).Contents (Elt F)),
    binary main_v100 main_v101 main_v102 ((fun a b => concatenate S24x2 1 [⟨S24x1, a⟩, ⟨S24x1, b⟩] concatenates_S24x1_S24x1_S24x2_d1) : (⟨S24x1, .i32⟩ : BufTy).Contents (Elt F) → (⟨S24x1, .i32⟩ : BufTy).Contents (Elt F) → (⟨S24x2, .i32⟩ : BufTy).Contents (Elt F)),
    ternary main_v80 main_v102 main_v89 main_v103 ((fun x i u => Host.scatter scatter_S3072x128_S24x2_S24_n_01_01_1 (fun _ b => b) x i u) : (⟨S3072x128, .f32⟩ : BufTy).Contents (Elt F) → (⟨S24x2, .i32⟩ : BufTy).Contents (Elt F) → (⟨S24, .f32⟩ : BufTy).Contents (Elt F) → (⟨S3072x128, .f32⟩ : BufTy).Contents (Elt F)),
    unary main_v6 main_v104 (broadcastInDim S24x128 ![0] bcast_S24_S24x128_0 : (⟨S24, .f32⟩ : BufTy).Contents (Elt F) → (⟨S24x128, .f32⟩ : BufTy).Contents (Elt F)),
    reshape main_v104 main_v105 (rfl : (.f32 : EltTy) = .f32) shapeCasts_S24x128_S3072,
    unary main_v105 main_v106 (broadcastInDim S3072x1 ![0] bcast_S3072_S3072x1_0 : (⟨S3072, .f32⟩ : BufTy).Contents (Elt F) → (⟨S3072x1, .f32⟩ : BufTy).Contents (Elt F)),
    unary main_v106 main_v107 (broadcastInDim S3072x128 ![0, 1] bcast_S3072x1_S3072x128_0_1 : (⟨S3072x1, .f32⟩ : BufTy).Contents (Elt F) → (⟨S3072x128, .f32⟩ : BufTy).Contents (Elt F)),
    binary main_v15 main_v107 main_v108 (mulf : (⟨S3072x128, .f32⟩ : BufTy).Contents (Elt F) → (⟨S3072x128, .f32⟩ : BufTy).Contents (Elt F) → (⟨S3072x128, .f32⟩ : BufTy).Contents (Elt F)),
    unary main_v108 main_v109 ((truncf .bf16 · bitsLt_bf16_f32) : (⟨S3072x128, .f32⟩ : BufTy).Contents (Elt F) → (⟨S3072x128, .bf16⟩ : BufTy).Contents (Elt F)),
    unary main_v106 main_v110 (broadcastInDim S3072x128 ![0, 1] bcast_S3072x1_S3072x128_0_1 : (⟨S3072x1, .f32⟩ : BufTy).Contents (Elt F) → (⟨S3072x128, .f32⟩ : BufTy).Contents (Elt F)),
    binary main_v23 main_v110 main_v111 (mulf : (⟨S3072x128, .f32⟩ : BufTy).Contents (Elt F) → (⟨S3072x128, .f32⟩ : BufTy).Contents (Elt F) → (⟨S3072x128, .f32⟩ : BufTy).Contents (Elt F)),
    unary main_v111 main_v112 ((truncf .bf16 · bitsLt_bf16_f32) : (⟨S3072x128, .f32⟩ : BufTy).Contents (Elt F) → (⟨S3072x128, .bf16⟩ : BufTy).Contents (Elt F)),
    unary main_v106 main_v113 (broadcastInDim S3072x128 ![0, 1] bcast_S3072x1_S3072x128_0_1 : (⟨S3072x1, .f32⟩ : BufTy).Contents (Elt F) → (⟨S3072x128, .f32⟩ : BufTy).Contents (Elt F)),
    binary main_v31 main_v113 main_v114 (mulf : (⟨S3072x128, .f32⟩ : BufTy).Contents (Elt F) → (⟨S3072x128, .f32⟩ : BufTy).Contents (Elt F) → (⟨S3072x128, .f32⟩ : BufTy).Contents (Elt F)),
    unary main_v114 main_v115 ((truncf .bf16 · bitsLt_bf16_f32) : (⟨S3072x128, .f32⟩ : BufTy).Contents (Elt F) → (⟨S3072x128, .bf16⟩ : BufTy).Contents (Elt F)),
    unary main_v106 main_v116 (broadcastInDim S3072x128 ![0, 1] bcast_S3072x1_S3072x128_0_1 : (⟨S3072x1, .f32⟩ : BufTy).Contents (Elt F) → (⟨S3072x128, .f32⟩ : BufTy).Contents (Elt F)),
    binary main_v39 main_v116 main_v117 (mulf : (⟨S3072x128, .f32⟩ : BufTy).Contents (Elt F) → (⟨S3072x128, .f32⟩ : BufTy).Contents (Elt F) → (⟨S3072x128, .f32⟩ : BufTy).Contents (Elt F)),
    unary main_v117 main_v118 ((truncf .bf16 · bitsLt_bf16_f32) : (⟨S3072x128, .f32⟩ : BufTy).Contents (Elt F) → (⟨S3072x128, .bf16⟩ : BufTy).Contents (Elt F)),
    unary main_v106 main_v119 (broadcastInDim S3072x128 ![0, 1] bcast_S3072x1_S3072x128_0_1 : (⟨S3072x1, .f32⟩ : BufTy).Contents (Elt F) → (⟨S3072x128, .f32⟩ : BufTy).Contents (Elt F)),
    binary main_v47 main_v119 main_v120 (mulf : (⟨S3072x128, .f32⟩ : BufTy).Contents (Elt F) → (⟨S3072x128, .f32⟩ : BufTy).Contents (Elt F) → (⟨S3072x128, .f32⟩ : BufTy).Contents (Elt F)),
    unary main_v120 main_v121 ((truncf .bf16 · bitsLt_bf16_f32) : (⟨S3072x128, .f32⟩ : BufTy).Contents (Elt F) → (⟨S3072x128, .bf16⟩ : BufTy).Contents (Elt F)),
    unary main_v106 main_v122 (broadcastInDim S3072x128 ![0, 1] bcast_S3072x1_S3072x128_0_1 : (⟨S3072x1, .f32⟩ : BufTy).Contents (Elt F) → (⟨S3072x128, .f32⟩ : BufTy).Contents (Elt F)),
    binary main_v55 main_v122 main_v123 (mulf : (⟨S3072x128, .f32⟩ : BufTy).Contents (Elt F) → (⟨S3072x128, .f32⟩ : BufTy).Contents (Elt F) → (⟨S3072x128, .f32⟩ : BufTy).Contents (Elt F)),
    unary main_v123 main_v124 ((truncf .bf16 · bitsLt_bf16_f32) : (⟨S3072x128, .f32⟩ : BufTy).Contents (Elt F) → (⟨S3072x128, .bf16⟩ : BufTy).Contents (Elt F)),
    unary main_v106 main_v125 (broadcastInDim S3072x128 ![0, 1] bcast_S3072x1_S3072x128_0_1 : (⟨S3072x1, .f32⟩ : BufTy).Contents (Elt F) → (⟨S3072x128, .f32⟩ : BufTy).Contents (Elt F)),
    binary main_v63 main_v125 main_v126 (mulf : (⟨S3072x128, .f32⟩ : BufTy).Contents (Elt F) → (⟨S3072x128, .f32⟩ : BufTy).Contents (Elt F) → (⟨S3072x128, .f32⟩ : BufTy).Contents (Elt F)),
    unary main_v126 main_v127 ((truncf .bf16 · bitsLt_bf16_f32) : (⟨S3072x128, .f32⟩ : BufTy).Contents (Elt F) → (⟨S3072x128, .bf16⟩ : BufTy).Contents (Elt F)),
    unary main_v106 main_v128 (broadcastInDim S3072x128 ![0, 1] bcast_S3072x1_S3072x128_0_1 : (⟨S3072x1, .f32⟩ : BufTy).Contents (Elt F) → (⟨S3072x128, .f32⟩ : BufTy).Contents (Elt F)),
    binary main_v71 main_v128 main_v129 (mulf : (⟨S3072x128, .f32⟩ : BufTy).Contents (Elt F) → (⟨S3072x128, .f32⟩ : BufTy).Contents (Elt F) → (⟨S3072x128, .f32⟩ : BufTy).Contents (Elt F)),
    unary main_v129 main_v130 ((truncf .bf16 · bitsLt_bf16_f32) : (⟨S3072x128, .f32⟩ : BufTy).Contents (Elt F) → (⟨S3072x128, .bf16⟩ : BufTy).Contents (Elt F)),
    unary main_v106 main_v131 (broadcastInDim S3072x128 ![0, 1] bcast_S3072x1_S3072x128_0_1 : (⟨S3072x1, .f32⟩ : BufTy).Contents (Elt F) → (⟨S3072x128, .f32⟩ : BufTy).Contents (Elt F)),
    binary main_v79 main_v131 main_v132 (mulf : (⟨S3072x128, .f32⟩ : BufTy).Contents (Elt F) → (⟨S3072x128, .f32⟩ : BufTy).Contents (Elt F) → (⟨S3072x128, .f32⟩ : BufTy).Contents (Elt F)) ]

/-- What it writes. -/
abbrev W2 : List (Ref sig .tc) :=
  [main_v81, main_c_37, main_v82, main_v83, main_c_38, main_v84, main_v85, main_c_39, main_v86, main_v87, main_v88, main_cst_40, main_v89, main_c_41, main_v90, main_v91, main_c_42, main_v92, main_v93, main_v94, main_c_43, main_v95, main_v96, main_c_44, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132]

theorem W2_eq : (L2 (F := F)).map HloOp.writes = W2.map fun w => {Proc.devRef (τ := τ) .tc w} := rfl

theorem L2_sub : (L2 (F := F)).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., reshape_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem L2_fresh : (L2 (F := F)).Forall fun op => op.fresh = ∅ := by
  repeat' constructor

/-- The fourth part, up to the TensorCore call. -/
abbrev L3 : List (HloOp τ sig (Elt F)) :=
  [ unary main_v132 main_v133 ((truncf .bf16 · bitsLt_bf16_f32) : (⟨S3072x128, .f32⟩ : BufTy).Contents (Elt F) → (⟨S3072x128, .bf16⟩ : BufTy).Contents (Elt F)),
    unary main_v106 main_v134 (broadcastInDim S3072x128 ![0, 1] bcast_S3072x1_S3072x128_0_1 : (⟨S3072x1, .f32⟩ : BufTy).Contents (Elt F) → (⟨S3072x128, .f32⟩ : BufTy).Contents (Elt F)),
    binary main_v103 main_v134 main_v135 (mulf : (⟨S3072x128, .f32⟩ : BufTy).Contents (Elt F) → (⟨S3072x128, .f32⟩ : BufTy).Contents (Elt F) → (⟨S3072x128, .f32⟩ : BufTy).Contents (Elt F)),
    unary main_v135 main_v136 ((truncf .bf16 · bitsLt_bf16_f32) : (⟨S3072x128, .f32⟩ : BufTy).Contents (Elt F) → (⟨S3072x128, .bf16⟩ : BufTy).Contents (Elt F)),
    nary ![main_v109, main_v112, main_v115, main_v118, main_v121, main_v124, main_v127, main_v130, main_v133, main_v136] main_v137 (fun u => (concatenate S3072x1280 1 [⟨S3072x128, (u 0 : (⟨S3072x128, .bf16⟩ : BufTy).Contents (Elt F))⟩, ⟨S3072x128, (u 1 : (⟨S3072x128, .bf16⟩ : BufTy).Contents (Elt F))⟩, ⟨S3072x128, (u 2 : (⟨S3072x128, .bf16⟩ : BufTy).Contents (Elt F))⟩, ⟨S3072x128, (u 3 : (⟨S3072x128, .bf16⟩ : BufTy).Contents (Elt F))⟩, ⟨S3072x128, (u 4 : (⟨S3072x128, .bf16⟩ : BufTy).Contents (Elt F))⟩, ⟨S3072x128, (u 5 : (⟨S3072x128, .bf16⟩ : BufTy).Contents (Elt F))⟩, ⟨S3072x128, (u 6 : (⟨S3072x128, .bf16⟩ : BufTy).Contents (Elt F))⟩, ⟨S3072x128, (u 7 : (⟨S3072x128, .bf16⟩ : BufTy).Contents (Elt F))⟩, ⟨S3072x128, (u 8 : (⟨S3072x128, .bf16⟩ : BufTy).Contents (Elt F))⟩, ⟨S3072x128, (u 9 : (⟨S3072x128, .bf16⟩ : BufTy).Contents (Elt F))⟩] concatenates_S3072x128_S3072x128_S3072x128_S3072x128_S3072x128_S3072x128_S3072x128_S3072x128_S3072x128_S3072x128_S3072x1280_d1 : (⟨S3072x1280, .bf16⟩ : BufTy).Contents (Elt F))),
    unary main_arg3 main_v138 ((transpose S3x3x128x128 [2, 3, 1, 0] · transposes_S128x128x3x3_S3x3x128x128_2_3_1_0) : (⟨S128x128x3x3, .f32⟩ : BufTy).Contents (Elt F) → (⟨S3x3x128x128, .f32⟩ : BufTy).Contents (Elt F)),
    reshape main_v138 main_v139 (rfl : (.f32 : EltTy) = .f32) shapeCasts_S3x3x128x128_S1152x128,
    unary main_arg5 main_v140 ((transpose S128x256 [1, 0] · transposes_S256x128_S128x256_1_0) : (⟨S256x128, .f32⟩ : BufTy).Contents (Elt F) → (⟨S128x256, .f32⟩ : BufTy).Contents (Elt F)),
    unary main_arg7 main_v141 ((transpose S24x256 [1, 0] · transposes_S256x24_S24x256_1_0) : (⟨S256x24, .f32⟩ : BufTy).Contents (Elt F) → (⟨S24x256, .f32⟩ : BufTy).Contents (Elt F)),
    reshape main_arg2 main_v142 (rfl : (.f32 : EltTy) = .f32) shapeCasts_S128_S1x128,
    unary main_v142 main_v143 (broadcastInDim S9x128 ![0, 1] bcast_S1x128_S9x128_0_1 : (⟨S1x128, .f32⟩ : BufTy).Contents (Elt F) → (⟨S9x128, .f32⟩ : BufTy).Contents (Elt F)),
    reshape main_v143 main_v144 (rfl : (.f32 : EltTy) = .f32) shapeCasts_S9x128_S1152,
    reshape main_v144 main_v145 (rfl : (.f32 : EltTy) = .f32) shapeCasts_S1152_S1x1152,
    unary main_arg9 main_v146 ((extractStridedSlice S9x256 ![0, 0] · slices_S9x512_S9x256_0_0) : (⟨S9x512, .f32⟩ : BufTy).Contents (Elt F) → (⟨S9x256, .f32⟩ : BufTy).Contents (Elt F)),
    unary main_v146 main_v147 ((transpose S256x9 [1, 0] · transposes_S9x256_S256x9_1_0) : (⟨S9x256, .f32⟩ : BufTy).Contents (Elt F) → (⟨S256x9, .f32⟩ : BufTy).Contents (Elt F)),
    nullary main_c_45 (constantI S_ 32 0#32),
    TRef.unary (TRef.of (T := ⟨S_, .i32⟩) main_c_45) (TRef.of (T := ⟨S_, .f32⟩) main_call9_v0) (sitofp .f32),
    TRef.binary (TRef.of (T := ⟨S256x9, .f32⟩) main_v147) (TRef.of (T := ⟨S_, .f32⟩) main_call9_v0) (TRef.of (T := ⟨S256x128, .f32⟩) main_v148) (fun x v => pad S256x128 ![0, 0] ![0, 119] ![0, 0] x v pads_S256x9_S256x128_000_01190 h_S_),
    unary main_arg9 main_v149 ((extractStridedSlice S9x256 ![0, 256] · slices_S9x512_S9x256_0_256) : (⟨S9x512, .f32⟩ : BufTy).Contents (Elt F) → (⟨S9x256, .f32⟩ : BufTy).Contents (Elt F)),
    unary main_v149 main_v150 ((transpose S256x9 [1, 0] · transposes_S9x256_S256x9_1_0) : (⟨S9x256, .f32⟩ : BufTy).Contents (Elt F) → (⟨S256x9, .f32⟩ : BufTy).Contents (Elt F)),
    nullary main_c_46 (constantI S_ 32 0#32),
    TRef.unary (TRef.of (T := ⟨S_, .i32⟩) main_c_46) (TRef.of (T := ⟨S_, .f32⟩) main_call10_v0) (sitofp .f32),
    TRef.binary (TRef.of (T := ⟨S256x9, .f32⟩) main_v150) (TRef.of (T := ⟨S_, .f32⟩) main_call10_v0) (TRef.of (T := ⟨S256x128, .f32⟩) main_v151) (fun x v => pad S256x128 ![0, 0] ![0, 119] ![0, 0] x v pads_S256x9_S256x128_000_01190 h_S_),
    unary main_arg11 main_v152 ((extractStridedSlice S256x256 ![0, 0] · slices_S256x512_S256x256_0_0) : (⟨S256x512, .f32⟩ : BufTy).Contents (Elt F) → (⟨S256x256, .f32⟩ : BufTy).Contents (Elt F)),
    unary main_v152 main_v153 ((transpose S256x256 [1, 0] · transposes_S256x256_S256x256_1_0) : (⟨S256x256, .f32⟩ : BufTy).Contents (Elt F) → (⟨S256x256, .f32⟩ : BufTy).Contents (Elt F)),
    unary main_arg11 main_v154 ((extractStridedSlice S256x256 ![0, 256] · slices_S256x512_S256x256_0_256) : (⟨S256x512, .f32⟩ : BufTy).Contents (Elt F) → (⟨S256x256, .f32⟩ : BufTy).Contents (Elt F)),
    unary main_v154 main_v155 ((transpose S256x256 [1, 0] · transposes_S256x256_S256x256_1_0) : (⟨S256x256, .f32⟩ : BufTy).Contents (Elt F) → (⟨S256x256, .f32⟩ : BufTy).Contents (Elt F)),
    unary main_arg13 main_v156 ((extractStridedSlice S1x256 ![0, 0] · slices_S1x512_S1x256_0_0) : (⟨S1x512, .f32⟩ : BufTy).Contents (Elt F) → (⟨S1x256, .f32⟩ : BufTy).Contents (Elt F)),
    unary main_v156 main_v157 ((transpose S256x1 [1, 0] · transposes_S1x256_S256x1_1_0) : (⟨S1x256, .f32⟩ : BufTy).Contents (Elt F) → (⟨S256x1, .f32⟩ : BufTy).Contents (Elt F)),
    nullary main_c_47 (constantI S_ 32 0#32),
    TRef.unary (TRef.of (T := ⟨S_, .i32⟩) main_c_47) (TRef.of (T := ⟨S_, .f32⟩) main_call11_v0) (sitofp .f32),
    TRef.binary (TRef.of (T := ⟨S256x1, .f32⟩) main_v157) (TRef.of (T := ⟨S_, .f32⟩) main_call11_v0) (TRef.of (T := ⟨S256x128, .f32⟩) main_v158) (fun x v => pad S256x128 ![0, 0] ![0, 127] ![0, 0] x v pads_S256x1_S256x128_000_01270 h_S_),
    unary main_arg13 main_v159 ((extractStridedSlice S1x256 ![0, 256] · slices_S1x512_S1x256_0_256) : (⟨S1x512, .f32⟩ : BufTy).Contents (Elt F) → (⟨S1x256, .f32⟩ : BufTy).Contents (Elt F)),
    unary main_v159 main_v160 ((transpose S256x1 [1, 0] · transposes_S1x256_S256x1_1_0) : (⟨S1x256, .f32⟩ : BufTy).Contents (Elt F) → (⟨S256x1, .f32⟩ : BufTy).Contents (Elt F)),
    nullary main_c_48 (constantI S_ 32 0#32),
    TRef.unary (TRef.of (T := ⟨S_, .i32⟩) main_c_48) (TRef.of (T := ⟨S_, .f32⟩) main_call12_v0) (sitofp .f32),
    TRef.binary (TRef.of (T := ⟨S256x1, .f32⟩) main_v160) (TRef.of (T := ⟨S_, .f32⟩) main_call12_v0) (TRef.of (T := ⟨S256x128, .f32⟩) main_v161) (fun x v => pad S256x128 ![0, 0] ![0, 127] ![0, 0] x v pads_S256x1_S256x128_000_01270 h_S_),
    nullary main_c_49 (constantI S_ 32 0#32),
    TRef.unary (TRef.of (T := ⟨S_, .i32⟩) main_c_49) (TRef.of (T := ⟨S_, .f32⟩) main_call13_v0) (sitofp .f32),
    TRef.binary (TRef.of (T := ⟨S9, .f32⟩) main_arg10) (TRef.of (T := ⟨S_, .f32⟩) main_call13_v0) (TRef.of (T := ⟨S128, .f32⟩) main_v162) (fun x v => pad S128 ![0] ![119] ![0] x v pads_S9_S128_01190 h_S_),
    reshape main_v162 main_v163 (rfl : (.f32 : EltTy) = .f32) shapeCasts_S128_S1x128,
    reshape main_arg12 main_v164 (rfl : (.f32 : EltTy) = .f32) shapeCasts_S256_S1x256,
    nullary main_c_50 (constantI S_ 32 0#32),
    TRef.unary (TRef.of (T := ⟨S_, .i32⟩) main_c_50) (TRef.of (T := ⟨S_, .f32⟩) main_call14_v0) (sitofp .f32),
    TRef.binary (TRef.of (T := ⟨S1, .f32⟩) main_arg14) (TRef.of (T := ⟨S_, .f32⟩) main_call14_v0) (TRef.of (T := ⟨S128, .f32⟩) main_v165) (fun x v => pad S128 ![0] ![127] ![0] x v pads_S1_S128_01270 h_S_),
    reshape main_v165 main_v166 (rfl : (.f32 : EltTy) = .f32) shapeCasts_S128_S1x128,
    reshape main_arg4 main_v167 (rfl : (.f32 : EltTy) = .f32) shapeCasts_S128_S1x128,
    reshape main_arg6 main_v168 (rfl : (.f32 : EltTy) = .f32) shapeCasts_S256_S1x256,
    reshape main_arg8 main_v169 (rfl : (.f32 : EltTy) = .f32) shapeCasts_S256_S1x256 ]

/-- What it writes. -/
abbrev W3 : List (Ref sig .tc) :=
  [main_v133, main_v134, main_v135, main_v136, main_v137, main_v138, main_v139, main_v140, main_v141, main_v142, main_v143, main_v144, main_v145, main_v146, main_v147, main_c_45, main_call9_v0, main_v148, main_v149, main_v150, main_c_46, main_call10_v0, main_v151, main_v152, main_v153, main_v154, main_v155, main_v156, main_v157, main_c_47, main_call11_v0, main_v158, main_v159, main_v160, main_c_48, main_call12_v0, main_v161, main_c_49, main_call13_v0, main_v162, main_v163, main_v164, main_c_50, main_call14_v0, main_v165, main_v166, main_v167, main_v168, main_v169]

theorem W3_eq : (L3 (F := F)).map HloOp.writes = W3.map fun w => {Proc.devRef (τ := τ) .tc w} := rfl

theorem L3_sub : (L3 (F := F)).Forall fun op => op.bufs ⊆ tcRefs τ sig :=
  ⟨unary_bufs_sub .., unary_bufs_sub .., binary_bufs_sub .., unary_bufs_sub .., nary_bufs_sub .., unary_bufs_sub .., reshape_bufs_sub .., unary_bufs_sub .., unary_bufs_sub .., reshape_bufs_sub .., unary_bufs_sub .., reshape_bufs_sub .., reshape_bufs_sub .., unary_bufs_sub .., unary_bufs_sub .., nullary_bufs_sub .., unary_bufs_sub .., binary_bufs_sub .., unary_bufs_sub .., unary_bufs_sub .., nullary_bufs_sub .., unary_bufs_sub .., binary_bufs_sub .., unary_bufs_sub .., unary_bufs_sub .., unary_bufs_sub .., unary_bufs_sub .., unary_bufs_sub .., unary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., reshape_bufs_sub .., nullary_bufs_sub .., unary_bufs_sub .., binary_bufs_sub .., reshape_bufs_sub .., reshape_bufs_sub .., reshape_bufs_sub .., reshape_bufs_sub ..⟩

theorem L3_fresh : (L3 (F := F)).Forall fun op => op.fresh = ∅ := by
  repeat' constructor

/-- The slices after the TensorCore call. -/
abbrev L4 : List (HloOp τ sig (Elt F)) :=
  [ unary main_v170_0 main_v171 ((extractStridedSlice S4096x9 ![0, 0] · slices_S4096x128_S4096x9_0_0) : (⟨S4096x128, .f32⟩ : BufTy).Contents (Elt F) → (⟨S4096x9, .f32⟩ : BufTy).Contents (Elt F)),
    unary main_v170_2 main_v172 ((extractStridedSlice S4096x1 ![0, 0] · slices_S4096x128_S4096x1_0_0) : (⟨S4096x128, .f32⟩ : BufTy).Contents (Elt F) → (⟨S4096x1, .f32⟩ : BufTy).Contents (Elt F)) ]

/-- What it writes. -/
abbrev W4 : List (Ref sig .tc) :=
  [main_v171, main_v172]

theorem W4_eq : (L4 (F := F)).map HloOp.writes = W4.map fun w => {Proc.devRef (τ := τ) .tc w} := rfl

theorem L4_sub : (L4 (F := F)).Forall fun op => op.bufs ⊆ tcRefs τ sig :=
  ⟨unary_bufs_sub .., unary_bufs_sub ..⟩

theorem L4_fresh : (L4 (F := F)).Forall fun op => op.fresh = ∅ := by
  repeat' constructor

end Cert.KernelIdeal.Host

end
-- ==== Proof.IHostEq.lean ====
/-
  The program is its host lines around the two calls.
-/
module

public import proofs.«01_k».proof.Proof.IHost

@[expose] public section

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

theorem part0_eq (d : Dev nD) : main_part0 (F := F) d
    = ((hlo rfl tr (fun _ => .ret (⟨⟩ : PUnit)) : Prog (TpuEff nD τ sig (Elt F) (SparseCore.Sig (Pipeline.Sig Λ₀ (Fin 1) fun p => (pcfgs (F := F) p).Adm) 1) .tc) PUnit)
        >>= fun _ => (sc (F := F)).run d 0 >>= fun _ => seq L0) := rfl
theorem part1_eq (d : Dev nD) : main_part1 (F := F) d = seq L1 := rfl
theorem part2_eq (d : Dev nD) : main_part2 (F := F) d = seq L2 := rfl

/-- The TensorCore call and the slices after it. -/
def tail : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ()) >>= fun _ => seq L4

theorem part3_eq (d : Dev nD) : main_part3 (F := F) d = seqK L3 tail := rfl

end Cert.KernelIdeal.Host

end
-- ==== Proof.IMain.lean ====
/-
  The whole program's run: the buffers after it, step by step, and the launch theorem applied.
-/
module

public import proofs.«01_k».proof.Proof.ILaunch
public import proofs.«01_k».proof.Proof.IHostEq

@[expose] public section

set_option maxRecDepth 16384

noncomputable section

namespace Cert.KernelIdeal.Sc

open Cert.KernelIdeal Cert.KernelIdeal.Gen Cert.Tok Cert.KernelIdeal.Lane Cert.KernelIdeal.Host
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.TcCoe Idealize.ShloMosaic.Tactic
open Idealize.ShloMosaic.StableHlo (held after seq seqK launchContents tcRefs wp_seq wp_hlo_within)
open Idealize.ShloMosaic.Pipeline (ucRefs unscopedBufs_held sub_ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-- The TensorCore's buffer `b` among the device's. -/
abbrev rf (b : Ref sig .tc) : DevRef τ sig := Proc.devRef .tc b

/-! ## The buffers, step by step -/

/-- After the transpose that starts the program. -/
def V1 (d : Dev nD) : Valuation τ sig (Elt F) := (tr (F := F)).result (launchContents m d)

/-- The transposed observations. -/
def fo (d : Dev nD) : S3x200x4096.Idx → BitVec 32 := V1 m d (rf main_v0)
/-- The boxes' buffer before the call. -/
def fb (d : Dev nD) : Buf (Elt F) (bxLoc d) := V1 m d (rf main_v1)

/-- After the SparseCore call: the boxes. -/
def V2 (d : Dev nD) : Valuation τ sig (Elt F) := Function.update (V1 m d) (rf main_v1) (Tgt (F := F) (fo m d))

/-- After the host lines between the calls. -/
def V3 (d : Dev nD) : Valuation τ sig (Elt F) := after L3 (after L2 (after L1 (after L0 (V2 m d))))

/-- The same over references. -/
def V3r (d : Dev nD) (b : Ref sig .tc) : Buf (Elt F) ((d : Thread nD τ).loc b) := V3 m d (rf b)

/-- After the TensorCore call: its three results. -/
def V4 (d : Dev nD) : Valuation τ sig (Elt F) :=
  Function.update (Function.update (Function.update (V3 m d) (rf main_v170_0) (res0 (V3r m) d)) (rf main_v170_1) (res1 (V3r m) d))
    (rf main_v170_2) (res2 (V3r m) d)
def V4r (d : Dev nD) (b : Ref sig .tc) : Buf (Elt F) ((d : Thread nD τ).loc b) := V4 m d (rf b)

/-- After the slices: the end. -/
def V5 (d : Dev nD) : Valuation τ sig (Elt F) := after L4 (V4 m d)

theorem rf_ne {a b : Ref sig .tc} (h : a ≠ b) : rf a ≠ rf b := fun e => h (Proc.devRef_injective .tc e)

theorem V4_0 (d : Dev nD) : V4r m d main_v170_0 = res0 (V3r m) d := by
  unfold V4r V4
  rw [Function.update_of_ne (rf_ne (by decide)), Function.update_of_ne (rf_ne (by decide)), Function.update_self]
theorem V4_1 (d : Dev nD) : V4r m d main_v170_1 = res1 (V3r m) d := by
  unfold V4r V4
  rw [Function.update_of_ne (rf_ne (by decide)), Function.update_self]
theorem V4_2 (d : Dev nD) : V4r m d main_v170_2 = res2 (V3r m) d := by
  unfold V4r V4
  rw [Function.update_self]
theorem V4_ne (d : Dev nD) (b : Ref sig .tc) (h0 : b ≠ main_v170_0) (h1 : b ≠ main_v170_1) (h2 : b ≠ main_v170_2) : V4r m d b = V3r m d b := by
  unfold V4r V4 V3r
  rw [Function.update_of_ne (rf_ne h2), Function.update_of_ne (rf_ne h1), Function.update_of_ne (rf_ne h0)]

/-! ## The steps -/

/-- A line of host operations: from the buffers at `V` to the same after it. -/
theorem lines_step (d : Dev nD) (ops : List (HloOp τ sig (Elt F))) (hs : ops.Forall fun op => op.bufs ⊆ tcRefs τ sig)
    (hf : ops.Forall fun op => op.fresh = ∅) (V : Valuation τ sig (Elt F)) {Q : PUnit → sProp 𝕄} :
    iprop((boundary (SparseCore.T d : Thread nD τ) ∗ (held (SparseCore.T d : Thread nD τ) (ucRefs τ sig) V : sProp 𝕄))
        ∗ ((boundary (SparseCore.T d : Thread nD τ) ∗ (held (SparseCore.T d : Thread nD τ) (ucRefs τ sig) (after ops V) : sProp 𝕄)) -∗ Q ⟨⟩))
      ⊢ wp frame (wpE ((K (F := F)).defs (D (F := F))) 𝒱 (SparseCore.T d) none) Set.univ (seq ops) Q := by
  have h := wp_seq (defs := (K (F := F)).defs (D (F := F))) 𝒱 none Set.univ d (ucRefs τ sig) (fun _ => .ret (⟨⟩ : PUnit)) (K := Q) ops
    (fun op ho => sub_ucRefs op (List.forall_iff_forall_mem.mp hs op ho)) (fun op ho => List.forall_iff_forall_mem.mp hf op ho) V
  iintro ⟨H, Hk⟩
  rw [show (seq ops : Prog (TpuEff nD τ sig (Elt F) (SparseCore.Sig (Pipeline.Sig Λ₀ (Fin 1) fun p => (pcfgs (F := F) p).Adm) 1) .tc) PUnit)
    = seq ops >>= fun _ => .ret (⟨⟩ : PUnit) from (bind_pure _).symm]
  iapply h $$ H
  iintro H
  rw [wp_ret]; imodintro
  iapply Hk; iexact H

/-- The call's two arrays out of the buffers, and back at other contents. -/
theorem held_two (d : Dev nD) (V : Valuation τ sig (Elt F)) :
    (held (SparseCore.T d : Thread nD τ) (ucRefs τ sig) V : sProp 𝕄)
      = iprop((obLoc d ↦{fullShare} (V (rf main_v0) : Buf (Elt F) (obLoc d))) ∗ (bxLoc d ↦{fullShare} (V (rf main_v1) : Buf (Elt F) (bxLoc d)))
        ∗ held (SparseCore.T d : Thread nD τ) (((ucRefs τ sig).erase (rf main_v0)).erase (rf main_v1)) V) := by
  unfold held
  rw [bigSep_erase (i := rf main_v0) (show rf main_v0 ∈ ucRefs τ sig by decide),
    bigSep_erase (i := rf main_v1) (s := (ucRefs τ sig).erase (rf main_v0)) (show rf main_v1 ∈ (ucRefs τ sig).erase (rf main_v0) by decide)]
  rfl

theorem held_rest (d : Dev nD) (V : Valuation τ sig (Elt F)) (f : Buf (Elt F) (bxLoc d)) :
    (held (SparseCore.T d : Thread nD τ) (((ucRefs τ sig).erase (rf main_v0)).erase (rf main_v1)) (Function.update V (rf main_v1) f) : sProp 𝕄)
      = held (SparseCore.T d : Thread nD τ) (((ucRefs τ sig).erase (rf main_v0)).erase (rf main_v1)) V :=
  bigSep_congr fun b hb => by rw [Function.update_of_ne (Finset.ne_of_mem_erase hb)]

theorem held_sc (d : Dev nD) : (held (SparseCore.T d : Thread nD τ) (ucRefs τ sig) (V2 m d) : sProp 𝕄)
    = iprop((obLoc d ↦{fullShare} (fo m d : Buf (Elt F) (obLoc d))) ∗ (bxLoc d ↦{fullShare} (Tgt (F := F) (fo m d) : Buf (Elt F) (bxLoc d)))
        ∗ held (SparseCore.T d : Thread nD τ) (((ucRefs τ sig).erase (rf main_v0)).erase (rf main_v1)) (V1 m d)) := by
  rw [held_two]
  unfold V2
  rw [held_rest, Function.update_self, Function.update_of_ne (rf_ne (by decide))]
  rfl

/-- The SparseCore call: the boxes' buffer from its contents to the boxes. -/
theorem sc_step (κ : GSem nD τ sig → ℕ) (d : Dev nD) {Q : PUnit → sProp 𝕄} :
    iprop((K (F := F)).ctx EH (P (fo m) (fb m)) κ ∗ (K (F := F)).tcSt EH d 0
        ∗ (held (SparseCore.T d : Thread nD τ) (ucRefs τ sig) (V1 m d) : sProp 𝕄)
        ∗ (((K (F := F)).tcSt EH d 1 ∗ (held (SparseCore.T d : Thread nD τ) (ucRefs τ sig) (V2 m d) : sProp 𝕄)) -∗ Q ⟨⟩))
      ⊢ wp frame (wpE ((K (F := F)).defs (D (F := F))) 𝒱 (SparseCore.T d) none) Set.univ ((K (F := F)).run d 0) Q := by
  rw [held_two, held_sc]
  iintro ⟨#Hctx, Hst, ⟨Ho, Hb, Hr⟩, Hk⟩
  iapply ((K (F := F)).wp_run (D (F := F)) 𝒱 (EH := EH) (P := P (fo m) (fb m)) κ d 0) $$ [Hst Ho Hb Hr Hk]
  isplitr; · iexact Hctx
  isplitl [Hst]; · iexact Hst
  isplitl [Ho Hb]
  · rw [st0_eq]
    isplitl [Ho]; · iexact Ho
    iexact Hb
  iintro ⟨Hst, Hdn⟩
  ihave Hdn' := (Entails.of_eq (dn0_eq (fo m) (fb m) d)) $$ Hdn
  icases Hdn' with ⟨Ho, Hb⟩
  iapply Hk
  isplitl [Hst]; · iexact Hst
  isplitl [Ho]; · iexact Ho
  isplitl [Hb]; · iexact Hb
  iexact Hr

/-- The TensorCore call as the program makes it. -/
def tcCall : Prog (TpuEff nD τ sig (Elt F) (SparseCore.Sig (Pipeline.Sig Λ₀ (Fin 1) fun p => (pcfgs (F := F) p).Adm) 1) .tc) PUnit :=
  Prog.lift (.customCall (SparseCore.inner (Pipeline.entry 0)) ())

/-- The same in the pipelines' own signature. -/
def tcEntry : Prog (TpuEff nD τ sig (Elt F) (Pipeline.Sig Λ₀ (Fin 1) fun p => (pcfgs (F := F) p).Adm) .tc) PUnit :=
  .op (.customCall (Pipeline.entry 0) ()) fun _ => .ret (⟨⟩ : PUnit)

theorem tcCall_eq : tcCall (F := F) = SparseCore.liftProg tcEntry := rfl

section
variable (W W' : (c : Dev nD) → (b : Ref sig .tc) → Buf (Elt F) ((c : Thread nD τ).loc b))

theorem tc_entry [∀ e, Nonempty (Elt F e)] (h0 : ∀ c, W' c main_v170_0 = res0 W c) (h1 : ∀ c, W' c main_v170_1 = res1 W c) (h2 : ∀ c, W' c main_v170_2 = res2 W c)
    (hne : ∀ c (b : Ref sig .tc), b ≠ main_v170_0 → b ≠ main_v170_1 → b ≠ main_v170_2 → W' c b = W c b) (d : Dev nD) {Q : PUnit → sProp 𝕄} :
    iprop((iprop(boundary (d.tc : Thread nD τ) ∗ (reg W W' h0 h1 h2 hne).post d) -∗ wp frame (wpE (D (F := F)) 𝒱 (d.tc : Thread nD τ) none) Set.univ (.ret (⟨⟩ : PUnit)) Q)
        ∗ boundary (d.tc : Thread nD τ) ∗ (reg W W' h0 h1 h2 hne).pre d ∗ levAts (K (F := F)).L (K (F := F)).lev ∗ G (F := F) d)
      ⊢ wp frame (wpE (D (F := F)) 𝒱 (d.tc : Thread nD τ) none) Set.univ tcEntry Q :=
  Pipeline.RegionSeg.wp (pcfgs (F := F)) adm0 (pdats W) (none : HIx 1) cellOf_inj EP defs₀ 𝒱₀ (K (F := F)).L (K (F := F)).lev
    (reg W W' h0 h1 h2 hne) d none (fun u hu => nomatch hu) (fun _ => .ret (⟨⟩ : PUnit)) Q
end

/-- The TensorCore call, over the buffers at any valuations that differ by its results. -/
theorem tc_call [∀ e, Nonempty (Elt F e)] (W W' : Dev nD → Valuation τ sig (Elt F))
    (h0 : ∀ c, W' c (rf main_v170_0) = res0 (fun d b => W d (rf b)) c) (h1 : ∀ c, W' c (rf main_v170_1) = res1 (fun d b => W d (rf b)) c)
    (h2 : ∀ c, W' c (rf main_v170_2) = res2 (fun d b => W d (rf b)) c)
    (hne : ∀ c (b : Ref sig .tc), b ≠ main_v170_0 → b ≠ main_v170_1 → b ≠ main_v170_2 → W' c (rf b) = W c (rf b)) (d : Dev nD) {Q : PUnit → sProp 𝕄} :
    iprop(levAts (K (F := F)).L (K (F := F)).lev ∗ boundary (d.tc : Thread nD τ)
        ∗ (held (d.tc : Thread nD τ) (ucRefs τ sig) (W d) : sProp 𝕄) ∗ owesLow d ∗ G (F := F) d
        ∗ ((boundary (d.tc : Thread nD τ) ∗ (held (d.tc : Thread nD τ) (ucRefs τ sig) (W' d) : sProp 𝕄) ∗ owesLow d) -∗ Q ⟨⟩))
      ⊢ wp frame (wpE (D (F := F)) 𝒱 (d.tc : Thread nD τ) none) Set.univ tcEntry Q := by
  have k : iprop(levAts (K (F := F)).L (K (F := F)).lev ∗ boundary (d.tc : Thread nD τ)
        ∗ (held (d.tc : Thread nD τ) (ucRefs τ sig) (W d) : sProp 𝕄) ∗ owesLow d ∗ G (F := F) d
        ∗ ((boundary (d.tc : Thread nD τ) ∗ (held (d.tc : Thread nD τ) (ucRefs τ sig) (W' d) : sProp 𝕄) ∗ owesLow d) -∗ Q ⟨⟩))
      ⊢ iprop((iprop(boundary (d.tc : Thread nD τ) ∗ (unscopedBufs d (fun b => W' d (rf b)) ∗ owesLow d)) -∗ wp frame (wpE (D (F := F)) 𝒱 (d.tc : Thread nD τ) none) Set.univ (.ret (⟨⟩ : PUnit)) Q)
        ∗ boundary (d.tc : Thread nD τ) ∗ (unscopedBufs d (fun b => W d (rf b)) ∗ owesLow d) ∗ levAts (K (F := F)).L (K (F := F)).lev ∗ G (F := F) d) := by
    rw [unscopedBufs_held d (W d), unscopedBufs_held d (W' d), wp_ret]
    iintro ⟨#Hl, Hb, Hh, Ho, Hg, Hk⟩
    isplitl [Hk]
    · iintro ⟨Hb, Hh, Ho⟩
      imodintro
      iapply Hk
      isplitl [Hb]; · iexact Hb
      isplitl [Hh]; · iexact Hh
      iexact Ho
    isplitl [Hb]; · iexact Hb
    isplitl [Hh Ho]
    · isplitl [Hh]; · iexact Hh
      iexact Ho
    isplitr; · iexact Hl
    iexact Hg
  exact k.trans (tc_entry (fun d b => W d (rf b)) (fun d b => W' d (rf b)) h0 h1 h2 hne d)

/-- The same as the program makes it. -/
theorem tc_lift {Q : PUnit → sProp 𝕄} (d : Dev nD) :
    wp frame (wpE (D (F := F)) 𝒱 (d.tc : Thread nD τ) none) Set.univ tcEntry Q
      ⊢ wp frame (wpE ((K (F := F)).defs (D (F := F))) 𝒱 (SparseCore.T d) none) Set.univ tcCall Q :=
  (K (F := F)).wp_liftProg (D (F := F)) 𝒱 (d.tc : Thread nD τ) Set.univ none tcEntry Q

/-! ## The program -/

abbrev Pr : Type 1 := Prog (TpuEff nD τ sig (Elt F) (SparseCore.Sig (Pipeline.Sig Λ₀ (Fin 1) fun p => (pcfgs (F := F) p).Adm) 1) .tc) PUnit

/-- The program from its second call on, and from each step before it on. -/
def s7 : Pr (F := F) := tcCall >>= fun _ => seq L4
def s6 : Pr (F := F) := (seq L3 : Pr (F := F)) >>= fun _ => s7
def s5 : Pr (F := F) := (seq L2 : Pr (F := F)) >>= fun _ => s6
def s4 : Pr (F := F) := (seq L1 : Pr (F := F)) >>= fun _ => s5
def s3 : Pr (F := F) := (seq L0 : Pr (F := F)) >>= fun _ => s4
def s2 (d : Dev nD) : Pr (F := F) := (K (F := F)).run d 0 >>= fun _ => s3
def s1 (d : Dev nD) : Pr (F := F) := (seq [tr] : Pr (F := F)) >>= fun _ => s2 d

theorem main_parts (d : Dev nD) : main (F := F) d = (main_part0 d >>= fun _ => main_part1 d >>= fun _ => main_part2 d >>= fun _ => main_part3 d) := rfl

theorem tr_seq : (hlo rfl tr (fun _ => .ret (⟨⟩ : PUnit)) : Pr (F := F)) = seq [tr] := rfl

theorem main_eq (d : Dev nD) : main (F := F) d = s1 d := by
  rw [main_parts, part0_eq, part1_eq, part2_eq, part3_eq, ← StableHlo.seq_bind_seqK, tr_seq]
  unfold s1 s2 s3 s4 s5 s6 s7
  simp only [bind_assoc]
  rfl

/-- The boundary and the buffers at a valuation. -/
def At (d : Dev nD) (V : Valuation τ sig (Elt F)) : sProp 𝕄 :=
  iprop(boundary (SparseCore.T d : Thread nD τ) ∗ (held (SparseCore.T d : Thread nD τ) (ucRefs τ sig) V : sProp 𝕄))

/-- A line of host operations before a program that is proved from the buffers after it. -/
theorem lines_then (d : Dev nD) (ops : List (HloOp τ sig (Elt F))) (hs : ops.Forall fun op => op.bufs ⊆ tcRefs τ sig)
    (hf : ops.Forall fun op => op.fresh = ∅) (V : Valuation τ sig (Elt F)) (k : Pr (F := F)) (R : sProp 𝕄) (Q : PUnit → sProp 𝕄)
    (h : iprop(R ∗ At d (after ops V)) ⊢ wp frame (wpE ((K (F := F)).defs (D (F := F))) 𝒱 (SparseCore.T d) none) Set.univ k Q) :
    iprop(R ∗ At d V) ⊢ wp frame (wpE ((K (F := F)).defs (D (F := F))) 𝒱 (SparseCore.T d) none) Set.univ ((seq ops : Pr (F := F)) >>= fun _ => k) Q := by
  rw [wp_bind]
  have hl := lines_step d ops hs hf V (Q := fun _ => wp frame (wpE ((K (F := F)).defs (D (F := F))) 𝒱 (SparseCore.T d) none) Set.univ k Q)
  unfold At at h ⊢
  iintro ⟨HR, HA⟩
  iapply hl
  isplitl [HA]; · iexact HA
  iintro HA
  iapply h
  isplitl [HR] <;> iassumption

/-- After its call the TensorCore owes nothing, its recorded waits at the first call's levels. -/
theorem tcSt_low (d : Dev nD) : (K (F := F)).tcSt EH d 1 ⊢ (iprop(owesLow d ∗ (owesLow d -∗ (K (F := F)).tcSt EH d 1)) : sProp 𝕄) := by
  unfold SparseCore.Cfg.tcSt owesLow
  rw [(K (F := F)).Otc_end d (le_refl 1)]
  iintro ⟨⟨%W, %hW, HO⟩, Hr⟩
  isplitl [HO]
  · iexists W
    isplitr
    · ipureintro; exact hW
    iexact HO
  iintro ⟨%W, %hW, HO⟩
  isplitl [HO]
  · iexists W
    isplitr
    · ipureintro; exact hW
    iexact HO
  iexact Hr

/-- What the program ends with. -/
def FIN (d : Dev nD) : sProp 𝕄 := held (SparseCore.T d : Thread nD τ) (ucRefs τ sig) (V5 m d)

/-- What stays beside the buffers from the first call on. -/
def Rest (d : Dev nD) : sProp 𝕄 :=
  iprop(levAts (K (F := F)).L (K (F := F)).lev ∗ (K (F := F)).tcSt EH d 1 ∗ G d ∗ (K (F := F)).tcSems0 d)

/-- What the launch wants of the program's end. -/
def End (d : Dev nD) : PUnit → sProp 𝕄 := fun _ => iprop((K (F := F)).tcSt EH d 1 ∗ FIN m d ∗ (K (F := F)).tcEnd d)

theorem run7 [∀ e, Nonempty (Elt F e)] (d : Dev nD) :
    iprop(Rest d ∗ At d (V3 m d)) ⊢ wp frame (wpE ((K (F := F)).defs (D (F := F))) 𝒱 (SparseCore.T d) none) Set.univ s7 (End m d) := by
  have hc := (tc_call (V3 m) (V4 m) (V4_0 m) (V4_1 m) (V4_2 m) (V4_ne m) d).trans
    (tc_lift d (Q := fun _ => wp frame (wpE ((K (F := F)).defs (D (F := F))) 𝒱 (SparseCore.T d) none) Set.univ (seq L4 : Pr (F := F)) (End m d)))
  have hl := lines_step d L4 L4_sub L4_fresh (V4 m d) (Q := End m d)
  unfold s7
  rw [wp_bind]
  unfold Rest At
  iintro ⟨⟨#Hl, Hst, HG, Hts⟩, Hb, Hh⟩
  ihave Hlow := (tcSt_low d) $$ Hst
  icases Hlow with ⟨Ho, Hback⟩
  iapply hc
  isplitr; · iexact Hl
  isplitl [Hb]; · iexact Hb
  isplitl [Hh]; · iexact Hh
  isplitl [Ho]; · iexact Ho
  isplitl [HG]; · iexact HG
  iintro ⟨Hb, Hh, Ho⟩
  iapply hl
  isplitl [Hb Hh]
  · isplitl [Hb] <;> iassumption
  unfold End FIN SparseCore.Cfg.tcEnd
  iintro ⟨Hb, Hh⟩
  isplitl [Ho Hback]
  · iapply Hback; iexact Ho
  isplitl [Hh]; · iexact Hh
  isplitl [Hb] <;> iassumption

theorem run3 [∀ e, Nonempty (Elt F e)] (d : Dev nD) :
    iprop(Rest d ∗ At d (V2 m d)) ⊢ wp frame (wpE ((K (F := F)).defs (D (F := F))) 𝒱 (SparseCore.T d) none) Set.univ s3 (End m d) :=
  lines_then d L0 L0_sub L0_fresh _ s4 _ _ <| lines_then d L1 L1_sub L1_fresh _ s5 _ _ <| lines_then d L2 L2_sub L2_fresh _ s6 _ _ <|
    lines_then d L3 L3_sub L3_fresh _ s7 _ _ (run7 m d)

/-- What stays beside the buffers before the first call. -/
def Rest0 (κ : GSem nD τ sig → ℕ) (d : Dev nD) : sProp 𝕄 :=
  iprop((K (F := F)).ctx EH (P (fo m) (fb m)) κ ∗ (K (F := F)).tcSt EH d 0 ∗ G d ∗ (K (F := F)).tcSems0 d)

theorem run2 [∀ e, Nonempty (Elt F e)] (κ : GSem nD τ sig → ℕ) (d : Dev nD) :
    iprop(Rest0 m κ d ∗ At d (V1 m d)) ⊢ wp frame (wpE ((K (F := F)).defs (D (F := F))) 𝒱 (SparseCore.T d) none) Set.univ (s2 d) (End m d) := by
  have hc := sc_step m κ d (Q := fun _ => wp frame (wpE ((K (F := F)).defs (D (F := F))) 𝒱 (SparseCore.T d) none) Set.univ s3 (End m d))
  have h3 := run3 m d
  unfold s2
  rw [wp_bind]
  unfold Rest0
  unfold Rest At at h3
  unfold At
  iintro ⟨⟨#Hctx, Hst, HG, Hts⟩, Hb, Hh⟩
  ihave #Hl := (SparseCore.Cfg.ctx_levAts κ) $$ Hctx
  iapply hc
  isplitr; · iexact Hctx
  isplitl [Hst]; · iexact Hst
  isplitl [Hh]; · iexact Hh
  iintro ⟨Hst, Hh⟩
  iapply h3
  isplitl [Hst HG Hts]
  · isplitr; · iexact Hl
    isplitl [Hst]; · iexact Hst
    isplitl [HG] <;> iassumption
  isplitl [Hb] <;> iassumption

theorem run1 [∀ e, Nonempty (Elt F e)] (κ : GSem nD τ sig → ℕ) (d : Dev nD) :
    iprop(Rest0 m κ d ∗ At d (launchContents m d)) ⊢ wp frame (wpE ((K (F := F)).defs (D (F := F))) 𝒱 (SparseCore.T d) none) Set.univ (s1 d) (End m d) :=
  lines_then d [tr] (by exact StableHlo.unary_bufs_sub ..) (by exact (rfl : (tr (F := F)).fresh = ∅)) _ (s2 d) _ _ (run2 m κ d)

/-- The program from what the launch gives it. -/
theorem hmain [∀ e, Nonempty (Elt F e)] (κ : GSem nD τ sig → ℕ) (d : Dev nD) :
    iprop((K (F := F)).ctx EH (P (fo m) (fb m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  have e0 : (unscopedBufs d (fun b => m ((SparseCore.T d).loc b)) : sProp 𝕄)
    = held (SparseCore.T d : Thread nD τ) (ucRefs τ sig) (launchContents m d) := unscopedBufs_held d (launchContents m d)
  have k : iprop((K (F := F)).ctx EH (P (fo m) (fb m)) κ ∗ (K (F := F)).tcSt EH d 0 ∗ (K (F := F)).tcRes m ρ d ∗ G d)
      ⊢ (iprop(Rest0 m κ d ∗ At d (launchContents m d)) : sProp 𝕄) := by
    unfold SparseCore.Cfg.tcRes Rest0 At
    rw [e0]
    iintro ⟨#Hctx, Hst, ⟨Hb, Hh, Hts, -⟩, HG⟩
    isplitl [Hst HG Hts]
    · isplitr; · iexact Hctx
      isplitl [Hst]; · iexact Hst
      isplitl [HG]; · iexact HG
      iexact Hts
    isplitl [Hb]; · iexact Hb
    iexact Hh
  have h := k.trans (run1 m κ d)
  unfold End at h
  rw [main_eq]
  generalize s1 (F := F) d = p at h ⊢
  exact h

/-- Every unscoped buffer's contents at the end. -/
def fq (d : Dev nD) (s' : Phys nD τ sig (Elt F)) : Prop :=
  ∀ b : Ref sig .tc, rf b ∈ ucRefs τ sig → s'.mem.mem ((d.tc : Thread nD τ).loc b) = V5 m d (rf b)

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact fun b hb => h _ hb

/-- What a run ends in: the buffers at their final contents, the counters at zero. -/
def QC : PUnit × MemSt nD τ sig (Elt F) → Prop := fun r =>
  (∀ (d : Dev nD) (b : Ref sig .tc), rf b ∈ ucRefs τ sig → r.2.mem ((d.tc : Thread nD τ).loc b) = V5 m d (rf b)) ∧ r.2.sem = fun _ => 0

/-- Every run ends there, from a memory whose observations are bytes. -/
theorem run_main [∀ e, Nonempty (Elt F e)] (hfo : ∀ d i, (fo m d i).toNat < 256) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (fo m) (fb m)) (A := ∅) facts v₀
    (fun q hq => match q with | 0 => nomatch hq)
    (fun q _ => match q with | 0 => tileObl (fo m) (fb m) facts hfo)
    (fun q _ => match q with | 0 => SparseCore.Cfg.VecSplit.of_plain (vecSplit (fo m) (fb m)))
    m ρ main G (FIN m) (u₀ (F := F)) (sep_elim_left.trans (hu₀ (fo m) (fb m))) (hmain m ρ) (fq m) (hfin m) (QC m) (fun _ h hz => ⟨h, hz⟩)

end Cert.KernelIdeal.Sc

end
-- ==== Proof.IFrame.lean ====
/-
  The frame: the observations are bytes, and no argument's buffer is written.
-/
module

public import proofs.«01_k».proof.Proof.IMain
public import proofs.«01_k».proof.Proof.Pre

@[expose] public section

set_option maxRecDepth 16384

noncomputable section

namespace Cert.KernelIdeal.Sc

open Cert.KernelIdeal Cert.KernelIdeal.Gen Cert.Tok Cert.KernelIdeal.Lane Cert.KernelIdeal.Host
open Idealize.ShloMosaic Idealize.SL.Sem
open Idealize.ShloMosaic.TcCoe
open Idealize.ShloMosaic.StableHlo (after launchContents after_unwritten)
open Idealize.ShloMosaic.Pipeline (ucRefs)

variable {F : FTy → Type} [FloatOps F]

variable (m : (ℓ : Loc nD τ sig) → Buf (Elt F) ℓ) (ρ : Dev nD → PrngReg)

/-- The transposed observations are the observations transposed. -/
theorem fo_eq (d : Dev nD) : fo m d = transpose S3x200x4096 [2, 1, 0] (m ((d.tc : Thread nD τ).loc main_arg0)) transposes_S4096x200x3_S3x200x4096_2_1_0 :=
  by unfold fo V1 tr; rw [StableHlo.unary_result]

/-- Bytes stay bytes. -/
theorem fo_lt (h : ∀ (d : Dev nD) (i : S4096x200x3.Idx), ((m ((d.tc : Thread nD τ).loc main_arg0) : S4096x200x3.Idx → BitVec 32) i).toNat < 256) (d : Dev nD) (i : S3x200x4096.Idx) :
    (fo m d i).toNat < 256 := by
  rw [fo_eq]; exact h d _

/-- What the two calls and the transpose write. -/
def Wcall : List (Ref sig .tc) := [main_v0, main_v1, main_v170_0, main_v170_1, main_v170_2]

/-- Not written by any of the program's steps. -/
abbrev Unwritten (r : Ref sig .tc) : Prop := r ∉ Wcall ∧ r ∉ W0 ∧ r ∉ W1 ∧ r ∉ W2 ∧ r ∉ W3 ∧ r ∉ W4

/-- A buffer the program does not write keeps its contents. -/
theorem kept (d : Dev nD) (r : Ref sig .tc) (h : Unwritten r) : V5 m d (rf r) = m ((d.tc : Thread nD τ).loc r) := by
  obtain ⟨hc, h0, h1, h2, h3, h4⟩ := h
  have n (b : Ref sig .tc) (hb : b ∈ Wcall) : r ≠ b := fun e => hc (e ▸ hb)
  have n0 := n main_v0 (by decide)
  have n1 := n main_v1 (by decide)
  have n2 := n main_v170_0 (by decide)
  have n3 := n main_v170_1 (by decide)
  have n4 := n main_v170_2 (by decide)
  unfold V5
  rw [after_unwritten W4 W4_eq h4]
  refine (V4_ne m d r n2 n3 n4).trans ?_
  unfold V3r V3
  rw [after_unwritten W3 W3_eq h3, after_unwritten W2 W2_eq h2, after_unwritten W1 W1_eq h1, after_unwritten W0 W0_eq h0]
  unfold V2
  rw [Function.update_of_ne (rf_ne n1)]
  exact StableHlo.unary_result_ne main_arg0 main_v0 _ _ _ _ n0

/-- The arguments' buffers end as they were. -/
theorem args_kept [∀ e, Nonempty (Elt F e)] {r : PUnit × MemSt nD τ sig (Elt F)} (h : QC m r) (d : Dev nD) (b : Ref sig .tc)
    (hu : rf b ∈ ucRefs τ sig) (hb : Unwritten b) : r.2.mem ((d.tc : Thread nD τ).loc b) = m ((d.tc : Thread nD τ).loc b) :=
  (h.1 d b hu).trans (kept m d b hb)

end Cert.KernelIdeal.Sc

end
-- ==== Proof.Net.lean ====
/-
  The network of the problem in plain sums over the extended reals, one sample at a time, from the sample's features.
-/
module

public import proofs.«01_k».proof.Proof.Tok
public import Idealize.ShloMosaic.Lib.Pointwise

@[expose] public section

noncomputable section

namespace Cert.Net

open Idealize.ShloMosaic

/-- The first convolution: 5 by 5 places, stride 3, over the 24 layers; biased and cut at zero. -/
def conv1 (w : (⟨4, ![128, 24, 5, 5]⟩ : Shape).Idx → EReal) (b : (⟨1, ![128]⟩ : Shape).Idx → EReal) (f : Fin 24 → Fin 11 → Fin 11 → EReal)
    (o : Fin 128) (i j : Fin 3) : EReal :=
  max ((∑ p : Fin 5, ∑ q : Fin 5, ∑ c : Fin 24, w (ix4 o c p q) * f c ⟨p.val + 3 * i.val, by omega⟩ ⟨q.val + 3 * j.val, by omega⟩) + b (ix1 o)) 0

/-- The second convolution: 3 by 3 places over 128 channels. -/
def conv2 (w : (⟨4, ![128, 128, 3, 3]⟩ : Shape).Idx → EReal) (b : (⟨1, ![128]⟩ : Shape).Idx → EReal) (h : Fin 128 → Fin 3 → Fin 3 → EReal)
    (o : Fin 128) : EReal :=
  max ((∑ p : Fin 3, ∑ q : Fin 3, ∑ c : Fin 128, w (ix4 o c p q) * h c p q) + b (ix1 o)) 0

/-- The features of the convolutions. -/
def cnn (w : (⟨2, ![256, 128]⟩ : Shape).Idx → EReal) (b : (⟨1, ![256]⟩ : Shape).Idx → EReal) (g : Fin 128 → EReal) (k : Fin 256) : EReal :=
  max ((∑ o : Fin 128, g o * w (ix2 k o)) + b (ix1 k)) 0

/-- The features of the centre cell. -/
def own (w : (⟨2, ![256, 24]⟩ : Shape).Idx → EReal) (b : (⟨1, ![256]⟩ : Shape).Idx → EReal) (f : Fin 24 → Fin 11 → Fin 11 → EReal) (k : Fin 256) : EReal :=
  max ((∑ c : Fin 24, f c 5 5 * w (ix2 k c)) + b (ix1 k)) 0

/-- A head over both kinds of features. -/
def head {T : ℕ} (w : (⟨2, ![T, 512]⟩ : Shape).Idx → EReal) (b : (⟨1, ![T]⟩ : Shape).Idx → EReal) (s g : Fin 256 → EReal) (u : Fin T) : EReal :=
  (∑ k : Fin 256, s k * w (ix2 u ⟨k.val, by omega⟩)) + (∑ k : Fin 256, g k * w (ix2 u ⟨256 + k.val, by omega⟩)) + b (ix1 u)

/-- The small number added to the scale. -/
def eps : EReal := Ideal.ofBits .f32 0x322BCC77#32

/-- A sample's features: the box, each layer over its scale. -/
def feat (w : ℕ → ℕ → BitVec 32) (mv : (⟨4, ![1, 24, 1, 1]⟩ : Shape).Idx → EReal) (c : Fin 24) (x y : Fin 11) : EReal :=
  Ideal.div (Cert.Tok.boxVal (F := Ideal) w (c.val * 128 + x.val * 11 + y.val) 200) (mv (ix4 0 c 0 0) + eps)

end Cert.Net

end
-- ==== Proof.WellPosed.lean ====
/-
  The value claim's precondition, read: every observation is a byte, and no scale is the negated small number.
-/
module

public import proofs.«01_k».proof.Pre_well_posed
public import proofs.«01_k».proof.Proof.Pre
public import proofs.«01_k».proof.Proof.Net

@[expose] public section

noncomputable section

namespace Cert.Pre_well_posed

open Idealize.ShloMosaic

/-- The shape relations the precondition takes. -/
theorem side : Facts where
  bcast_S_S4096x200x3 := by decide
  reducesTo_S4096x200x3_S_d0_1_2 := by decide
  h_S_ := by decide
  bcast_S_S1x24x1x1 := by decide
  reducesTo_S1x24x1x1_S_d0_1_2_3 := by decide

theorem both (p q : BitVec 1) (h : IntOp.andi p q = 1#1) : p = 1#1 ∧ q = 1#1 := by
  revert p q; decide

/-- The precondition says every observation is a byte, and every scale with the small number added is not zero. -/
theorem of_pre [Facts] (a0 : IVec S4096x200x3 32) (a1 : FVec Ideal S128x24x5x5 .f32) (a2 : FVec Ideal S128 .f32)
    (a3 : FVec Ideal S128x128x3x3 .f32) (a4 : FVec Ideal S128 .f32) (a5 : FVec Ideal S256x128 .f32) (a6 : FVec Ideal S256 .f32) (a7 : FVec Ideal S256x24 .f32)
    (a8 : FVec Ideal S256 .f32) (a9 : FVec Ideal S9x512 .f32) (a10 : FVec Ideal S9 .f32) (a11 : FVec Ideal S256x512 .f32) (a12 : FVec Ideal S256 .f32)
    (a13 : FVec Ideal S1x512 .f32) (a14 : FVec Ideal S1 .f32) (a15 : FVec Ideal S1x24x1x1 .f32)
    (h : fn a0 a1 a2 a3 a4 a5 a6 a7 a8 a9 a10 a11 a12 a13 a14 a15 = fun _ => 1#1) :
    (∀ i : S4096x200x3.Idx, (a0 i).toNat < 256) ∧ ∀ i : S1x24x1x1.Idx, (a15 i : EReal) + Cert.Net.eps ≠ 0 := by
  have hs : Subsingleton S_.Idx := ⟨fun a b => funext fun k => k.elim0⟩
  have e := congrFun h (fun k : Fin 0 => k.elim0)
  unfold fn at e
  obtain ⟨e1, e2⟩ := both _ _ e
  refine ⟨fun i => Cert.Pre_in_range.byte_of_bits _ (Host.reduce_andi_all _ _ _ _ _ e1 i), fun i hz => ?_⟩
  have hc := Host.reduce_andi_all _ _ _ _ _ e2 i
  have h2 : Ideal.cmp .une ((a15 i : EReal) + Cert.Net.eps) (Ideal.ofBits .f32 0x00000000#32) = 1#1 := hc
  rw [hz, Ideal.ofBits_zero_f32] at h2
  simp [Ideal.cmp] at h2

end Cert.Pre_well_posed

end
-- ==== Proof.Scat.lean ====
/-
  A scatter of one value per sample and token, at an index of four words: read at an index, it is the last token's value whose words name the index.
-/
module

public import proofs.«01_k».proof.Proof.Net
public import Idealize.ShloMosaic.Lib.ScatterToDense.RefScatter
public import Idealize.ShloMosaic.Lib.Routing.OpsSet

@[expose] public section

noncomputable section

namespace Cert.Scat

open Idealize.ShloMosaic Idealize.ShloMosaic.Routing Idealize.ShloMosaic.ScatterToDense

/-- The last token before `n` that hits gives the value. -/
def last {α : Type} (hit : ℕ → Prop) [DecidablePred hit] (val : ℕ → α) (z : α) : ℕ → α
  | 0 => z
  | n + 1 => if hit n then val n else last hit val z n

open Classical in
theorem last_eq_GS {α : Type} (hit : ℕ → Prop) [DecidablePred hit] (val : ℕ → α) (z : α) : ∀ n,
    last hit val z n = GS (fun k => if hit k then 0#32 else 1#32) val z 0 n
  | 0 => by rw [GS_zero]; rfl
  | n + 1 => by
    rw [GS_succ, ← last_eq_GS hit val z n]
    by_cases h : hit n <;> simp [last, h]

/-- The box is the scatter of the tokens' values. -/
theorem last_boxVal {F : FTy → Type} [FloatOps F] (w : ℕ → ℕ → BitVec 32) (c : ℕ) : ∀ n,
    last (fun t => Cert.Tok.hit (w t 0) (w t 1) c) (fun t => FloatOps.sitofp (F := F) .f32 (Cert.Tok.mp (w t 2))) Cert.Tok.zf n = Cert.Tok.boxVal w c n
  | 0 => rfl
  | n + 1 => by
    rw [Cert.Tok.boxVal_succ, ← last_boxVal w c n]
    rfl

/-! ## Small words -/

theorem toInt_small {m : ℕ} (h : m < 2 ^ 31) : (BitVec.ofNat 32 m).toInt = m := by
  rw [BitVec.toInt_ofNat', Int.bmod_eq_of_le (by omega) (by omega)]

/-- A small word is not negative: the wrap of negative words leaves it. -/
theorem wrap_small {m : ℕ} (h : m < 2 ^ 31) (w : BitVec 32) :
    Scalar.select (IntOp.cmpi .slt (BitVec.ofNat 32 m) 0#32) w (BitVec.ofNat 32 m) = BitVec.ofNat 32 m := by
  have e := Cert.Tok.slt_small (a := m) (b := 0) h (by omega)
  rw [if_neg (by omega)] at e
  rw [show (0#32) = BitVec.ofNat 32 0 from rfl, e]
  rfl

theorem hi_byte : ∀ n : Fin 256, IntOp.andi (IntOp.shrsi .host (BitVec.ofNat 32 n.val) 4#32) 15#32 = BitVec.ofNat 32 (n.val / 16) := by decide +kernel
theorem lo_byte : ∀ n : Fin 256, IntOp.andi (BitVec.ofNat 32 n.val) 15#32 = BitVec.ofNat 32 (n.val % 16) := by decide +kernel
theorem ne_byte : ∀ n : Fin 255, IntOp.cmpi .ne (BitVec.ofNat 32 n.val) 255#32 = 1#1 := by decide +kernel

theorem mpN_lt' {n : ℕ} (h : n < 256) : Cert.Tok.mpN n < 255 := by unfold Cert.Tok.mpN; split <;> omega

/-- The layer word of a token made of two bytes: its layer if the token is valid, 24 if not. -/
theorem layer_byte {p q : ℕ} (hp : p < 256) (hq : q < 256) :
    Scalar.select (IntOp.andi (IntOp.andi (IntOp.andi (IntOp.cmpi .ne (Cert.Tok.mp (BitVec.ofNat 32 p)) 255#32)
        (IntOp.cmpi .slt (IntOp.andi (IntOp.shrsi .host (Cert.Tok.mp (BitVec.ofNat 32 p)) 4#32) 15#32) 11#32))
        (IntOp.cmpi .slt (IntOp.andi (Cert.Tok.mp (BitVec.ofNat 32 p)) 15#32) 11#32))
        (IntOp.cmpi .slt (Cert.Tok.mp (BitVec.ofNat 32 q)) 24#32)) (Cert.Tok.mp (BitVec.ofNat 32 q)) 24#32
      = BitVec.ofNat 32 (if Cert.Tok.okN p q then Cert.Tok.mpN q else 24) := by
  have hp' := mpN_lt' hp
  have hq' := mpN_lt' hq
  rw [Cert.Tok.mp_byte ⟨p, hp⟩, Cert.Tok.mp_byte ⟨q, hq⟩]
  simp only
  rw [ne_byte ⟨_, hp'⟩, hi_byte ⟨_, by omega⟩, lo_byte ⟨_, by omega⟩]
  simp only
  rw [show (11#32) = BitVec.ofNat 32 11 from rfl, show (24#32) = BitVec.ofNat 32 24 from rfl, Cert.Tok.slt_small (by omega) (by omega),
    Cert.Tok.slt_small (by omega) (by omega), Cert.Tok.slt_small (by omega) (by omega)]
  unfold Cert.Tok.okN
  by_cases h1 : Cert.Tok.mpN p / 16 < 11 <;> by_cases h2 : Cert.Tok.mpN p % 16 < 11 <;> by_cases h3 : Cert.Tok.mpN q < 24 <;>
    simp [h1, h2, h3, IntOp.andi, Scalar.select]

/-- Four words name a cell of sample `n` just when the token is sample `n`'s, valid, and its column is the cell's. -/
theorem names {p q : ℕ} (hp : p < 256) (hq : q < 256) {c x y : ℕ} (hc : c < 24) (hx : x < 11) (hy : y < 11) :
    (((if Cert.Tok.okN p q then Cert.Tok.mpN q else 24) : ℕ) : ℤ) = c ∧ ((Cert.Tok.mpN p / 16 : ℕ) : ℤ) = x ∧ ((Cert.Tok.mpN p % 16 : ℕ) : ℤ) = y ↔
      Cert.Tok.hit (BitVec.ofNat 32 p) (BitVec.ofNat 32 q) (c * 128 + x * 11 + y) := by
  unfold Cert.Tok.hit
  rw [Cert.Tok.tok_byte hp hq, Cert.Tok.tcol_byte hp hq]
  by_cases h : Cert.Tok.okN p q
  · simp only [if_pos h]
    unfold Cert.Tok.okN at h
    refine ⟨fun e => ⟨rfl, by omega⟩, fun e => ?_⟩
    have e2 := e.2
    generalize Cert.Tok.mpN p / 16 = u at *
    generalize Cert.Tok.mpN p % 16 = v at *
    have e3 : Cert.Tok.mpN q = c := by omega
    have e4 : u = x := by omega
    omega
  · simp only [if_neg h]
    refine ⟨fun e => ?_, fun e => absurd e.1 (by decide)⟩
    omega

/-- Four words name an index when they are, read signed, its coordinates. -/
theorem scatter4 {α : Type} {N A B C K : ℕ} (d : ScatterDims ⟨4, ![N, A, B, C]⟩ ⟨3, ![N, K, 4]⟩ ⟨2, ![N, K]⟩)
    (hiw : d.insertedWindowDims = [0, 1, 2, 3]) (hsd : d.scatterDimsToOperandDims = [0, 1, 2, 3]) (hivd : d.indexVectorDim = 2)
    (huw : d.updateWindowDims = [])
    (x0 : (⟨4, ![N, A, B, C]⟩ : Shape).Idx → α) (idx : IVec ⟨3, ![N, K, 4]⟩ 32) (upd : (⟨2, ![N, K]⟩ : Shape).Idx → α)
    (hit : Fin N → ℕ → Prop) [∀ i, DecidablePred (hit i)] (val : Fin N → ℕ → α) (n : Fin N) (a : Fin A) (b : Fin B) (c : Fin C)
    (hval : ∀ (i : Fin N) (k : Fin K), upd (ix2 i k) = val i k.val)
    (hl : ∀ (i : Fin N) (k : Fin K), ((idx (ix3 i k 0)).toInt = n.val ∧ (idx (ix3 i k 1)).toInt = a.val ∧ (idx (ix3 i k 2)).toInt = b.val
      ∧ (idx (ix3 i k 3)).toInt = c.val) ↔ i = n ∧ hit n k.val) :
    Host.scatter d (fun _ b => b) x0 idx upd (ix4 n a b c) = last (hit n) (val n) (x0 (ix4 n a b c)) K := by
  obtain ⟨uw, iw, sd, iv, wf⟩ := d
  simp only at hiw hsd hivd huw
  subst hiw hsd hivd huw
  have hN : (⟨2, ![N, K]⟩ : Shape).numel = N * K := Shape.numel_rank2 _
  rw [scatter_at, last_eq_GS, ← scatter_fold_tok _ (val n) _ 0 n.isLt, ← hN, ← List.map_coe_finRange_eq_range, List.foldl_map]
  refine congrArg (fun f => List.foldl f _ _) (funext fun z => funext fun m => ?_)
  have hm : m.val < N * K := Nat.lt_of_lt_of_eq m.isLt hN
  have hK0 : 0 < K := Nat.pos_of_ne_zero fun h => by subst h; omega
  have hi : m.val / K < N := Nat.div_lt_of_lt_mul (by rwa [Nat.mul_comm] at hm)
  have hk : m.val % K < K := Nat.mod_lt _ hK0
  have e2 : (⟨2, ![N, K]⟩ : Shape).rowMajor.symm m = ix2 (⟨m.val / K, hi⟩ : Fin N) (⟨m.val % K, hk⟩ : Fin K) := by
    refine (symm22 m hi hk).trans ?_
    funext a; fin_cases a <;> rfl
  have hst (i : Fin N) (k : Fin K) (q : Fin 4) : ScatterDims.start ⟨[], [0, 1, 2, 3], [0, 1, 2, 3], 2, wf⟩ (ix2 i k) idx q = (idx (ix3 i k q)).toInt := by
    unfold ScatterDims.start
    rw [dif_pos (by fin_cases q <;> simp)]
    congr 2
    funext b
    fin_cases q <;> fin_cases b <;> rfl
  have hw (i : Fin N) (k : Fin K) (q : Fin 4) : ScatterDims.window ⟨[], [0, 1, 2, 3], [0, 1, 2, 3], 2, wf⟩ (ix2 i k) q = 0 := by
    unfold ScatterDims.window
    rw [dif_neg fun h => (of_decide_eq_true (List.mem_filter.1 h).2) (by fin_cases q <;> simp)]
  have hr (i : Fin N) (k : Fin K) : ScatterDims.resultIdx? ⟨[], [0, 1, 2, 3], [0, 1, 2, 3], 2, wf⟩ (ix2 i k) idx = some (ix4 n a b c) ↔ i = n ∧ hit n k.val := by
    rw [← hl, resultIdx?_eq_some]
    constructor
    · intro h
      have h0 := h 0; have h1 := h 1; have h2 := h 2; have h3 := h 3
      simp only [hst, hw, Nat.cast_zero, add_zero] at h0 h1 h2 h3
      exact ⟨h0, h1, h2, h3⟩
    · intro h q
      simp only [hst, hw, Nat.cast_zero, add_zero]
      fin_cases q
      exacts [h.1, h.2.1, h.2.2.1, h.2.2.2]
  unfold stepAtTok
  rw [e2, hval]
  by_cases e : m.val / K = n.val
  · obtain rfl : (⟨m.val / K, hi⟩ : Fin N) = n := Fin.ext e
    refine if_congr ((hr _ _).trans ⟨fun h => ⟨rfl, ?_⟩, fun h => ⟨rfl, ?_⟩⟩) rfl rfl
    · show 0 = (if hit _ (m.val % K) then 0#32 else 1#32).toNat
      rw [if_pos (show hit _ (m.val % K) from h.2)]; rfl
    · by_contra hn
      have h2 : 0 = (if hit _ (m.val % K) then 0#32 else 1#32).toNat := h.2
      rw [if_neg (show ¬ hit _ (m.val % K) from hn)] at h2
      exact absurd h2 (by decide)
  · rw [if_neg fun q => e (congrArg Fin.val ((hr _ _).1 q).1), if_neg fun q => e q.1]

/-- One block of values put at a start: inside it the block's value, outside what was there. -/
theorem scatter_block {α : Type} {A X Y O P Q : ℕ} (d : ScatterDims ⟨4, ![A, X, Y, O]⟩ ⟨1, ![2]⟩ ⟨4, ![A, P, Q, O]⟩)
    (huw : d.updateWindowDims = [0, 1, 2, 3]) (hiw : d.insertedWindowDims = []) (hsd : d.scatterDimsToOperandDims = [1, 2]) (hivd : d.indexVectorDim = 0)
    (x0 : (⟨4, ![A, X, Y, O]⟩ : Shape).Idx → α) (idx : IVec ⟨1, ![2]⟩ 32) (upd : (⟨4, ![A, P, Q, O]⟩ : Shape).Idx → α) (i j : ℕ)
    (hi : (idx (ix1 0)).toInt = i) (hj : (idx (ix1 1)).toInt = j) (a : Fin A) (x : Fin X) (y : Fin Y) (o : Fin O) :
    Host.scatter d (fun _ b => b) x0 idx upd (ix4 a x y o) =
      if h : (i ≤ x.val ∧ x.val < i + P) ∧ (j ≤ y.val ∧ y.val < j + Q) then upd (ix4 a ⟨x.val - i, by omega⟩ ⟨y.val - j, by omega⟩ o)
      else x0 (ix4 a x y o) := by
  obtain ⟨uw, iw, sd, iv, wf⟩ := d
  simp only at hiw hsd hivd huw
  subst hiw hsd hivd huw
  have hst (k : (⟨4, ![A, P, Q, O]⟩ : Shape).Idx) (q : Fin 4) : ScatterDims.start ⟨[0, 1, 2, 3], [], [1, 2], 0, wf⟩ k idx q = ((![0, i, j, 0] q : ℕ) : ℤ) := by
    unfold ScatterDims.start
    fin_cases q
    · rw [dif_neg (by simp)]; rfl
    · rw [dif_pos (by simp)]
      refine Eq.trans (congrArg (fun z => (idx z).toInt) ?_) hi
      funext b; fin_cases b; rfl
    · rw [dif_pos (by simp)]
      refine Eq.trans (congrArg (fun z => (idx z).toInt) ?_) hj
      funext b; fin_cases b; rfl
    · rw [dif_neg (by simp)]; rfl
  have hw (k : (⟨4, ![A, P, Q, O]⟩ : Shape).Idx) (q : Fin 4) : ScatterDims.window ⟨[0, 1, 2, 3], [], [1, 2], 0, wf⟩ k q = (k q).val := by
    unfold ScatterDims.window
    have hm : q ∈ (ScatterDims.mk (s := ⟨4, ![A, X, Y, O]⟩) (si := ⟨1, ![2]⟩) (u := ⟨4, ![A, P, Q, O]⟩) [0, 1, 2, 3] [] [1, 2] 0 wf).sKept :=
      List.mem_filter.2 ⟨List.mem_finRange _, decide_eq_true List.not_mem_nil⟩
    rw [dif_pos hm]
    fin_cases q <;> rfl
  have hr (k : (⟨4, ![A, P, Q, O]⟩ : Shape).Idx) : ScatterDims.resultIdx? ⟨[0, 1, 2, 3], [], [1, 2], 0, wf⟩ k idx = some (ix4 a x y o) ↔
      (k 0).val = a.val ∧ i + (k 1).val = x.val ∧ j + (k 2).val = y.val ∧ (k 3).val = o.val := by
    rw [resultIdx?_eq_some]
    constructor
    · intro h
      have h0 := h 0; have h1 := h 1; have h2 := h 2; have h3 := h 3
      simp only [hst, hw] at h0 h1 h2 h3
      have g0 : ((0 : ℕ) : ℤ) + ((k 0).val : ℤ) = (a.val : ℤ) := h0
      have g1 : (i : ℤ) + ((k 1).val : ℤ) = (x.val : ℤ) := h1
      have g2 : (j : ℤ) + ((k 2).val : ℤ) = (y.val : ℤ) := h2
      have g3 : ((0 : ℕ) : ℤ) + ((k 3).val : ℤ) = (o.val : ℤ) := h3
      omega
    · intro h q
      simp only [hst, hw]
      fin_cases q
      · show ((0 : ℕ) : ℤ) + ((k 0).val : ℤ) = (a.val : ℤ); omega
      · show (i : ℤ) + ((k 1).val : ℤ) = (x.val : ℤ); omega
      · show (j : ℤ) + ((k 2).val : ℤ) = (y.val : ℤ); omega
      · show ((0 : ℕ) : ℤ) + ((k 3).val : ℤ) = (o.val : ℤ); omega
  by_cases h : (i ≤ x.val ∧ x.val < i + P) ∧ (j ≤ y.val ∧ y.val < j + Q)
  · rw [dif_pos h]
    refine scatter_set_hit _ x0 idx upd _ _ (fun k hk => ?_) (ix4 a ⟨x.val - i, by omega⟩ ⟨y.val - j, by omega⟩ o)
      ((hr _).2 ⟨rfl, show i + (x.val - i) = x.val by omega, show j + (y.val - j) = y.val by omega, rfl⟩)
    have hk := (hr k).1 hk
    refine congrArg upd (funext fun q => Fin.ext ?_)
    fin_cases q
    · exact hk.1
    · show (k 1).val = x.val - i; omega
    · show (k 2).val = y.val - j; omega
    · exact hk.2.2.2
  · rw [dif_neg h]
    refine scatter_set_miss _ x0 idx upd _ fun k hk => h ?_
    have hk := (hr k).1 hk
    have h1 : (k 1).val < P := (k 1).isLt
    have h2 : (k 2).val < Q := (k 2).isLt
    omega

open Classical in
/-- One value put at every one of a list of places of a matrix. -/
theorem scatter_points {α : Type} {N O A : ℕ} (d : ScatterDims ⟨2, ![N, O]⟩ ⟨2, ![A, 2]⟩ ⟨1, ![A]⟩)
    (huw : d.updateWindowDims = []) (hiw : d.insertedWindowDims = [0, 1]) (hsd : d.scatterDimsToOperandDims = [0, 1]) (hivd : d.indexVectorDim = 1)
    (x0 : (⟨2, ![N, O]⟩ : Shape).Idx → α) (idx : IVec ⟨2, ![A, 2]⟩ 32) (upd : (⟨1, ![A]⟩ : Shape).Idx → α) (v : α) (hv : ∀ k, upd k = v)
    (f g : Fin A → ℕ) (hf : ∀ a, (idx (ix2 a 0)).toInt = f a) (hg : ∀ a, (idx (ix2 a 1)).toInt = g a) (r : Fin N) (o : Fin O) :
    Host.scatter d (fun _ b => b) x0 idx upd (ix2 r o) = if ∃ a, f a = r.val ∧ g a = o.val then v else x0 (ix2 r o) := by
  obtain ⟨uw, iw, sd, iv, wf⟩ := d
  simp only at hiw hsd hivd huw
  subst hiw hsd hivd huw
  have hst (k : (⟨1, ![A]⟩ : Shape).Idx) (q : Fin 2) : ScatterDims.start ⟨[], [0, 1], [0, 1], 1, wf⟩ k idx q = (idx (ix2 (k 0 : Fin A) q)).toInt := by
    unfold ScatterDims.start
    rw [dif_pos (by fin_cases q <;> simp)]
    congr 2
    funext b
    fin_cases q <;> fin_cases b <;> rfl
  have hw (k : (⟨1, ![A]⟩ : Shape).Idx) (q : Fin 2) : ScatterDims.window ⟨[], [0, 1], [0, 1], 1, wf⟩ k q = 0 := by
    unfold ScatterDims.window
    rw [dif_neg fun h => (of_decide_eq_true (List.mem_filter.1 h).2) (by fin_cases q <;> simp)]
  have hr (k : (⟨1, ![A]⟩ : Shape).Idx) : ScatterDims.resultIdx? ⟨[], [0, 1], [0, 1], 1, wf⟩ k idx = some (ix2 r o) ↔ f (k 0 : Fin A) = r.val ∧ g (k 0 : Fin A) = o.val := by
    rw [resultIdx?_eq_some]
    constructor
    · intro h
      have h0 := h 0; have h1 := h 1
      simp only [hst, hw, Nat.cast_zero, add_zero, hf, hg] at h0 h1
      have g0 : (f (k 0 : Fin A) : ℤ) = (r.val : ℤ) := (hf (k 0 : Fin A)).symm.trans h0
      have g1 : (g (k 0 : Fin A) : ℤ) = (o.val : ℤ) := (hg (k 0 : Fin A)).symm.trans h1
      omega
    · intro h q
      simp only [hst, hw, Nat.cast_zero, add_zero]
      fin_cases q
      · refine (hf (k 0 : Fin A)).trans ?_; show (f (k 0 : Fin A) : ℤ) = (r.val : ℤ); omega
      · refine (hg (k 0 : Fin A)).trans ?_; show (g (k 0 : Fin A) : ℤ) = (o.val : ℤ); omega
  by_cases h : ∃ a, f a = r.val ∧ g a = o.val
  · rw [if_pos h]
    obtain ⟨a, ha⟩ := h
    exact scatter_set_hit _ x0 idx upd _ _ (fun k _ => hv k) (ix1 a) ((hr _).2 ha)
  · rw [if_neg h]
    exact scatter_set_miss _ x0 idx upd _ fun k hk => h ⟨_, (hr k).1 hk⟩

end Cert.Scat

end
-- ==== Proof.HVal.lean ====
/-
  The arrays the dense stage reads, over the reals: what the host lines between the two calls leave in each.
-/
module

public import proofs.«01_k».proof.Proof.IHost
public import proofs.«01_k».proof.Proof.Scat
public import Idealize.ShloMosaic.Lib.Pointwise

@[expose] public section

set_option maxRecDepth 200000

noncomputable section

namespace Cert.KernelIdeal.HVal

open Cert.KernelIdeal Cert.KernelIdeal.Gen Cert.KernelIdeal.Host
open Idealize.ShloMosaic Idealize.ShloMosaic.StableHlo

variable (V : Valuation τ sig (Elt Ideal))

/-- The contents at the second call. -/
def V3 : Valuation τ sig (Elt Ideal) := after L3 (after L2 (after L1 (after L0 V)))

/-- Two words side by side. -/
def cat2 (a b : IVec S1 32) : IVec S2 32 := concatenate S2 0 [⟨S1, a⟩, ⟨S1, b⟩] concatenates_S1_S1_S2_d0

/-- A constant word. -/
def bw (i : BitVec 32) : IVec S1 32 := broadcastInDim S1 ![] bcast_S_S1 (constantI S_ 32 i)

/-- The first convolution's weights, placed at one place of the box and laid out by its columns. -/
def grp (c : IVec S2 32) (u : FVec Ideal S24x5x5x128 .f32) : FVec Ideal S3072x128 .f32 :=
  shapeCast S3072x128 (pad S24x128x128 ![0, 0, 0] ![0, 7, 0] ![0, 0, 0]
    (shapeCast S24x121x128 (Host.scatter scatter_S24x11x11x128_S2_S24x5x5x128_0123_n_12_0 (fun _ b => b)
      (broadcastInDim S24x11x11x128 ![] bcast_S_S24x11x11x128 (constant S_ .f32 0x00000000#32)) c u)
      shapeCasts_S24x11x11x128_S24x121x128) (sitofp .f32 (constantI S_ 32 0#32)) pads_S24x121x128_S24x128x128_000_070_000 h_S_) shapeCasts_S24x128x128_S3072x128

/-- The weights as placed. -/
def wt : FVec Ideal S24x5x5x128 .f32 := transpose S24x5x5x128 [1, 2, 3, 0] (V (Proc.devRef .tc main_arg1)) transposes_S128x24x5x5_S24x5x5x128_1_2_3_0

/-- One over each layer's scale. -/
def inv : FVec Ideal S24 .f32 :=
  Host.divf (broadcastInDim S24 ![] bcast_S_S24 (constant S_ .f32 0x3F800000#32))
    (addf (shapeCast S24 (V (Proc.devRef .tc main_arg15)) shapeCasts_S1x24x1x1_S24) (broadcastInDim S24 ![] bcast_S_S24 (constant S_ .f32 0x322BCC77#32)))

/-- Columns of weights, each row times its layer's factor. -/
def scaled (g : FVec Ideal S3072x128 .f32) (q : FVec Ideal S24 .f32) : FVec Ideal S3072x128 .bf16 :=
  truncf .bf16 (mulf g (broadcastInDim S3072x128 ![0, 1] bcast_S3072x1_S3072x128_0_1 (broadcastInDim S3072x1 ![0] bcast_S3072_S3072x1_0
    (shapeCast S3072 (broadcastInDim S24x128 ![0] bcast_S24_S24x128_0 q) shapeCasts_S24x128_S3072)))) bitsLt_bf16_f32

/-- Ten blocks side by side. -/
def cat10 (b0 b1 b2 b3 b4 b5 b6 b7 b8 b9 : FVec Ideal S3072x128 .bf16) : FVec Ideal S3072x1280 .bf16 :=
  concatenate S3072x1280 1 [⟨S3072x128, b0⟩, ⟨S3072x128, b1⟩, ⟨S3072x128, b2⟩, ⟨S3072x128, b3⟩, ⟨S3072x128, b4⟩, ⟨S3072x128, b5⟩, ⟨S3072x128, b6⟩, ⟨S3072x128, b7⟩,
    ⟨S3072x128, b8⟩, ⟨S3072x128, b9⟩]
    concatenates_S3072x128_S3072x128_S3072x128_S3072x128_S3072x128_S3072x128_S3072x128_S3072x128_S3072x128_S3072x128_S3072x1280_d1

/-- A placed and scaled block. -/
def blk (i j : BitVec 32) : FVec Ideal S3072x128 .bf16 := scaled (grp (cat2 (bw i) (bw j)) (wt V)) (inv V)

/-- The nine placed and scaled blocks. -/
theorem blocks_eq : upto L3 (after L2 (after L1 (after L0 V))) 4 (Proc.devRef .tc main_v109) = blk V 0#32 0#32 ∧
    upto L3 (after L2 (after L1 (after L0 V))) 4 (Proc.devRef .tc main_v112) = blk V 0#32 3#32 ∧
    upto L3 (after L2 (after L1 (after L0 V))) 4 (Proc.devRef .tc main_v115) = blk V 0#32 6#32 ∧
    upto L3 (after L2 (after L1 (after L0 V))) 4 (Proc.devRef .tc main_v118) = blk V 3#32 0#32 ∧
    upto L3 (after L2 (after L1 (after L0 V))) 4 (Proc.devRef .tc main_v121) = blk V 3#32 3#32 ∧
    upto L3 (after L2 (after L1 (after L0 V))) 4 (Proc.devRef .tc main_v124) = blk V 3#32 6#32 ∧
    upto L3 (after L2 (after L1 (after L0 V))) 4 (Proc.devRef .tc main_v127) = blk V 6#32 0#32 ∧
    upto L3 (after L2 (after L1 (after L0 V))) 4 (Proc.devRef .tc main_v130) = blk V 6#32 3#32 ∧
    upto L3 (after L2 (after L1 (after L0 V))) 4 (Proc.devRef .tc main_v133) = blk V 6#32 6#32 := by
  after_reads_simp [TRef.unary, TRef.binary, TRef.toBuf, TRef.ofBuf, cast_eq]
  refine ⟨?_, ?_, ?_, ?_, ?_, ?_, ?_, ?_, ?_⟩
  all_goals refine congrArg (fun c => scaled (grp c (wt V)) (inv V)) (congrArg₂ cat2 ?_ ?_)
  all_goals after_reads_simp
  all_goals rfl

theorem cat2_0 (a b : IVec S1 32) : cat2 a b (ix1 0) = a (ix1 0) := by pointwise [cat2]
theorem cat2_1 (a b : IVec S1 32) : cat2 a b (ix1 1) = b (ix1 0) := by pointwise [cat2]
theorem bw_at (i : BitVec 32) : bw i (ix1 0) = i := by pointwise [bw]

/-- A placed weight: inside the window the weight, outside it zero. -/
theorem grp_at (i j : ℕ) (hi : i ≤ 6) (hj : j ≤ 6) (u : FVec Ideal S24x5x5x128 .f32) (a : Fin 24) (q : Fin 128) (o : Fin 128) :
    grp (cat2 (bw (BitVec.ofNat 32 i)) (bw (BitVec.ofNat 32 j))) u (ix2 ⟨a.val * 128 + q.val, by omega⟩ o)
      = if h : q.val < 121 ∧ (i ≤ q.val / 11 ∧ q.val / 11 < i + 5) ∧ (j ≤ q.val % 11 ∧ q.val % 11 < j + 5) then
          u (ix4 a ⟨q.val / 11 - i, by omega⟩ ⟨q.val % 11 - j, by omega⟩ o) else 0 := by
  have e0 : (cat2 (bw (BitVec.ofNat 32 i)) (bw (BitVec.ofNat 32 j)) (ix1 0)).toInt = i := by
    rw [cat2_0, bw_at, Cert.Scat.toInt_small (by omega)]
  have e1 : (cat2 (bw (BitVec.ofNat 32 i)) (bw (BitVec.ofNat 32 j)) (ix1 1)).toInt = j := by
    rw [cat2_1, bw_at, Cert.Scat.toInt_small (by omega)]
  generalize cat2 (bw (BitVec.ofNat 32 i)) (bw (BitVec.ofNat 32 j)) = c at e0 e1
  have z : FloatOps.sitofp (F := Ideal) FTy.f32 0#32 = (0 : EReal) := by
    show (((0#32 : BitVec 32).toInt : ℝ) : EReal) = 0
    simp
  pointwise [grp]
  by_cases hq : q.val < 121
  · rw [dif_pos hq]
    rw [Cert.Scat.scatter_block (P := 5) (Q := 5) _ rfl rfl rfl rfl _ c u i j e0 e1 a ⟨q.val / 11, by omega⟩ ⟨q.val % 11, by omega⟩ o]
    by_cases hw : (i ≤ q.val / 11 ∧ q.val / 11 < i + 5) ∧ (j ≤ q.val % 11 ∧ q.val % 11 < j + 5)
    · rw [dif_pos hw, dif_pos ⟨hq, hw⟩]
    · rw [dif_neg hw, dif_neg (fun h => hw h.2)]
      pointwise []
  · rw [dif_neg hq, dif_neg (fun h => hq h.1)]
    exact z

/-- The layers' scales. -/
abbrev mvv : S1x24x1x1.Idx → EReal := V (Proc.devRef .tc main_arg15)

theorem inv_at (a : Fin 24) : inv V (ix1 a) = Ideal.div 1 (mvv V (ix4 0 a 0 0) + Cert.Net.eps) := by
  unfold mvv
  pointwise [inv, Cert.Net.eps]

theorem scaled_at (g : FVec Ideal S3072x128 .f32) (q : FVec Ideal S24 .f32) (a : Fin 24) (k : Fin 128) (o : Fin 128) :
   scaled g q (ix2 ⟨a.val * 128 + k.val, by omega⟩ o) = g (ix2 ⟨a.val * 128 + k.val, by omega⟩ o) * q (ix1 a) := by
  pointwise [scaled]

/-- The ones' places: two words for each layer. -/
def catp (a b : IVec S24x1 32) : IVec S24x2 32 := concatenate S24x2 1 [⟨S24x1, a⟩, ⟨S24x1, b⟩] concatenates_S24x1_S24x1_S24x2_d1

theorem catp_0 (a b : IVec S24x1 32) (k : Fin 24) : catp a b (ix2 k 0) = a (ix2 k 0) := by pointwise [catp]
theorem catp_1 (a b : IVec S24x1 32) (k : Fin 24) : catp a b (ix2 k 1) = b (ix2 k 0) := by pointwise [catp]

/-- A place's word, wrapped if negative. -/
def wrapped (p : IVec S24 32) (n : BitVec 32) : IVec S24x1 32 :=
  broadcastInDim S24x1 ![0] bcast_S24_S24x1_0 (select (cmpi .slt p (broadcastInDim S24 ![] bcast_S_S24 (constantI S_ 32 0#32)))
    (addi p (broadcastInDim S24 ![] bcast_S_S24 (constantI S_ 32 n))) p)

/-- The centre cell's row in each layer. -/
def ctr : IVec S24 32 :=
  addi (addi (muli (iotaInDim S24 32 0) (broadcastInDim S24 ![] bcast_S_S24 (constantI S_ 32 128#32))) (broadcastInDim S24 ![] bcast_S_S24 (constantI S_ 32 55#32)))
    (broadcastInDim S24 ![] bcast_S_S24 (constantI S_ 32 5#32))

/-- A one at the centre cell of each layer, in the layer's column. -/
def ones (c : IVec S24x2 32) : FVec Ideal S3072x128 .f32 :=
  Host.scatter scatter_S3072x128_S24x2_S24_n_01_01_1 (fun _ b => b) (broadcastInDim S3072x128 ![] bcast_S_S3072x128 (constant S_ .f32 0x00000000#32)) c
    (broadcastInDim S24 ![] bcast_S_S24 (constant S_ .f32 0x3F800000#32))

theorem wrapped_at (p : IVec S24 32) (n : BitVec 32) (k : Fin 24) (m : ℕ) (hm : m < 2 ^ 31) (h : p (ix1 k) = BitVec.ofNat 32 m) :
    wrapped p n (ix2 k 0) = BitVec.ofNat 32 m := by
  pointwise [wrapped]
  rw [h]
  exact Cert.Scat.wrap_small hm _

theorem ctr_at : ∀ k : Fin 24, ctr (ix1 k) = BitVec.ofNat 32 (k.val * 128 + 60) := by
  intro k
  pointwise [ctr]
  revert k
  decide +kernel

theorem b9_eq : upto L3 (after L2 (after L1 (after L0 V))) 4 (Proc.devRef .tc main_v136)
    = scaled (ones (catp (wrapped ctr 3072#32) (wrapped (iotaInDim S24 32 0) 128#32))) (inv V) := by
  after_reads_simp [TRef.unary, TRef.binary, TRef.toBuf, TRef.ofBuf, cast_eq]
  refine congrArg (fun c => scaled (ones c) (inv V)) (congrArg₂ catp ?_ ?_)
  all_goals after_reads_simp
  all_goals rfl

/-- The ones, read. -/
theorem ones_at (a : Fin 24) (q : Fin 128) (o : Fin 24) :
    ones (catp (wrapped ctr 3072#32) (wrapped (iotaInDim S24 32 0) 128#32)) (ix2 ⟨a.val * 128 + q.val, by omega⟩ ⟨o.val, by omega⟩)
      = if o = a ∧ q.val = 60 then 1 else 0 := by
  have e0 (k : Fin 24) : (catp (wrapped ctr 3072#32) (wrapped (iotaInDim S24 32 0) 128#32) (ix2 k 0)).toInt = ((k.val * 128 + 60 : ℕ) : ℤ) := by
    rw [catp_0, wrapped_at ctr _ k (k.val * 128 + 60) (by omega) (ctr_at k), Cert.Scat.toInt_small (by omega)]
  have e1 (k : Fin 24) : (catp (wrapped ctr 3072#32) (wrapped (iotaInDim S24 32 0) 128#32) (ix2 k 1)).toInt = (k.val : ℤ) := by
    rw [catp_1, wrapped_at _ _ k k.val (by omega) rfl, Cert.Scat.toInt_small (by omega)]
  generalize catp (wrapped ctr 3072#32) (wrapped (iotaInDim S24 32 0) 128#32) = c at e0 e1
  unfold ones
  rw [Cert.Scat.scatter_points _ rfl rfl rfl rfl _ c _ (1 : EReal) (fun k => by pointwise []) (fun k => k.val * 128 + 60) (fun k => k.val) e0 e1 ⟨a.val * 128 + q.val, by omega⟩ ⟨o.val, by omega⟩]
  by_cases h : o = a ∧ q.val = 60
  · rw [if_pos h, if_pos ⟨a, by simp only; omega, by rw [h.1]⟩]
  · rw [if_neg h, if_neg]
    · pointwise []
    · rintro ⟨k, h1, h2⟩
      simp only at h1 h2
      exact h ⟨Fin.ext (by omega), by omega⟩

/-- The wide weights are the ten blocks side by side. -/
theorem wide_eq : V3 V (Proc.devRef .tc main_v137) = cat10 (blk V 0#32 0#32) (blk V 0#32 3#32) (blk V 0#32 6#32) (blk V 3#32 0#32) (blk V 3#32 3#32)
    (blk V 3#32 6#32) (blk V 6#32 0#32) (blk V 6#32 3#32) (blk V 6#32 6#32)
    (scaled (ones (catp (wrapped ctr 3072#32) (wrapped (iotaInDim S24 32 0) 128#32))) (inv V)) := by
  obtain ⟨e0, e1, e2, e3, e4, e5, e6, e7, e8⟩ := blocks_eq V
  have e9 := b9_eq V
  unfold V3
  generalize after L2 (after L1 (after L0 V)) = W at *
  rw [← e0, ← e1, ← e2, ← e3, ← e4, ← e5, ← e6, ← e7, ← e8, ← e9]
  clear e0 e1 e2 e3 e4 e5 e6 e7 e8 e9
  after_reads_simp
  simp only [Matrix.cons_val]
  unfold cat10
  rfl

/-- An array of extended reals. -/
abbrev arr (S : Shape) (x : FVec Ideal S .f32) : S.Idx → EReal := x

theorem c2_at (p q : Fin 3) (c o : Fin 128) : arr S1152x128 (V3 V (Proc.devRef .tc main_v139)) (ix2 ⟨(p.val * 3 + q.val) * 128 + c.val, by omega⟩ o)
    = arr S128x128x3x3 (V (Proc.devRef .tc main_arg3)) (ix4 o c p q) := by
  unfold V3
  after_reads_simp [TRef.unary, TRef.binary, TRef.toBuf, TRef.ofBuf, cast_eq]
  unfold arr
  pointwise []

theorem fc_at (o : Fin 128) (k : Fin 256) : arr S128x256 (V3 V (Proc.devRef .tc main_v140)) (ix2 o k)
    = arr S256x128 (V (Proc.devRef .tc main_arg5)) (ix2 k o) := by
  unfold V3
  after_reads_simp [TRef.unary, TRef.binary, TRef.toBuf, TRef.ofBuf, cast_eq]
  unfold arr
  pointwise []

theorem own_at (a : Fin 24) (k : Fin 256) : arr S24x256 (V3 V (Proc.devRef .tc main_v141)) (ix2 a k)
    = arr S256x24 (V (Proc.devRef .tc main_arg7)) (ix2 k a) := by
  unfold V3
  after_reads_simp [TRef.unary, TRef.binary, TRef.toBuf, TRef.ofBuf, cast_eq]
  unfold arr
  pointwise []

theorem b1_at (b : Fin 9) (o : Fin 128) : arr S1x1152 (V3 V (Proc.devRef .tc main_v145)) (ix2 0 ⟨b.val * 128 + o.val, by omega⟩)
    = arr S128 (V (Proc.devRef .tc main_arg2)) (ix1 o) := by
  unfold V3
  after_reads_simp [TRef.unary, TRef.binary, TRef.toBuf, TRef.ofBuf, cast_eq]
  unfold arr
  pointwise []

theorem b2_at (o : Fin 128) : arr S1x128 (V3 V (Proc.devRef .tc main_v167)) (ix2 0 o)
    = arr S128 (V (Proc.devRef .tc main_arg4)) (ix1 o) := by
  unfold V3
  after_reads_simp [TRef.unary, TRef.binary, TRef.toBuf, TRef.ofBuf, cast_eq]
  unfold arr
  pointwise []

theorem bfc_at (k : Fin 256) : arr S1x256 (V3 V (Proc.devRef .tc main_v168)) (ix2 0 k)
    = arr S256 (V (Proc.devRef .tc main_arg6)) (ix1 k) := by
  unfold V3
  after_reads_simp [TRef.unary, TRef.binary, TRef.toBuf, TRef.ofBuf, cast_eq]
  unfold arr
  pointwise []

theorem bown_at (k : Fin 256) : arr S1x256 (V3 V (Proc.devRef .tc main_v169)) (ix2 0 k)
    = arr S256 (V (Proc.devRef .tc main_arg8)) (ix1 k) := by
  unfold V3
  after_reads_simp [TRef.unary, TRef.binary, TRef.toBuf, TRef.ofBuf, cast_eq]
  unfold arr
  pointwise []

theorem w0s_at (k : Fin 256) (u : Fin 9) : arr S256x128 (V3 V (Proc.devRef .tc main_v148)) (ix2 k ⟨u.val, by omega⟩)
    = arr S9x512 (V (Proc.devRef .tc main_arg9)) (ix2 u ⟨k.val, by omega⟩) := by
  unfold V3
  after_reads_simp [TRef.unary, TRef.binary, TRef.toBuf, TRef.ofBuf, cast_eq]
  unfold arr
  pointwise []

theorem w0c_at (k : Fin 256) (u : Fin 9) : arr S256x128 (V3 V (Proc.devRef .tc main_v151)) (ix2 k ⟨u.val, by omega⟩)
    = arr S9x512 (V (Proc.devRef .tc main_arg9)) (ix2 u ⟨256 + k.val, by omega⟩) := by
  unfold V3
  after_reads_simp [TRef.unary, TRef.binary, TRef.toBuf, TRef.ofBuf, cast_eq]
  unfold arr
  pointwise []

theorem w1s_at (k u : Fin 256) : arr S256x256 (V3 V (Proc.devRef .tc main_v153)) (ix2 k u)
    = arr S256x512 (V (Proc.devRef .tc main_arg11)) (ix2 u ⟨k.val, by omega⟩) := by
  unfold V3
  after_reads_simp [TRef.unary, TRef.binary, TRef.toBuf, TRef.ofBuf, cast_eq]
  unfold arr
  pointwise []

theorem w1c_at (k u : Fin 256) : arr S256x256 (V3 V (Proc.devRef .tc main_v155)) (ix2 k u)
    = arr S256x512 (V (Proc.devRef .tc main_arg11)) (ix2 u ⟨256 + k.val, by omega⟩) := by
  unfold V3
  after_reads_simp [TRef.unary, TRef.binary, TRef.toBuf, TRef.ofBuf, cast_eq]
  unfold arr
  pointwise []

theorem w2s_at (k : Fin 256) : arr S256x128 (V3 V (Proc.devRef .tc main_v158)) (ix2 k 0)
    = arr S1x512 (V (Proc.devRef .tc main_arg13)) (ix2 0 ⟨k.val, by omega⟩) := by
  unfold V3
  after_reads_simp [TRef.unary, TRef.binary, TRef.toBuf, TRef.ofBuf, cast_eq]
  unfold arr
  pointwise []

theorem w2c_at (k : Fin 256) : arr S256x128 (V3 V (Proc.devRef .tc main_v161)) (ix2 k 0)
    = arr S1x512 (V (Proc.devRef .tc main_arg13)) (ix2 0 ⟨256 + k.val, by omega⟩) := by
  unfold V3
  after_reads_simp [TRef.unary, TRef.binary, TRef.toBuf, TRef.ofBuf, cast_eq]
  unfold arr
  pointwise []

theorem hb0_at (u : Fin 9) : arr S1x128 (V3 V (Proc.devRef .tc main_v163)) (ix2 0 ⟨u.val, by omega⟩)
    = arr S9 (V (Proc.devRef .tc main_arg10)) (ix1 u) := by
  unfold V3
  after_reads_simp [TRef.unary, TRef.binary, TRef.toBuf, TRef.ofBuf, cast_eq]
  unfold arr
  pointwise []

theorem hb1_at (u : Fin 256) : arr S1x256 (V3 V (Proc.devRef .tc main_v164)) (ix2 0 u)
    = arr S256 (V (Proc.devRef .tc main_arg12)) (ix1 u) := by
  unfold V3
  after_reads_simp [TRef.unary, TRef.binary, TRef.toBuf, TRef.ofBuf, cast_eq]
  unfold arr
  pointwise []

theorem hb2_at  : arr S1x128 (V3 V (Proc.devRef .tc main_v166)) (ix2 0 0)
    = arr S1 (V (Proc.devRef .tc main_arg14)) (ix1 0) := by
  unfold V3
  after_reads_simp [TRef.unary, TRef.binary, TRef.toBuf, TRef.ofBuf, cast_eq]
  unfold arr
  pointwise []

end Cert.KernelIdeal.HVal

end
-- ==== Proof.KPay.lean ====
/-
  One run of the dense stage over the reals, read at a row and a column.
-/
module

public import proofs.«01_k».proof.Proof.IDense
public import Idealize.ShloMosaic.Lib.Pointwise

@[expose] public section

set_option maxRecDepth 16384

noncomputable section

namespace Cert.KernelIdeal.Sc

open Cert.KernelIdeal Cert.KernelIdeal.Gen
open Idealize.ShloMosaic

variable (X1 : Vec Ideal S512x3072 .f32) (X2 : Vec Ideal S3072x1280 .bf16) (X3 : Vec Ideal S1152x128 .f32) (X4 : Vec Ideal S128x256 .f32)
  (X5 : Vec Ideal S24x256 .f32) (X6 : Vec Ideal S1x1152 .f32) (X7 : Vec Ideal S1x128 .f32) (X8 X9 : Vec Ideal S1x256 .f32)

/-- The product of the box with the wide weights. -/
theorem pay2_at (r : Fin 512) (k : Fin 1280) : k1_pay2 X1 X2 (ix2 r k) = ∑ j : Fin 3072, X1 (ix2 r j) * X2 (ix2 j k) := by
  pointwise [k1_pay2]

/-- The own cell's features. -/
theorem pay3_at (r : Fin 512) (k : Fin 256) : k1_pay3 X1 X2 X5 X9 (ix2 r k)
    = max ((∑ a : Fin 24, k1_pay2 X1 X2 (ix2 r ⟨1152 + a.val, by omega⟩) * X5 (ix2 a k)) + X9 (ix2 0 k)) 0 := by
  pointwise [k1_pay3]

/-- The convolutions' features before the last bias. -/
theorem pay4_at (r : Fin 512) (k : Fin 256) : k1_pay4 X1 X2 X6 X3 X7 X4 (ix2 r k)
    = ∑ o : Fin 128, max ((∑ j : Fin 1152, max (k1_pay2 X1 X2 (ix2 r ⟨j.val, by omega⟩) + X6 (ix2 0 j)) 0 * X3 (ix2 j o)) + X7 (ix2 0 o)) 0 * X4 (ix2 o k) := by
  pointwise [k1_pay4]

/-- The convolutions' features. -/
theorem pay5_at (P : FVec Ideal S512x256 .f32) (r : Fin 512) (k : Fin 256) : k1_pay5 P X8 (ix2 r k) = max (P (ix2 r k) + X8 (ix2 0 k)) 0 := by
  pointwise [k1_pay5]

theorem pay6_at (P Q : FVec Ideal S512x256 .f32) (A B : Vec Ideal S256x128 .f32) (C : Vec Ideal S1x128 .f32) (r : Fin 512) (t : Fin 128) :
    k1_pay6 P Q X8 A B C (ix2 r t) = (∑ k : Fin 256, P (ix2 r k) * A (ix2 k t)) + (∑ k : Fin 256, k1_pay5 Q X8 (ix2 r k) * B (ix2 k t)) + C (ix2 0 t) := by
  pointwise [k1_pay6]

theorem pay7_at (P Q : FVec Ideal S512x256 .f32) (A B : Vec Ideal S256x256 .f32) (C : Vec Ideal S1x256 .f32) (r : Fin 512) (t : Fin 256) :
    k1_pay7 P Q X8 A B C (ix2 r t) = (∑ k : Fin 256, P (ix2 r k) * A (ix2 k t)) + (∑ k : Fin 256, k1_pay5 Q X8 (ix2 r k) * B (ix2 k t)) + C (ix2 0 t) := by
  pointwise [k1_pay7]

theorem pay1_at (P Q : FVec Ideal S512x256 .f32) (A B : Vec Ideal S256x128 .f32) (C : Vec Ideal S1x128 .f32) (r : Fin 512) (t : Fin 128) :
    k1_pay1 (k1_pay5 Q X8) (k1_pay8 P A) B C (ix2 r t) = (∑ k : Fin 256, P (ix2 r k) * A (ix2 k t)) + (∑ k : Fin 256, k1_pay5 Q X8 (ix2 r k) * B (ix2 k t)) + C (ix2 0 t) := by
  pointwise [k1_pay1, k1_pay8]

end Cert.KernelIdeal.Sc

end
-- ==== Proof.KSum.lean ====
/-
  Sums of extended reals over the box's columns and over the second convolution's terms.
-/
module

public import proofs.«01_k».proof.Proof.Net
public import Mathlib.Algebra.BigOperators.Fin

@[expose] public section

noncomputable section

namespace Cert.KSum

open Finset

/-- A column of the box: its layer and its place there. -/
theorem col_split (k : Fin 3072) : ∃ (a : Fin 24) (q : Fin 128), k = ⟨a.val * 128 + q.val, by omega⟩ :=
  ⟨⟨k.val / 128, by omega⟩, ⟨k.val % 128, by omega⟩, Fin.ext (by simp only; omega)⟩

/-- The box times a window of weights, each scaled by its layer's factor: only the window's columns count. -/
theorem conv_sum (B w : Fin 3072 → EReal) (i j : ℕ) (hi : i ≤ 6) (hj : j ≤ 6) (u : Fin 24 → Fin 5 → Fin 5 → EReal) (s : Fin 24 → EReal)
    (hw : ∀ (a : Fin 24) (q : Fin 128), w ⟨a.val * 128 + q.val, by omega⟩
      = (if h : q.val < 121 ∧ (i ≤ q.val / 11 ∧ q.val / 11 < i + 5) ∧ (j ≤ q.val % 11 ∧ q.val % 11 < j + 5) then
          u a ⟨q.val / 11 - i, by omega⟩ ⟨q.val % 11 - j, by omega⟩ else 0) * s a) :
    ∑ k, B k * w k = ∑ p : Fin 5, ∑ q : Fin 5, ∑ a : Fin 24, u a p q * (B ⟨a.val * 128 + (p.val + i) * 11 + (q.val + j), by omega⟩ * s a) := by
  have key : ∑ x : Fin 5 × Fin 5 × Fin 24, u x.2.2 x.1 x.2.1 * (B ⟨x.2.2.val * 128 + (x.1.val + i) * 11 + (x.2.1.val + j), by omega⟩ * s x.2.2) = ∑ k, B k * w k := by
    refine Finset.sum_of_injOn (fun x => ⟨x.2.2.val * 128 + (x.1.val + i) * 11 + (x.2.1.val + j), by omega⟩) ?_ (fun _ _ => by simp) ?_ ?_
    · rintro ⟨p, q, a⟩ _ ⟨p', q', a'⟩ _ h
      simp only [Fin.mk.injEq] at h
      have ha : a.val = a'.val := by omega
      have hp : p.val = p'.val := by omega
      have hq : q.val = q'.val := by omega
      rw [Fin.ext ha, Fin.ext hp, Fin.ext hq]
    · intro k _ hk
      obtain ⟨a, q, rfl⟩ := col_split k
      rw [hw, dif_neg, zero_mul, mul_zero]
      intro h
      refine hk ⟨(⟨q.val / 11 - i, by omega⟩, ⟨q.val % 11 - j, by omega⟩, a), by simp, Fin.ext ?_⟩
      simp only
      omega
    · rintro ⟨p, q, a⟩ _
      have e := hw a ⟨(p.val + i) * 11 + (q.val + j), by omega⟩
      have h1 : ((p.val + i) * 11 + (q.val + j)) / 11 = p.val + i := by omega
      have h2 : ((p.val + i) * 11 + (q.val + j)) % 11 = q.val + j := by omega
      rw [dif_pos (by simp only; omega)] at e
      simp only [h1, h2, Nat.add_sub_cancel] at e
      simp only [add_assoc] at e ⊢
      rw [e, mul_left_comm]
  rw [← key, Fintype.sum_prod_type]
  exact Finset.sum_congr rfl fun p _ => Fintype.sum_prod_type _

/-- The box times one layer's one: the layer's centre cell. -/
theorem own_sum (B w : Fin 3072 → EReal) (o : Fin 24) (s : Fin 24 → EReal)
    (hw : ∀ (a : Fin 24) (q : Fin 128), w ⟨a.val * 128 + q.val, by omega⟩ = (if o = a ∧ q.val = 60 then 1 else 0) * s a) :
    ∑ k, B k * w k = B ⟨o.val * 128 + 60, by omega⟩ * s o := by
  rw [Finset.sum_eq_single (⟨o.val * 128 + 60, by omega⟩ : Fin 3072)]
  · have e := hw o ⟨60, by omega⟩
    rw [if_pos ⟨rfl, rfl⟩, one_mul] at e
    rw [← e]
  · intro k _ hk
    obtain ⟨a, q, rfl⟩ := col_split k
    rw [hw, if_neg, zero_mul, mul_zero]
    rintro ⟨h1, h2⟩
    exact hk (Fin.ext (by simp only [h1, h2]))
  · exact fun h => absurd (Finset.mem_univ _) h

/-- A sum over the second convolution's 1152 terms, by place and channel. -/
theorem terms_sum (f : Fin 1152 → EReal) :
    ∑ j, f j = ∑ p : Fin 3, ∑ q : Fin 3, ∑ c : Fin 128, f ⟨(p.val * 3 + q.val) * 128 + c.val, by omega⟩ := by
  have key : ∑ x : Fin 3 × Fin 3 × Fin 128, f ⟨(x.1.val * 3 + x.2.1.val) * 128 + x.2.2.val, by omega⟩ = ∑ j, f j := by
    refine Finset.sum_of_injOn (fun x => ⟨(x.1.val * 3 + x.2.1.val) * 128 + x.2.2.val, by omega⟩) ?_ (fun _ _ => by simp) ?_ (fun _ _ => rfl)
    · rintro ⟨p, q, a⟩ _ ⟨p', q', a'⟩ _ h
      simp only [Fin.mk.injEq] at h
      have h1 : p.val * 3 + q.val = p'.val * 3 + q'.val := by omega
      have ha : a.val = a'.val := by omega
      have hp : p.val = p'.val := by omega
      have hq : q.val = q'.val := by omega
      rw [Fin.ext ha, Fin.ext hp, Fin.ext hq]
    · intro k _ hk
      refine absurd ⟨(⟨k.val / 384, by omega⟩, ⟨k.val / 128 % 3, by omega⟩, ⟨k.val % 128, by omega⟩), by simp, Fin.ext ?_⟩ hk
      simp only
      omega
  rw [← key, Fintype.sum_prod_type]
  exact Finset.sum_congr rfl fun p _ => Fintype.sum_prod_type _

end Cert.KSum

end
-- ==== Proof.KVal.lean ====
/-
  The dense stage over the reals: its heads at a row, in terms of the box's row and the arguments.
-/
module

public import proofs.«01_k».proof.Proof.HVal
public import proofs.«01_k».proof.Proof.KPay
public import proofs.«01_k».proof.Proof.KSum

@[expose] public section

set_option maxRecDepth 16384

noncomputable section

namespace Cert.KernelIdeal.KVal

open Cert.KernelIdeal Cert.KernelIdeal.Gen Cert.KernelIdeal.HVal Cert.KernelIdeal.Sc Cert.Net
open Idealize.ShloMosaic

variable (V : Valuation τ sig (Elt Ideal)) (X1 : Vec Ideal S512x3072 .f32) (r : Fin 512)

/-- The wide weights. -/
abbrev wide : S3072x1280.Idx → EReal := V3 V (Proc.devRef .tc main_v137)

theorem cat10_at (b0 b1 b2 b3 b4 b5 b6 b7 b8 b9 : FVec Ideal S3072x128 .bf16) (k : Fin 3072) (b : Fin 10) (o : Fin 128) :
    cat10 b0 b1 b2 b3 b4 b5 b6 b7 b8 b9 (ix2 k ⟨b.val * 128 + o.val, by omega⟩) = ![b0, b1, b2, b3, b4, b5, b6, b7, b8, b9] b (ix2 k o) := by
  have ho := o.isLt
  fin_cases b <;> pointwise [cat10]
  all_goals
    repeat first
      | rw [dif_neg (by omega)]
      | rw [dif_pos (by omega)]
    exact congrArg _ (congrArg (ix2 k) (Fin.ext (by simp only; omega)))

theorem wt_at (a : Fin 24) (p q : Fin 5) (o : Fin 128) : wt V (ix4 a p q o) = arr S128x24x5x5 (V (Proc.devRef .tc main_arg1)) (ix4 o a p q) := by
  unfold arr
  pointwise [wt]

/-- A wide weight of a convolution's place. -/
theorem wide_at (i j : Fin 3) (a : Fin 24) (q : Fin 128) (o : Fin 128) :
    wide V (ix2 ⟨a.val * 128 + q.val, by omega⟩ ⟨(i.val * 3 + j.val) * 128 + o.val, by omega⟩)
      = (if h : q.val < 121 ∧ (3 * i.val ≤ q.val / 11 ∧ q.val / 11 < 3 * i.val + 5) ∧ (3 * j.val ≤ q.val % 11 ∧ q.val % 11 < 3 * j.val + 5) then
          arr S128x24x5x5 (V (Proc.devRef .tc main_arg1)) (ix4 o a ⟨q.val / 11 - 3 * i.val, by omega⟩ ⟨q.val % 11 - 3 * j.val, by omega⟩) else 0) * inv V (ix1 a) := by
  have e := cat10_at (blk V 0#32 0#32) (blk V 0#32 3#32) (blk V 0#32 6#32) (blk V 3#32 0#32) (blk V 3#32 3#32)
    (blk V 3#32 6#32) (blk V 6#32 0#32) (blk V 6#32 3#32) (blk V 6#32 6#32)
    (scaled (ones (catp (wrapped ctr 3072#32) (wrapped (iotaInDim S24 32 0) 128#32))) (inv V)) ⟨a.val * 128 + q.val, by omega⟩ ⟨i.val * 3 + j.val, by omega⟩ o
  unfold wide
  rw [wide_eq]
  refine e.trans ?_
  have g : ![blk V 0#32 0#32, blk V 0#32 3#32, blk V 0#32 6#32, blk V 3#32 0#32, blk V 3#32 3#32, blk V 3#32 6#32, blk V 6#32 0#32, blk V 6#32 3#32, blk V 6#32 6#32,
    (scaled (ones (catp (wrapped ctr 3072#32) (wrapped (iotaInDim S24 32 0) 128#32))) (inv V))] ⟨i.val * 3 + j.val, by omega⟩
      = blk V (BitVec.ofNat 32 (3 * i.val)) (BitVec.ofNat 32 (3 * j.val)) := by
    fin_cases i <;> fin_cases j <;> rfl
  rw [g]
  unfold blk
  rw [scaled_at, grp_at (3 * i.val) (3 * j.val) (by omega) (by omega)]
  simp only [wt_at]

/-- A wide weight of the centre cells. -/
theorem wide_own (a : Fin 24) (q : Fin 128) (o : Fin 24) :
    wide V (ix2 ⟨a.val * 128 + q.val, by omega⟩ ⟨1152 + o.val, by omega⟩) = (if o = a ∧ q.val = 60 then 1 else 0) * inv V (ix1 a) := by
  have e := cat10_at (blk V 0#32 0#32) (blk V 0#32 3#32) (blk V 0#32 6#32) (blk V 3#32 0#32) (blk V 3#32 3#32)
    (blk V 3#32 6#32) (blk V 6#32 0#32) (blk V 6#32 3#32) (blk V 6#32 6#32)
    (scaled (ones (catp (wrapped ctr 3072#32) (wrapped (iotaInDim S24 32 0) 128#32))) (inv V)) ⟨a.val * 128 + q.val, by omega⟩ 9 ⟨o.val, by omega⟩
  unfold wide
  rw [wide_eq]
  refine e.trans ?_
  refine (scaled_at (ones (catp (wrapped ctr 3072#32) (wrapped (iotaInDim S24 32 0) 128#32))) (inv V) a q ⟨o.val, by omega⟩).trans ?_
  rw [ones_at]

/-- The features of the row: the box's cells, each times its layer's factor. -/
def fK (a : Fin 24) (x y : Fin 11) : EReal := (X1 (ix2 r ⟨a.val * 128 + x.val * 11 + y.val, by omega⟩) : EReal) * inv V (ix1 a)

/-- The first convolution's sum. -/
theorem conv1_sum (i j : Fin 3) (o : Fin 128) :
    k1_pay2 X1 (V3 V (Proc.devRef .tc main_v137)) (ix2 r ⟨(i.val * 3 + j.val) * 128 + o.val, by omega⟩)
      = ∑ p : Fin 5, ∑ q : Fin 5, ∑ a : Fin 24, arr S128x24x5x5 (V (Proc.devRef .tc main_arg1)) (ix4 o a p q)
          * fK V X1 r a ⟨p.val + 3 * i.val, by omega⟩ ⟨q.val + 3 * j.val, by omega⟩ := by
  rw [pay2_at]
  exact Cert.KSum.conv_sum (fun k => X1 (ix2 r k)) (fun k => wide V (ix2 k ⟨(i.val * 3 + j.val) * 128 + o.val, by omega⟩)) (3 * i.val) (3 * j.val) (by omega) (by omega)
    (fun a p q => arr S128x24x5x5 (V (Proc.devRef .tc main_arg1)) (ix4 o a p q)) (fun a => inv V (ix1 a)) (fun a q => wide_at V i j a q o)

/-- The centre cells. -/
theorem own_cell (o : Fin 24) : k1_pay2 X1 (V3 V (Proc.devRef .tc main_v137)) (ix2 r ⟨1152 + o.val, by omega⟩) = fK V X1 r o 5 5 := by
  rw [pay2_at]
  exact Cert.KSum.own_sum (fun k => X1 (ix2 r k)) (fun k => wide V (ix2 k ⟨1152 + o.val, by omega⟩)) o (fun a => inv V (ix1 a)) (fun a q => wide_own V a q o)

/-- The first convolution at the row. -/
abbrev h1 : Fin 128 → Fin 3 → Fin 3 → EReal := conv1 (V (Proc.devRef .tc main_arg1)) (V (Proc.devRef .tc main_arg2)) (fK V X1 r)
/-- The second convolution at the row. -/
abbrev h2 : Fin 128 → EReal := conv2 (V (Proc.devRef .tc main_arg3)) (V (Proc.devRef .tc main_arg4)) (h1 V X1 r)
/-- The features of the convolutions at the row. -/
abbrev hc : Fin 256 → EReal := cnn (V (Proc.devRef .tc main_arg5)) (V (Proc.devRef .tc main_arg6)) (h2 V X1 r)
/-- The features of the centre cell at the row. -/
abbrev hs : Fin 256 → EReal := own (V (Proc.devRef .tc main_arg7)) (V (Proc.devRef .tc main_arg8)) (fK V X1 r)

theorem conv1_row (i j : Fin 3) (o : Fin 128) :
    max ((k1_pay2 X1 (V3 V (Proc.devRef .tc main_v137)) (ix2 r ⟨(i.val * 3 + j.val) * 128 + o.val, by omega⟩) : EReal)
      + arr S1x1152 (V3 V (Proc.devRef .tc main_v145)) (ix2 0 ⟨(i.val * 3 + j.val) * 128 + o.val, by omega⟩)) 0 = h1 V X1 r o i j := by
  have e := b1_at V ⟨i.val * 3 + j.val, by omega⟩ o
  rw [conv1_sum, e]
  rfl

theorem hs_row (k : Fin 256) :
    k1_pay3 X1 (V3 V (Proc.devRef .tc main_v137)) (V3 V (Proc.devRef .tc main_v141)) (V3 V (Proc.devRef .tc main_v169)) (ix2 r k) = hs V X1 r k := by
  have e1 (a : Fin 24) := own_at V a k
  have e2 := bown_at V k
  unfold arr at e1 e2
  rw [pay3_at, e2]
  exact congrArg₂ max (congrArg₂ (· + ·) (Finset.sum_congr rfl fun a _ => congrArg₂ (· * ·) (own_cell V X1 r a) (e1 a)) rfl) rfl

theorem conv2_row (o : Fin 128) :
    max ((∑ j : Fin 1152, max ((k1_pay2 X1 (V3 V (Proc.devRef .tc main_v137)) (ix2 r ⟨j.val, by omega⟩) : EReal)
      + arr S1x1152 (V3 V (Proc.devRef .tc main_v145)) (ix2 0 j)) 0 * arr S1152x128 (V3 V (Proc.devRef .tc main_v139)) (ix2 j o))
      + arr S1x128 (V3 V (Proc.devRef .tc main_v167)) (ix2 0 o)) 0 = h2 V X1 r o := by
  rw [Cert.KSum.terms_sum, b2_at]
  refine congrArg₂ max (congrArg₂ (· + ·) (Finset.sum_congr rfl fun p _ => Finset.sum_congr rfl fun q _ => Finset.sum_congr rfl fun k _ => ?_) rfl) rfl
  rw [c2_at, mul_comm]
  exact congrArg (_ * ·) (conv1_row V X1 r p q k)

theorem hc_row (k : Fin 256) :
    k1_pay5 (k1_pay4 X1 (V3 V (Proc.devRef .tc main_v137)) (V3 V (Proc.devRef .tc main_v145)) (V3 V (Proc.devRef .tc main_v139)) (V3 V (Proc.devRef .tc main_v167))
      (V3 V (Proc.devRef .tc main_v140))) (V3 V (Proc.devRef .tc main_v168)) (ix2 r k) = hc V X1 r k := by
  have e1 (o : Fin 128) := fc_at V o k
  have e2 := bfc_at V k
  have e3 (o : Fin 128) := conv2_row V X1 r o
  unfold arr at e1 e2 e3
  rw [pay5_at, pay4_at, e2]
  exact congrArg₂ max (congrArg₂ (· + ·) (Finset.sum_congr rfl fun o _ => congrArg₂ (· * ·) (e3 o) (e1 o)) rfl) rfl

end Cert.KernelIdeal.KVal

end
-- ==== Proof.KReg.lean ====
/-
  What the dense stage's windows hold at a grid point, and what its results' arrays hold after the call.
-/
module

public import proofs.«01_k».proof.Proof.IReg
public import Idealize.ShloMosaic.Lib.Pointwise
public import Idealize.ShloMosaic.Lib.Pipeline.ValueKit.Geometry

@[expose] public section

set_option maxRecDepth 16384

noncomputable section

namespace Cert.KernelIdeal.Sc

open Cert.KernelIdeal Cert.KernelIdeal.Gen
open Idealize.ShloMosaic Idealize.ShloMosaic.TcCoe

variable {F : FTy → Type} [FloatOps F]
variable (V : (c : Dev nD) → (b : Ref sig .tc) → Buf (Elt F) ((c : Thread nD τ).loc b)) (c : Dev nD)

theorem blkV_at (w : Fin cfg1.W) (t : Fin cfg1.N) (j : ((cfg1.win w).xblock (cfg1.grid.coords t)).Idx) :
    blkV V c w t ((cfg1.win w).xinj (cfg1.grid.coords t) j) = ((cfg1.win w).blk t).view.read (Elt F) (V c (Pipeline.arrRef spec1 w)) j :=
  (cfg1.win w).fill_xinj _ _ _ j

theorem points : cfg1.N = 8 := by decide +kernel

theorem idx0 : ∀ t : Fin cfg1.N, win1_0.index t = ![t.val, 0] := (by decide +kernel : ∀ t : Fin grid1.N, _)

/-- The box's rows at a point. -/
theorem blk0_at (t : Fin cfg1.N) (r : Fin 512) (k : Fin 3072) :
    blkV V c 0 t (ix2 r k) = V c main_v1 (ix2 ⟨512 * t.val + r.val, by have := t.isLt; have := points; omega⟩ k) := by
  refine (blkV_at V c 0 t (ix2 r k)).trans ?_
  show V c main_v1 (((cfg1.win 0).blk t).view.emb (ix2 r k)) = _
  refine congrArg (V c main_v1) ?_
  have e0 : win1_0.index t 0 = t.val := by rw [idx0]; rfl
  have e1 : win1_0.index t 1 = 0 := by rw [idx0]; rfl
  blk_ext [e0, e1]

/-- A block whose index is zero on every axis puts each element at its own place. -/
theorem emb_zero (w : Fin cfg1.W) (t : Fin cfg1.N) (h : ∀ a, (cfg1.win w).index t a = 0) (j : ((cfg1.win w).xblock (cfg1.grid.coords t)).Idx)
    (a : Fin (cfg1.win w).shape.rank) : (((cfg1.win w).rect t).emb j a : ℕ) = j a :=
  (cfg1.win w).rect_emb_val_of_index_zero t a (h a) j

/-! Every other window's block is its whole array. -/

theorem blk1 (t : Fin cfg1.N) : blkV V c 1 t = V c main_v137 :=
  funext fun j => (blkV_at V c 1 t j).trans (congrArg (V c main_v137) (funext fun a => Fin.ext (emb_zero 1 t (fun a => by fin_cases a <;> rfl) j a)))

theorem blk2 (t : Fin cfg1.N) : blkV V c 2 t = V c main_v139 :=
  funext fun j => (blkV_at V c 2 t j).trans (congrArg (V c main_v139) (funext fun a => Fin.ext (emb_zero 2 t (fun a => by fin_cases a <;> rfl) j a)))

theorem blk3 (t : Fin cfg1.N) : blkV V c 3 t = V c main_v140 :=
  funext fun j => (blkV_at V c 3 t j).trans (congrArg (V c main_v140) (funext fun a => Fin.ext (emb_zero 3 t (fun a => by fin_cases a <;> rfl) j a)))

theorem blk4 (t : Fin cfg1.N) : blkV V c 4 t = V c main_v141 :=
  funext fun j => (blkV_at V c 4 t j).trans (congrArg (V c main_v141) (funext fun a => Fin.ext (emb_zero 4 t (fun a => by fin_cases a <;> rfl) j a)))

theorem blk5 (t : Fin cfg1.N) : blkV V c 5 t = V c main_v145 :=
  funext fun j => (blkV_at V c 5 t j).trans (congrArg (V c main_v145) (funext fun a => Fin.ext (emb_zero 5 t (fun a => by fin_cases a <;> rfl) j a)))

theorem blk6 (t : Fin cfg1.N) : blkV V c 6 t = V c main_v167 :=
  funext fun j => (blkV_at V c 6 t j).trans (congrArg (V c main_v167) (funext fun a => Fin.ext (emb_zero 6 t (fun a => by fin_cases a <;> rfl) j a)))

theorem blk7 (t : Fin cfg1.N) : blkV V c 7 t = V c main_v168 :=
  funext fun j => (blkV_at V c 7 t j).trans (congrArg (V c main_v168) (funext fun a => Fin.ext (emb_zero 7 t (fun a => by fin_cases a <;> rfl) j a)))

theorem blk8 (t : Fin cfg1.N) : blkV V c 8 t = V c main_v169 :=
  funext fun j => (blkV_at V c 8 t j).trans (congrArg (V c main_v169) (funext fun a => Fin.ext (emb_zero 8 t (fun a => by fin_cases a <;> rfl) j a)))

theorem blk9 (t : Fin cfg1.N) : blkV V c 9 t = V c main_v148 :=
  funext fun j => (blkV_at V c 9 t j).trans (congrArg (V c main_v148) (funext fun a => Fin.ext (emb_zero 9 t (fun a => by fin_cases a <;> rfl) j a)))

theorem blk10 (t : Fin cfg1.N) : blkV V c 10 t = V c main_v151 :=
  funext fun j => (blkV_at V c 10 t j).trans (congrArg (V c main_v151) (funext fun a => Fin.ext (emb_zero 10 t (fun a => by fin_cases a <;> rfl) j a)))

theorem blk11 (t : Fin cfg1.N) : blkV V c 11 t = V c main_v153 :=
  funext fun j => (blkV_at V c 11 t j).trans (congrArg (V c main_v153) (funext fun a => Fin.ext (emb_zero 11 t (fun a => by fin_cases a <;> rfl) j a)))

theorem blk12 (t : Fin cfg1.N) : blkV V c 12 t = V c main_v155 :=
  funext fun j => (blkV_at V c 12 t j).trans (congrArg (V c main_v155) (funext fun a => Fin.ext (emb_zero 12 t (fun a => by fin_cases a <;> rfl) j a)))

theorem blk13 (t : Fin cfg1.N) : blkV V c 13 t = V c main_v158 :=
  funext fun j => (blkV_at V c 13 t j).trans (congrArg (V c main_v158) (funext fun a => Fin.ext (emb_zero 13 t (fun a => by fin_cases a <;> rfl) j a)))

theorem blk14 (t : Fin cfg1.N) : blkV V c 14 t = V c main_v161 :=
  funext fun j => (blkV_at V c 14 t j).trans (congrArg (V c main_v161) (funext fun a => Fin.ext (emb_zero 14 t (fun a => by fin_cases a <;> rfl) j a)))

theorem blk15 (t : Fin cfg1.N) : blkV V c 15 t = V c main_v163 :=
  funext fun j => (blkV_at V c 15 t j).trans (congrArg (V c main_v163) (funext fun a => Fin.ext (emb_zero 15 t (fun a => by fin_cases a <;> rfl) j a)))

theorem blk16 (t : Fin cfg1.N) : blkV V c 16 t = V c main_v164 :=
  funext fun j => (blkV_at V c 16 t j).trans (congrArg (V c main_v164) (funext fun a => Fin.ext (emb_zero 16 t (fun a => by fin_cases a <;> rfl) j a)))

theorem blk17 (t : Fin cfg1.N) : blkV V c 17 t = V c main_v166 :=
  funext fun j => (blkV_at V c 17 t j).trans (congrArg (V c main_v166) (funext fun a => Fin.ext (emb_zero 17 t (fun a => by fin_cases a <;> rfl) j a)))

/-- A row's point. -/
abbrev ptOf (n : Fin 4096) : Fin cfg1.N := ⟨n.val / 512, by have := points; omega⟩

theorem idx18 : ∀ t : Fin cfg1.N, win1_18.index t = ![t.val, 0] := (by decide +kernel : ∀ t : Fin grid1.N, _)

/-- Result 0's block of rows at a point. -/
def H0 (t : Fin cfg1.N) : FVec F S512x128 .f32 := head0 (blkV V c 0 t) (blkV V c 1 t) (blkV V c 2 t) (blkV V c 3 t) (blkV V c 4 t) (blkV V c 5 t) (blkV V c 6 t) (blkV V c 7 t) (blkV V c 8 t) (blkV V c 9 t) (blkV V c 10 t) (blkV V c 15 t)

/-- Result 0's array after the call. -/
def G0 : S4096x128.Idx → Elt F .f32 := fun i =>
  H0 V c (ptOf (i 0 : Fin 4096)) (ix2 (⟨(i 0 : Fin 4096).val % 512, by omega⟩ : Fin 512) (i 1 : Fin 128))

theorem res0_eq : res0 V c = G0 V c := by
  refine (dat V c).arrAt_eq_of_covers 18 (G0 V c) (by decide +kernel) fun t _ y => ?_
  have e0 : win1_18.index t 0 = t.val := by rw [idx18]; rfl
  have e1 : win1_18.index t 1 = 0 := by rw [idx18]; rfl
  have hy : (y 0).val < 512 := (y 0).isLt
  have ht : t.val < 8 := by
    have h : t.val < cfg1.N := t.isLt
    rwa [points] at h
  have hp : ptOf ⟨512 * t.val + (y 0).val, by omega⟩ = t := Fin.ext (by simp only; omega)
  have he : ((cfg1.win 18).blk t).view.emb y = (ix2 (⟨512 * t.val + (y 0).val, by omega⟩ : Fin 4096) (y 1 : Fin 128) : S4096x128.Idx) := by
    blk_ext [e0, e1]
  have hm : (512 * t.val + (y 0).val) % 512 = (y 0).val := by omega
  have hx : (ix2 (⟨(512 * t.val + (y 0).val) % 512, by omega⟩ : Fin 512) (y 1 : Fin 128) : S512x128.Idx) = y := by
    funext a
    fin_cases a
    · exact Fin.ext hm
    · rfl
  rw [he]
  exact (congrArg₂ (H0 V c) hp hx).symm

theorem idx19 : ∀ t : Fin cfg1.N, win1_19.index t = ![t.val, 0] := (by decide +kernel : ∀ t : Fin grid1.N, _)

/-- Result 1's block of rows at a point. -/
def H1 (t : Fin cfg1.N) : FVec F S512x256 .f32 := head1 (blkV V c 0 t) (blkV V c 1 t) (blkV V c 2 t) (blkV V c 3 t) (blkV V c 4 t) (blkV V c 5 t) (blkV V c 6 t) (blkV V c 7 t) (blkV V c 8 t) (blkV V c 11 t) (blkV V c 12 t) (blkV V c 16 t)

/-- Result 1's array after the call. -/
def G1 : S4096x256.Idx → Elt F .f32 := fun i =>
  H1 V c (ptOf (i 0 : Fin 4096)) (ix2 (⟨(i 0 : Fin 4096).val % 512, by omega⟩ : Fin 512) (i 1 : Fin 256))

theorem res1_eq : res1 V c = G1 V c := by
  refine (dat V c).arrAt_eq_of_covers 19 (G1 V c) (by decide +kernel) fun t _ y => ?_
  have e0 : win1_19.index t 0 = t.val := by rw [idx19]; rfl
  have e1 : win1_19.index t 1 = 0 := by rw [idx19]; rfl
  have hy : (y 0).val < 512 := (y 0).isLt
  have ht : t.val < 8 := by
    have h : t.val < cfg1.N := t.isLt
    rwa [points] at h
  have hp : ptOf ⟨512 * t.val + (y 0).val, by omega⟩ = t := Fin.ext (by simp only; omega)
  have he : ((cfg1.win 19).blk t).view.emb y = (ix2 (⟨512 * t.val + (y 0).val, by omega⟩ : Fin 4096) (y 1 : Fin 256) : S4096x256.Idx) := by
    blk_ext [e0, e1]
  have hm : (512 * t.val + (y 0).val) % 512 = (y 0).val := by omega
  have hx : (ix2 (⟨(512 * t.val + (y 0).val) % 512, by omega⟩ : Fin 512) (y 1 : Fin 256) : S512x256.Idx) = y := by
    funext a
    fin_cases a
    · exact Fin.ext hm
    · rfl
  rw [he]
  exact (congrArg₂ (H1 V c) hp hx).symm

theorem idx20 : ∀ t : Fin cfg1.N, win1_20.index t = ![t.val, 0] := (by decide +kernel : ∀ t : Fin grid1.N, _)

/-- Result 2's block of rows at a point. -/
def H2 (t : Fin cfg1.N) : FVec F S512x128 .f32 := headV (blkV V c 0 t) (blkV V c 1 t) (blkV V c 2 t) (blkV V c 3 t) (blkV V c 4 t) (blkV V c 5 t) (blkV V c 6 t) (blkV V c 7 t) (blkV V c 8 t) (blkV V c 13 t) (blkV V c 14 t) (blkV V c 17 t)

/-- Result 2's array after the call. -/
def G2 : S4096x128.Idx → Elt F .f32 := fun i =>
  H2 V c (ptOf (i 0 : Fin 4096)) (ix2 (⟨(i 0 : Fin 4096).val % 512, by omega⟩ : Fin 512) (i 1 : Fin 128))

theorem res2_eq : res2 V c = G2 V c := by
  refine (dat V c).arrAt_eq_of_covers 20 (G2 V c) (by decide +kernel) fun t _ y => ?_
  have e0 : win1_20.index t 0 = t.val := by rw [idx20]; rfl
  have e1 : win1_20.index t 1 = 0 := by rw [idx20]; rfl
  have hy : (y 0).val < 512 := (y 0).isLt
  have ht : t.val < 8 := by
    have h : t.val < cfg1.N := t.isLt
    rwa [points] at h
  have hp : ptOf ⟨512 * t.val + (y 0).val, by omega⟩ = t := Fin.ext (by simp only; omega)
  have he : ((cfg1.win 20).blk t).view.emb y = (ix2 (⟨512 * t.val + (y 0).val, by omega⟩ : Fin 4096) (y 1 : Fin 128) : S4096x128.Idx) := by
    blk_ext [e0, e1]
  have hm : (512 * t.val + (y 0).val) % 512 = (y 0).val := by omega
  have hx : (ix2 (⟨(512 * t.val + (y 0).val) % 512, by omega⟩ : Fin 512) (y 1 : Fin 128) : S512x128.Idx) = y := by
    funext a
    fin_cases a
    · exact Fin.ext hm
    · rfl
  rw [he]
  exact (congrArg₂ (H2 V c) hp hx).symm

end Cert.KernelIdeal.Sc

end
-- ==== Proof.KHead.lean ====
/-
  The TensorCore call's results over the reals, row by row: the heads over the row's features.
-/
module

public import proofs.«01_k».proof.Proof.KVal
public import proofs.«01_k».proof.Proof.KReg
public import proofs.«01_k».proof.Proof.IFrame

@[expose] public section

set_option maxRecDepth 16384

noncomputable section

namespace Cert.KernelIdeal.KVal

open Cert.KernelIdeal Cert.KernelIdeal.Gen Cert.KernelIdeal.HVal Cert.KernelIdeal.Sc Cert.Net
open Idealize.ShloMosaic
open Idealize.ShloMosaic.TcCoe

section
variable (V : Valuation τ sig (Elt Ideal)) (X1 : Vec Ideal S512x3072 .f32) (r : Fin 512)

/-- The first head at a row. -/
theorem head0_row (u : Fin 9) :
    head0 X1 (V3 V (Proc.devRef .tc main_v137)) (V3 V (Proc.devRef .tc main_v139)) (V3 V (Proc.devRef .tc main_v140)) (V3 V (Proc.devRef .tc main_v141))
      (V3 V (Proc.devRef .tc main_v145)) (V3 V (Proc.devRef .tc main_v167)) (V3 V (Proc.devRef .tc main_v168)) (V3 V (Proc.devRef .tc main_v169))
      (V3 V (Proc.devRef .tc main_v148)) (V3 V (Proc.devRef .tc main_v151)) (V3 V (Proc.devRef .tc main_v163)) (ix2 r ⟨u.val, by omega⟩)
      = head (V (Proc.devRef .tc main_arg9)) (V (Proc.devRef .tc main_arg10)) (hs V X1 r) (hc V X1 r) u := by
  have e1 (k : Fin 256) := w0s_at V k u
  have e2 (k : Fin 256) := w0c_at V k u
  have e3 := hb0_at V u
  unfold arr at e1 e2 e3
  unfold head0
  rw [pay6_at, e3]
  exact congrArg₂ (· + ·) (congrArg₂ (· + ·) (Finset.sum_congr rfl fun k _ => congrArg₂ (· * ·) (hs_row V X1 r k) (e1 k))
    (Finset.sum_congr rfl fun k _ => congrArg₂ (· * ·) (hc_row V X1 r k) (e2 k))) rfl

/-- The second head at a row. -/
theorem head1_row (u : Fin 256) :
    head1 X1 (V3 V (Proc.devRef .tc main_v137)) (V3 V (Proc.devRef .tc main_v139)) (V3 V (Proc.devRef .tc main_v140)) (V3 V (Proc.devRef .tc main_v141))
      (V3 V (Proc.devRef .tc main_v145)) (V3 V (Proc.devRef .tc main_v167)) (V3 V (Proc.devRef .tc main_v168)) (V3 V (Proc.devRef .tc main_v169))
      (V3 V (Proc.devRef .tc main_v153)) (V3 V (Proc.devRef .tc main_v155)) (V3 V (Proc.devRef .tc main_v164)) (ix2 r u)
      = head (V (Proc.devRef .tc main_arg11)) (V (Proc.devRef .tc main_arg12)) (hs V X1 r) (hc V X1 r) u := by
  have e1 (k : Fin 256) := w1s_at V k u
  have e2 (k : Fin 256) := w1c_at V k u
  have e3 := hb1_at V u
  unfold arr at e1 e2 e3
  unfold head1
  rw [pay7_at, e3]
  exact congrArg₂ (· + ·) (congrArg₂ (· + ·) (Finset.sum_congr rfl fun k _ => congrArg₂ (· * ·) (hs_row V X1 r k) (e1 k))
    (Finset.sum_congr rfl fun k _ => congrArg₂ (· * ·) (hc_row V X1 r k) (e2 k))) rfl

/-- The value head at a row. -/
theorem head2_row :
    headV X1 (V3 V (Proc.devRef .tc main_v137)) (V3 V (Proc.devRef .tc main_v139)) (V3 V (Proc.devRef .tc main_v140)) (V3 V (Proc.devRef .tc main_v141))
      (V3 V (Proc.devRef .tc main_v145)) (V3 V (Proc.devRef .tc main_v167)) (V3 V (Proc.devRef .tc main_v168)) (V3 V (Proc.devRef .tc main_v169))
      (V3 V (Proc.devRef .tc main_v158)) (V3 V (Proc.devRef .tc main_v161)) (V3 V (Proc.devRef .tc main_v166)) (ix2 r 0)
      = head (V (Proc.devRef .tc main_arg13)) (V (Proc.devRef .tc main_arg14)) (hs V X1 r) (hc V X1 r) 0 := by
  have e1 (k : Fin 256) := w2s_at V k
  have e2 (k : Fin 256) := w2c_at V k
  have e3 := hb2_at V
  unfold arr at e1 e2 e3
  unfold headV
  rw [pay1_at, e3]
  exact congrArg₂ (· + ·) (congrArg₂ (· + ·) (Finset.sum_congr rfl fun k _ => congrArg₂ (· * ·) (hs_row V X1 r k) (e1 k))
    (Finset.sum_congr rfl fun k _ => congrArg₂ (· * ·) (hc_row V X1 r k) (e2 k))) rfl

/-- The lines between the calls leave the boxes as they were. -/
theorem v1_kept : V3 V (Proc.devRef .tc main_v1) = V (Proc.devRef .tc main_v1) := by
  unfold HVal.V3
  rw [StableHlo.after_unwritten Host.W3 Host.W3_eq (by decide), StableHlo.after_unwritten Host.W2 Host.W2_eq (by decide), StableHlo.after_unwritten Host.W1 Host.W1_eq (by decide), StableHlo.after_unwritten Host.W0 Host.W0_eq (by decide)]

end

variable (m : (ℓ : Loc nD τ sig) → Buf (Elt Ideal) ℓ) (d : Dev nD)

/-- The box's rows of a sample's point. -/
abbrev rows (n : Fin 4096) : Vec Ideal S512x3072 .f32 := blkV (V3r m) d 0 (ptOf n)
/-- The sample's place among the point's rows. -/
abbrev pl (n : Fin 4096) : Fin 512 := ⟨n.val % 512, by omega⟩

/-- The first head of the whole program, at a sample. -/
theorem G0_at (n : Fin 4096) (u : Fin 9) : G0 (V3r m) d (ix2 n ⟨u.val, by omega⟩)
    = head (V2 m d (Proc.devRef .tc main_arg9)) (V2 m d (Proc.devRef .tc main_arg10)) (hs (V2 m d) (rows m d n) (pl n)) (hc (V2 m d) (rows m d n) (pl n)) u := by
  unfold G0 H0
  rw [blk1, blk2, blk3, blk4, blk5, blk6, blk7, blk8, blk9, blk10, blk15]
  exact head0_row (V2 m d) _ _ u

/-- The second head of the whole program, at a sample. -/
theorem G1_at (n : Fin 4096) (u : Fin 256) : G1 (V3r m) d (ix2 n u)
    = head (V2 m d (Proc.devRef .tc main_arg11)) (V2 m d (Proc.devRef .tc main_arg12)) (hs (V2 m d) (rows m d n) (pl n)) (hc (V2 m d) (rows m d n) (pl n)) u := by
  unfold G1 H1
  rw [blk1, blk2, blk3, blk4, blk5, blk6, blk7, blk8, blk11, blk12, blk16]
  exact head1_row (V2 m d) _ _ u

/-- The value head of the whole program, at a sample. -/
theorem G2_at (n : Fin 4096) : G2 (V3r m) d (ix2 n 0)
    = head (V2 m d (Proc.devRef .tc main_arg13)) (V2 m d (Proc.devRef .tc main_arg14)) (hs (V2 m d) (rows m d n) (pl n)) (hc (V2 m d) (rows m d n) (pl n)) 0 := by
  unfold G2 H2
  rw [blk1, blk2, blk3, blk4, blk5, blk6, blk7, blk8, blk13, blk14, blk17]
  exact head2_row (V2 m d) _ _

/-- The call's argument buffers are the program's. -/
theorem V2_arg (b : Ref sig .tc) (h0 : b ≠ main_v0) (h1 : b ≠ main_v1) : V2 m d (Proc.devRef .tc b) = m ((d.tc : Thread nD τ).loc b) := by
  unfold V2
  rw [Function.update_of_ne (rf_ne h1)]
  exact StableHlo.unary_result_ne main_arg0 main_v0 _ _ _ _ h0

/-- A sample's box. -/
theorem rows_at (n : Fin 4096) (k : Fin 3072) : rows m d n (ix2 (pl n) k) = Cert.Tok.boxVal (F := Ideal) (ow (fo m d) n.val) k.val 200 := by
  have hv : V3r m d main_v1 = Tgt (F := Ideal) (fo m d) := by
    refine (v1_kept (V2 m d)).trans ?_
    unfold V2
    rw [Function.update_self]
  unfold rows
  rw [blk0_at, hv]
  unfold Tgt
  have e : 512 * (n.val / 512) + n.val % 512 = n.val := by omega
  show Cert.Tok.boxVal (F := Ideal) (ow (fo m d) (512 * (n.val / 512) + n.val % 512)) k.val 200 = _
  rw [e]

end Cert.KernelIdeal.KVal

end
-- ==== Proof.KOut.lean ====
/-
  The whole kernel's three results over the reals: the network over the sample's features.
-/
module

public import proofs.«01_k».proof.Proof.KHead

@[expose] public section

set_option maxRecDepth 16384

noncomputable section

namespace Cert.Net

open Idealize.ShloMosaic

/-- A result of the network at a sample with features `f`. -/
def out {T : ℕ} (a1 : (⟨4, ![128, 24, 5, 5]⟩ : Shape).Idx → EReal) (a2 : (⟨1, ![128]⟩ : Shape).Idx → EReal) (a3 : (⟨4, ![128, 128, 3, 3]⟩ : Shape).Idx → EReal)
    (a4 : (⟨1, ![128]⟩ : Shape).Idx → EReal) (a5 : (⟨2, ![256, 128]⟩ : Shape).Idx → EReal) (a6 : (⟨1, ![256]⟩ : Shape).Idx → EReal)
    (a7 : (⟨2, ![256, 24]⟩ : Shape).Idx → EReal) (a8 : (⟨1, ![256]⟩ : Shape).Idx → EReal) (w : (⟨2, ![T, 512]⟩ : Shape).Idx → EReal)
    (b : (⟨1, ![T]⟩ : Shape).Idx → EReal) (f : Fin 24 → Fin 11 → Fin 11 → EReal) (u : Fin T) : EReal :=
  head w b (own a7 a8 f) (cnn a5 a6 (conv2 a3 a4 (conv1 a1 a2 f))) u

/-- Equal weights and features give equal results. -/
theorem out_congr {T : ℕ} {a1 b1 : (⟨4, ![128, 24, 5, 5]⟩ : Shape).Idx → EReal} {a2 b2 : (⟨1, ![128]⟩ : Shape).Idx → EReal} {a3 b3 : (⟨4, ![128, 128, 3, 3]⟩ : Shape).Idx → EReal}
    {a4 b4 : (⟨1, ![128]⟩ : Shape).Idx → EReal} {a5 b5 : (⟨2, ![256, 128]⟩ : Shape).Idx → EReal} {a6 b6 : (⟨1, ![256]⟩ : Shape).Idx → EReal}
    {a7 b7 : (⟨2, ![256, 24]⟩ : Shape).Idx → EReal} {a8 b8 : (⟨1, ![256]⟩ : Shape).Idx → EReal} {w w' : (⟨2, ![T, 512]⟩ : Shape).Idx → EReal}
    {b b' : (⟨1, ![T]⟩ : Shape).Idx → EReal} {f f' : Fin 24 → Fin 11 → Fin 11 → EReal} (u : Fin T)
    (e1 : a1 = b1) (e2 : a2 = b2) (e3 : a3 = b3) (e4 : a4 = b4) (e5 : a5 = b5) (e6 : a6 = b6) (e7 : a7 = b7) (e8 : a8 = b8) (ew : w = w') (eb : b = b')
    (ef : f = f') : out a1 a2 a3 a4 a5 a6 a7 a8 w b f u = out b1 b2 b3 b4 b5 b6 b7 b8 w' b' f' u := by
  subst e1 e2 e3 e4 e5 e6 e7 e8 ew eb ef
  rfl

/-- No scale is the negated small number. -/
abbrev Scaled (mv : (⟨4, ![1, 24, 1, 1]⟩ : Shape).Idx → EReal) : Prop := ∀ i, mv i + eps ≠ 0

/-- A cell times the inverse of a scale that is not zero is the cell over the scale. -/
theorem mul_inv_scale (x y : EReal) (h : y ≠ 0) : x * Ideal.div 1 y = Ideal.div x y := by
  unfold Ideal.div
  rw [if_neg h, if_neg h, one_mul]

end Cert.Net

namespace Cert.KernelIdeal.KVal

open Cert.KernelIdeal Cert.KernelIdeal.Gen Cert.KernelIdeal.HVal Cert.KernelIdeal.Sc Cert.Net
open Idealize.ShloMosaic
open Idealize.ShloMosaic.TcCoe

variable (m : (ℓ : Loc nD τ sig) → Buf (Elt Ideal) ℓ) (d : Dev nD)

/-- An argument's contents at the start. -/
abbrev at0 (b : Ref sig .tc) : Buf (Elt Ideal) ((d.tc : Thread nD τ).loc b) := m ((d.tc : Thread nD τ).loc b)

/-- A sample's features, out of the arguments. -/
abbrev fts (n : Fin 4096) : Fin 24 → Fin 11 → Fin 11 → EReal := feat (ow (fo m d) n.val) (at0 m d main_arg15)

/-- The kernel's features are the network's, where no scale is zero. -/
theorem fK_eq (hz : Scaled (at0 m d main_arg15)) (n : Fin 4096) :
    fK (V2 m d) (rows m d n) (pl n) = fts m d n := by
  funext a x y
  unfold fK fts feat
  rw [rows_at, inv_at]
  have e : mvv (V2 m d) = at0 m d main_arg15 := V2_arg m d main_arg15 (by decide) (by decide)
  rw [e]
  exact mul_inv_scale _ _ (hz _)

/-- The network at a sample, from the arguments as they were. -/
abbrev net {T : ℕ} (w : (⟨2, ![T, 512]⟩ : Shape).Idx → EReal) (b : (⟨1, ![T]⟩ : Shape).Idx → EReal) (n : Fin 4096) (u : Fin T) : EReal :=
  out (at0 m d main_arg1) (at0 m d main_arg2) (at0 m d main_arg3) (at0 m d main_arg4) (at0 m d main_arg5) (at0 m d main_arg6) (at0 m d main_arg7) (at0 m d main_arg8)
    w b (fts m d n) u

/-- A head over the call's buffers is the network's. -/
theorem net_eq (hz : Scaled (at0 m d main_arg15)) {T : ℕ} {w w' : (⟨2, ![T, 512]⟩ : Shape).Idx → EReal}
    {b b' : (⟨1, ![T]⟩ : Shape).Idx → EReal} (hw : w = w') (hb : b = b') (n : Fin 4096) (u : Fin T) :
    head w b (hs (V2 m d) (rows m d n) (pl n)) (hc (V2 m d) (rows m d n) (pl n)) u = net m d w' b' n u :=
  out_congr u (V2_arg m d main_arg1 (by decide) (by decide)) (V2_arg m d main_arg2 (by decide) (by decide)) (V2_arg m d main_arg3 (by decide) (by decide))
    (V2_arg m d main_arg4 (by decide) (by decide)) (V2_arg m d main_arg5 (by decide) (by decide)) (V2_arg m d main_arg6 (by decide) (by decide))
    (V2_arg m d main_arg7 (by decide) (by decide)) (V2_arg m d main_arg8 (by decide) (by decide)) hw hb (fK_eq m d hz n)

/-- The slices, read off the call's first result. -/
theorem v171_eq : V5 m d (Proc.devRef .tc main_v171) = extractStridedSlice S4096x9 ![0, 0] (G0 (V3r m) d) slices_S4096x128_S4096x9_0_0 := by
  have e : V4 m d (Proc.devRef .tc main_v170_0) = G0 (V3r m) d := (V4_0 m d).trans (res0_eq (V3r m) d)
  unfold V5
  after_reads_simp
  rw [e]

theorem v172_eq : V5 m d (Proc.devRef .tc main_v172) = extractStridedSlice S4096x1 ![0, 0] (G2 (V3r m) d) slices_S4096x128_S4096x1_0_0 := by
  have e : V4 m d (Proc.devRef .tc main_v170_2) = G2 (V3r m) d := (V4_2 m d).trans (res2_eq (V3r m) d)
  unfold V5
  after_reads_simp
  rw [e]

theorem v170_eq : V5 m d (Proc.devRef .tc main_v170_1) = G1 (V3r m) d := by
  unfold V5
  rw [StableHlo.after_unwritten Host.W4 Host.W4_eq (by decide)]
  exact (V4_1 m d).trans (res1_eq (V3r m) d)

/-- The first result. -/
theorem out0 (hz : Scaled (at0 m d main_arg15)) (n : Fin 4096) (u : Fin 9) :
    arr S4096x9 (V5 m d (Proc.devRef .tc main_v171)) (ix2 n u) = net m d (at0 m d main_arg9) (at0 m d main_arg10) n u := by
  rw [v171_eq]
  refine Eq.trans ?_ ((G0_at m d n u).trans (net_eq m d hz (V2_arg m d main_arg9 (by decide) (by decide)) (V2_arg m d main_arg10 (by decide) (by decide)) n u))
  generalize G0 (V3r m) d = g
  unfold arr
  pointwise []

/-- The second result. -/
theorem out1 (hz : Scaled (at0 m d main_arg15)) (n : Fin 4096) (u : Fin 256) :
    arr S4096x256 (V5 m d (Proc.devRef .tc main_v170_1)) (ix2 n u) = net m d (at0 m d main_arg11) (at0 m d main_arg12) n u := by
  rw [v170_eq]
  exact (G1_at m d n u).trans (net_eq m d hz (V2_arg m d main_arg11 (by decide) (by decide)) (V2_arg m d main_arg12 (by decide) (by decide)) n u)

/-- The third result. -/
theorem out2 (hz : Scaled (at0 m d main_arg15)) (n : Fin 4096) :
    arr S4096x1 (V5 m d (Proc.devRef .tc main_v172)) (ix2 n 0) = net m d (at0 m d main_arg13) (at0 m d main_arg14) n 0 := by
  rw [v172_eq]
  refine Eq.trans ?_ ((G2_at m d n).trans (net_eq m d hz (V2_arg m d main_arg13 (by decide) (by decide)) (V2_arg m d main_arg14 (by decide) (by decide)) n 0))
  generalize G2 (V3r m) d = g
  unfold arr
  pointwise []

/-- The words the boxes are made of are the observations. -/
theorem ow_at (n : Fin 4096) (t : Fin 200) (k : Fin 3) : ow (fo m d) n.val t.val k.val = (at0 m d main_arg0 : S4096x200x3.Idx → BitVec 32) (ix3 n t k) := by
  unfold ow
  rw [dif_pos ⟨k.isLt, t.isLt, n.isLt⟩, fo_eq]
  pointwise []

end Cert.KernelIdeal.KVal

end
-- ==== Proof.RefVal.lean ====
/-
  The reference's results over the reals, read at a row and a column.
-/
module

public import proofs.«01_k».proof.Proof.Scat
public import proofs.«01_k».proof.Proof.Gen.ReferenceIdeal.Run

@[expose] public section

set_option maxRecDepth 16384

noncomputable section

namespace Cert.ReferenceIdeal.Val

open Cert.ReferenceIdeal Cert.ReferenceIdeal.Gen Cert.ReferenceIdeal.Value Cert.Net
open Idealize.ShloMosaic

variable (V0 : Valuation τ sig (Elt Ideal))

/-- An argument, or a named intermediate, as an array of extended reals. -/
abbrev arr (S : Shape) (x : FVec Ideal S .f32) : S.Idx → EReal := x

/-- The features at a sample. -/
abbrev ft (n : Fin 4096) (c : Fin 24) (x y : Fin 11) : EReal := arr S4096x24x11x11 (res_main_v61 V0) (ix4 n c x y)
/-- The first convolution at a sample. -/
abbrev h1 (n : Fin 4096) : Fin 128 → Fin 3 → Fin 3 → EReal :=
  conv1 (V0 (Proc.devRef .tc main_arg1)) (V0 (Proc.devRef .tc main_arg2)) (ft V0 n)

theorem conv1_at (n : Fin 4096) (o : Fin 128) (i j : Fin 3) : arr S4096x128x3x3 (res_main_v224 V0) (ix4 n o i j) = h1 V0 n o i j := by
  unfold h1 conv1 ft arr
  simp only [Fin.sum_univ_five]
  pointwise [res_main_v224, res_main_v178, res_main_v124]
  simp only [add_assoc]

theorem conv2_at (n : Fin 4096) (o : Fin 128) : max (arr S4096x128x1x1 (res_main_v279 V0) (ix4 n o 0 0) + arr S128 (V0 (Proc.devRef .tc main_arg4)) (ix1 o)) 0
    = conv2 (V0 (Proc.devRef .tc main_arg3)) (V0 (Proc.devRef .tc main_arg4)) (h1 V0 n) o := by
  have e (i j : Fin 3) (c : Fin 128) := conv1_at V0 n c i j
  unfold arr at e
  unfold conv2 arr
  simp only [Fin.sum_univ_three]
  pointwise [res_main_v279]
  simp only [e, add_assoc]

/-- The second convolution at a sample. -/
abbrev h2 (n : Fin 4096) : Fin 128 → EReal :=
  conv2 (V0 (Proc.devRef .tc main_arg3)) (V0 (Proc.devRef .tc main_arg4)) (h1 V0 n)
/-- The features of the convolutions at a sample. -/
abbrev hc (n : Fin 4096) : Fin 256 → EReal := cnn (V0 (Proc.devRef .tc main_arg5)) (V0 (Proc.devRef .tc main_arg6)) (h2 V0 n)
/-- The features of the centre cell at a sample. -/
abbrev hs (n : Fin 4096) : Fin 256 → EReal := own (V0 (Proc.devRef .tc main_arg7)) (V0 (Proc.devRef .tc main_arg8)) (ft V0 n)

/-- The first half of the features is the centre cell's. -/
theorem hidden_lo (n : Fin 4096) (k : Fin 256) : arr S4096x512 (res_main_v291 V0) (ix2 n ⟨k.val, by omega⟩) = hs V0 n k := by
  have hk := k.isLt
  unfold hs own ft arr
  pointwise [res_main_v291]

/-- The second half is the convolutions'. -/
theorem hidden_hi (n : Fin 4096) (k : Fin 256) : arr S4096x512 (res_main_v291 V0) (ix2 n ⟨256 + k.val, by omega⟩) = hc V0 n k := by
  have e (o : Fin 128) := conv2_at V0 n o
  unfold arr at e
  have hk := k.isLt
  unfold hc cnn arr
  pointwise [res_main_v291]
  simp only [e]

/-- A sum over both halves. -/
theorem sum_halves (f : Fin 512 → EReal) : ∑ k, f k = (∑ k : Fin 256, f ⟨k.val, by omega⟩) + ∑ k : Fin 256, f ⟨256 + k.val, by omega⟩ :=
  Fin.sum_univ_add (a := 256) (b := 256) f

/-- The words of a sample's tokens. -/
def wd (n : Fin 4096) (t k : ℕ) : BitVec 32 :=
  if h : t < 200 ∧ k < 3 then (V0 (Proc.devRef .tc main_arg0) : IVec S4096x200x3 32) (ix3 n ⟨t, h.1⟩ ⟨k, h.2⟩) else 0

theorem v2_at (n : Fin 4096) (t : Fin 200) (k : Fin 3) :
    (res_main_v2 V0 : IVec S4096x200x3 32) (ix3 n t k) = Cert.Tok.mp ((V0 (Proc.devRef .tc main_arg0) : IVec S4096x200x3 32) (ix3 n t k)) := by
  unfold Cert.Tok.mp
  pointwise [res_main_v2]
  rfl

/-- The features, over the last token that names the cell. -/
theorem feat_at (hb : ∀ i : S4096x200x3.Idx, ((V0 (Proc.devRef .tc main_arg0) : IVec S4096x200x3 32) i).toNat < 256) (n : Fin 4096) (c : Fin 24) (x y : Fin 11) : ft V0 n c x y = feat (wd V0 n) (V0 (Proc.devRef .tc main_arg15)) c x y := by
  unfold ft feat eps arr
  pointwise [res_main_v61]
  refine congrArg₂ Ideal.div ?_ rfl
  have key (x0 : S4096x24x11x11.Idx → EReal) (idx : IVec S4096x200x4 32) (upd : S4096x200.Idx → EReal) := Cert.Scat.scatter4
    scatter_S4096x24x11x11_S4096x200x4_S4096x200_n_0123_0123_2 rfl rfl rfl rfl x0 idx upd (fun n t => Cert.Tok.hit (wd V0 n t 0) (wd V0 n t 1) (c.val * 128 + x.val * 11 + y.val))
    (fun n t => FloatOps.sitofp (F := Ideal) .f32 (Cert.Tok.mp (wd V0 n t 2))) n c x y
  have hw (i : Fin 4096) (k : Fin 200) (j : Fin 3) : wd V0 i k.val j.val = (V0 (Proc.devRef .tc main_arg0) : IVec S4096x200x3 32) (ix3 i k j) := by
    unfold wd
    rw [dif_pos ⟨k.isLt, j.isLt⟩]
  refine (key _ _ _ (fun i k => ?_) fun i k => ?_).trans ?_
  · have h2 := hw i k 2
    pointwise
    rw [v2_at]
    exact congrArg (fun z => FloatOps.sitofp (F := Ideal) .f32 (Cert.Tok.mp z)) h2.symm
  · have h0 := hw i k 0
    have h1 := hw i k 1
    have b0 := hb (ix3 i k 0)
    have b1 := hb (ix3 i k 1)
    pointwise [res_main_v29, res_main_v30, res_main_v12, res_main_v10, res_main_v8, res_main_v4]
    simp only [v2_at]
    generalize (V0 (Proc.devRef .tc main_arg0) : IVec S4096x200x3 32) (ix3 i k 0) = o at *
    generalize (V0 (Proc.devRef .tc main_arg0) : IVec S4096x200x3 32) (ix3 i k 1) = a at *
    have hp := Cert.Scat.mpN_lt' b0
    have hq := Cert.Scat.mpN_lt' b1
    have hL : (if Cert.Tok.okN o.toNat a.toNat then Cert.Tok.mpN a.toNat else 24) < 2 ^ 31 := by split <;> omega
    rw [Cert.Tok.byte_of_toNat b0, Cert.Tok.byte_of_toNat b1]
    rw [show id (constantI S_ 32 24#32) ix0 = 24#32 from rfl, Cert.Scat.layer_byte b0 b1, Cert.Tok.mp_byte ⟨_, b0⟩]
    simp only
    rw [Cert.Scat.hi_byte ⟨_, by omega⟩, Cert.Scat.lo_byte ⟨_, by omega⟩]
    simp only
    rw [Cert.Scat.wrap_small (by omega), Cert.Scat.wrap_small hL, Cert.Scat.wrap_small (by omega), Cert.Scat.wrap_small (by omega),
      Cert.Scat.toInt_small (by omega), Cert.Scat.toInt_small hL, Cert.Scat.toInt_small (by omega), Cert.Scat.toInt_small (by omega)]
    rw [Cert.Scat.names b0 b1 c.isLt x.isLt y.isLt, ← Cert.Tok.byte_of_toNat b0, ← Cert.Tok.byte_of_toNat b1]
    constructor
    · rintro ⟨e, h⟩
      obtain rfl : i = n := Fin.ext (by omega)
      rw [← h0, ← h1] at h
      exact ⟨rfl, h⟩
    · rintro ⟨rfl, h⟩
      rw [← h0, ← h1]
      exact ⟨rfl, h⟩
  · exact Cert.Scat.last_boxVal (F := Ideal) _ _ _

/-- A head at a row and a column. -/
theorem out0_at (n : Fin 4096) (u : Fin 9) :
    arr S4096x9 (addf (Host.dotGeneral (F := Ideal) (φ₁ := .f32) (φ₂ := .f32) dot_S4096x512_S512x9_S4096x9_1_0_0_1_n_n none (res_main_v291 V0) (transpose S512x9 [1, 0] (V0 (Proc.devRef .tc main_arg9)) transposes_S9x512_S512x9_1_0))
      (broadcastInDim S4096x9 ![0, 1] bcast_S1x9_S4096x9_0_1 (broadcastInDim S1x9 ![1] bcast_S9_S1x9_1 (V0 (Proc.devRef .tc main_arg10))))) (ix2 n u)
      = head (V0 (Proc.devRef .tc main_arg9)) (V0 (Proc.devRef .tc main_arg10)) (hs V0 n) (hc V0 n) u := by
  have e1 := hidden_lo V0 n
  have e2 := hidden_hi V0 n
  unfold arr at e1 e2
  unfold head arr
  pointwise
  rw [sum_halves]
  simp only [e1, e2]

/-- The second head. -/
theorem out1_at (n : Fin 4096) (u : Fin 256) :
    arr S4096x256 (addf (Host.dotGeneral (F := Ideal) (φ₁ := .f32) (φ₂ := .f32) dot_S4096x512_S512x256_S4096x256_1_0_0_1_n_n none (res_main_v291 V0) (transpose S512x256 [1, 0] (V0 (Proc.devRef .tc main_arg11)) transposes_S256x512_S512x256_1_0))
      (broadcastInDim S4096x256 ![0, 1] bcast_S1x256_S4096x256_0_1 (broadcastInDim S1x256 ![1] bcast_S256_S1x256_1 (V0 (Proc.devRef .tc main_arg12))))) (ix2 n u)
      = head (V0 (Proc.devRef .tc main_arg11)) (V0 (Proc.devRef .tc main_arg12)) (hs V0 n) (hc V0 n) u := by
  have e1 := hidden_lo V0 n
  have e2 := hidden_hi V0 n
  unfold arr at e1 e2
  unfold head arr
  pointwise
  rw [sum_halves]
  simp only [e1, e2]

/-- The third head. -/
theorem out2_at (n : Fin 4096) (u : Fin 1) :
    arr S4096x1 (addf (Host.dotGeneral (F := Ideal) (φ₁ := .f32) (φ₂ := .f32) dot_S4096x512_S512x1_S4096x1_1_0_0_1_n_n none (res_main_v291 V0) (transpose S512x1 [1, 0] (V0 (Proc.devRef .tc main_arg13)) transposes_S1x512_S512x1_1_0))
      (broadcastInDim S4096x1 ![0, 1] bcast_S1x1_S4096x1_0_1 (broadcastInDim S1x1 ![1] bcast_S1_S1x1_1 (V0 (Proc.devRef .tc main_arg14))))) (ix2 n u)
      = head (V0 (Proc.devRef .tc main_arg13)) (V0 (Proc.devRef .tc main_arg14)) (hs V0 n) (hc V0 n) u := by
  obtain rfl : u = 0 := Subsingleton.elim _ _
  have e1 := hidden_lo V0 n
  have e2 := hidden_hi V0 n
  unfold arr at e1 e2
  unfold head arr
  pointwise
  rw [sum_halves]
  simp only [e1, e2]

end Cert.ReferenceIdeal.Val

end
-- ==== Proof.Join.lean ====
/-
  The two programs' results are the same network over the same features.
-/
module

public import proofs.«01_k».proof.Proof.KOut
public import proofs.«01_k».proof.Proof.RefVal

@[expose] public section

set_option maxRecDepth 16384

noncomputable section

namespace Cert.Join

open Idealize.ShloMosaic Cert.Net Cert.KernelIdeal.KVal
open Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's arguments are the kernel's, on device `c`. -/
abbrev Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)

variable {m m'} {c : Dev Cert.KernelIdeal.nD} (h : Agree m m' c)

/-- The reference's buffers at its start. -/
abbrev V0 (m' : (ℓ : Loc Cert.ReferenceIdeal.nD Cert.ReferenceIdeal.τ Cert.ReferenceIdeal.sig) → Buf (Elt Ideal) ℓ) (c : Dev Cert.ReferenceIdeal.nD) :
    Valuation Cert.ReferenceIdeal.τ Cert.ReferenceIdeal.sig (Elt Ideal) := StableHlo.launchContents m' c

include h

/-- The features agree, where the observations are bytes. -/
theorem features (hb : ∀ i : Cert.KernelIdeal.S4096x200x3.Idx, ((at0 m c Cert.KernelIdeal.main_arg0 : Cert.KernelIdeal.S4096x200x3.Idx → BitVec 32) i).toNat < 256) (n : Fin 4096) :
    Cert.ReferenceIdeal.Val.ft (V0 m' c) n = fts m c n := by
  have e0 : (m' ((c.tc : Thread Cert.ReferenceIdeal.nD Cert.ReferenceIdeal.τ).loc Cert.ReferenceIdeal.main_arg0) : Cert.KernelIdeal.S4096x200x3.Idx → BitVec 32)
    = at0 m c Cert.KernelIdeal.main_arg0 := h.1
  have e15 : (m' ((c.tc : Thread Cert.ReferenceIdeal.nD Cert.ReferenceIdeal.τ).loc Cert.ReferenceIdeal.main_arg15) : Cert.KernelIdeal.S1x24x1x1.Idx → EReal)
    = at0 m c Cert.KernelIdeal.main_arg15 := h.2.2.2.2.2.2.2.2.2.2.2.2.2.2.2
  funext a x y
  refine (Cert.ReferenceIdeal.Val.feat_at (V0 m' c) (fun i => ?_) n a x y).trans ?_
  · exact (congrArg (fun f : Cert.KernelIdeal.S4096x200x3.Idx → BitVec 32 => (f i).toNat) e0).trans_lt (hb i)
  · unfold feat fts feat
    refine congrArg₂ Ideal.div (Cert.Tok.boxVal_congr _ _ fun t ht k hk => ?_) (congrArg (fun f : Cert.KernelIdeal.S1x24x1x1.Idx → EReal => f (ix4 0 a 0 0) + eps) e15)
    refine Eq.trans ?_ (ow_at m c n ⟨t, ht⟩ ⟨k, hk⟩).symm
    unfold Cert.ReferenceIdeal.Val.wd
    rw [dif_pos ⟨ht, hk⟩]
    exact congrFun e0 _

/-- A head of the reference is the network's, over the kernel's arguments. -/
theorem heads (hb : ∀ i : Cert.KernelIdeal.S4096x200x3.Idx, ((at0 m c Cert.KernelIdeal.main_arg0 : Cert.KernelIdeal.S4096x200x3.Idx → BitVec 32) i).toNat < 256)
    {T : ℕ} {w w' : (⟨2, ![T, 512]⟩ : Shape).Idx → EReal} {b b' : (⟨1, ![T]⟩ : Shape).Idx → EReal} (ew : w = w') (eb : b = b') (n : Fin 4096) (u : Fin T) :
    head w b (Cert.ReferenceIdeal.Val.hs (V0 m' c) n) (Cert.ReferenceIdeal.Val.hc (V0 m' c) n) u = net m c w' b' n u := by
  have ef := features h hb n
  obtain ⟨_, e1, e2, e3, e4, e5, e6, e7, e8, _⟩ := h
  exact out_congr u e1 e2 e3 e4 e5 e6 e7 e8 ew eb ef

omit h in
/-- Two arrays equal at every row and column are equal. -/
theorem ext2 {A B : ℕ} (f g : (⟨2, ![A, B]⟩ : Shape).Idx → EReal) (e : ∀ (n : Fin A) (u : Fin B), f (ix2 n u) = g (ix2 n u)) : f = g := by
  funext i
  have ei : i = ix2 (i 0) (i 1) := by funext a; fin_cases a <;> rfl
  rw [ei]
  exact e _ _

end Cert.Join

end
-- ==== Proof.lean ====
/-
  The proof of `Cert.Claim`: the frames of the three programs, the idealization, and that the kernel and the
  reference end with equal results over the extended reals. The work is in the imported modules.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frame
public import proofs.«01_k».proof.Proof.IFrame
public import proofs.«01_k».proof.Proof.WellPosed
public import proofs.«01_k».proof.Proof.Join
public import Idealize.ShloMosaic.Adequacy
public import Idealize.ShloMosaic.Init

@[expose] public section

noncomputable section

namespace Cert.Proof

open Idealize.ShloMosaic Idealize.SL.Sem Cert.Kernel

/-- `Kernel` runs, leaves its arguments as they were and every semaphore at zero, when the observations are bytes. -/
theorem frame_Kernel : @Cert.quiescent_Kernel Cert.Kernel.Gen.facts Cert.Pre_in_range.Gen.facts := by
  intro m g h
  refine (θ_run Cert.Kernel.defs _ _).mono (fun r q => ⟨fun c => ⟨
    Cert.Kernel.Sc.args_kept m q c Cert.Kernel.main_arg0 (by decide) (by decide),
    Cert.Kernel.Sc.args_kept m q c Cert.Kernel.main_arg1 (by decide) (by decide),
    Cert.Kernel.Sc.args_kept m q c Cert.Kernel.main_arg2 (by decide) (by decide),
    Cert.Kernel.Sc.args_kept m q c Cert.Kernel.main_arg3 (by decide) (by decide),
    Cert.Kernel.Sc.args_kept m q c Cert.Kernel.main_arg4 (by decide) (by decide),
    Cert.Kernel.Sc.args_kept m q c Cert.Kernel.main_arg5 (by decide) (by decide),
    Cert.Kernel.Sc.args_kept m q c Cert.Kernel.main_arg6 (by decide) (by decide),
    Cert.Kernel.Sc.args_kept m q c Cert.Kernel.main_arg7 (by decide) (by decide),
    Cert.Kernel.Sc.args_kept m q c Cert.Kernel.main_arg8 (by decide) (by decide),
    Cert.Kernel.Sc.args_kept m q c Cert.Kernel.main_arg9 (by decide) (by decide),
    Cert.Kernel.Sc.args_kept m q c Cert.Kernel.main_arg10 (by decide) (by decide),
    Cert.Kernel.Sc.args_kept m q c Cert.Kernel.main_arg11 (by decide) (by decide),
    Cert.Kernel.Sc.args_kept m q c Cert.Kernel.main_arg12 (by decide) (by decide),
    Cert.Kernel.Sc.args_kept m q c Cert.Kernel.main_arg13 (by decide) (by decide),
    Cert.Kernel.Sc.args_kept m q c Cert.Kernel.main_arg14 (by decide) (by decide),
    Cert.Kernel.Sc.args_kept m q c Cert.Kernel.main_arg15 (by decide) (by decide)⟩, q.2⟩)
    (Cert.Kernel.Sc.run_main m g (Cert.Kernel.Sc.fo_lt m fun d => Cert.Pre_in_range.byte_of_pre _ _ _ _ _ _ _ _ _ _ _ _ _ _ _ _ (h d)))

/-- `KernelIdeal` runs, leaves its arguments as they were and every semaphore at zero, when the observations are bytes. -/
theorem frame_KernelIdeal : @Cert.quiescent_KernelIdeal Cert.KernelIdeal.Gen.facts Cert.Pre_in_range.Gen.facts := by
  intro m g h
  refine (θ_run Cert.KernelIdeal.defs _ _).mono (fun r q => ⟨fun c => ⟨
    Cert.KernelIdeal.Sc.args_kept m q c Cert.KernelIdeal.main_arg0 (by decide) (by decide),
    Cert.KernelIdeal.Sc.args_kept m q c Cert.KernelIdeal.main_arg1 (by decide) (by decide),
    Cert.KernelIdeal.Sc.args_kept m q c Cert.KernelIdeal.main_arg2 (by decide) (by decide),
    Cert.KernelIdeal.Sc.args_kept m q c Cert.KernelIdeal.main_arg3 (by decide) (by decide),
    Cert.KernelIdeal.Sc.args_kept m q c Cert.KernelIdeal.main_arg4 (by decide) (by decide),
    Cert.KernelIdeal.Sc.args_kept m q c Cert.KernelIdeal.main_arg5 (by decide) (by decide),
    Cert.KernelIdeal.Sc.args_kept m q c Cert.KernelIdeal.main_arg6 (by decide) (by decide),
    Cert.KernelIdeal.Sc.args_kept m q c Cert.KernelIdeal.main_arg7 (by decide) (by decide),
    Cert.KernelIdeal.Sc.args_kept m q c Cert.KernelIdeal.main_arg8 (by decide) (by decide),
    Cert.KernelIdeal.Sc.args_kept m q c Cert.KernelIdeal.main_arg9 (by decide) (by decide),
    Cert.KernelIdeal.Sc.args_kept m q c Cert.KernelIdeal.main_arg10 (by decide) (by decide),
    Cert.KernelIdeal.Sc.args_kept m q c Cert.KernelIdeal.main_arg11 (by decide) (by decide),
    Cert.KernelIdeal.Sc.args_kept m q c Cert.KernelIdeal.main_arg12 (by decide) (by decide),
    Cert.KernelIdeal.Sc.args_kept m q c Cert.KernelIdeal.main_arg13 (by decide) (by decide),
    Cert.KernelIdeal.Sc.args_kept m q c Cert.KernelIdeal.main_arg14 (by decide) (by decide),
    Cert.KernelIdeal.Sc.args_kept m q c Cert.KernelIdeal.main_arg15 (by decide) (by decide)⟩, q.2⟩)
    (Cert.KernelIdeal.Sc.run_main m g (Cert.KernelIdeal.Sc.fo_lt m fun d => Cert.Pre_in_range.byte_of_pre _ _ _ _ _ _ _ _ _ _ _ _ _ _ _ _ (h d)))

/-- The reference runs, leaves its arguments as they were and every semaphore at zero. -/
theorem frame_ReferenceIdeal : @Cert.quiescent_ReferenceIdeal Cert.ReferenceIdeal.Gen.facts := by
  intro m g _
  exact (θ_run Cert.ReferenceIdeal.defs _ _).mono (fun r q => ⟨fun c => (q c).2.2.2, Idealize.ShloMosaic.sem_eq_zero_of_no_sems (by decide) r.2⟩)
    (Cert.ReferenceIdeal.Value.run m g)

/-- The value claim's precondition on every device: bytes, and scales that are not the negated small number. -/
theorem read (m : (ℓ : Loc Cert.KernelIdeal.nD Cert.KernelIdeal.τ Cert.KernelIdeal.sig) → Buf (Elt Ideal) ℓ)
    (h : @Cert.Pre_KernelIdeal_well_posed Cert.Pre_well_posed.side m) (d : Dev Cert.KernelIdeal.nD) :
    (∀ i : Cert.KernelIdeal.S4096x200x3.Idx, ((m ((d.tc : Thread Cert.KernelIdeal.nD Cert.KernelIdeal.τ).loc Cert.KernelIdeal.main_arg0) : Cert.KernelIdeal.S4096x200x3.Idx → BitVec 32) i).toNat < 256)
      ∧ Cert.Net.Scaled (m ((d.tc : Thread Cert.KernelIdeal.nD Cert.KernelIdeal.τ).loc Cert.KernelIdeal.main_arg15)) :=
  @Cert.Pre_well_posed.of_pre Cert.Pre_well_posed.side _ _ _ _ _ _ _ _ _ _ _ _ _ _ _ _ (h d)

/-- `KernelIdeal` runs, leaves its arguments as they were and every semaphore at zero, when the observations are bytes and the scales in order. -/
theorem frame_KernelIdeal_pre_well_posed : @Cert.quiescent_KernelIdeal_pre_well_posed Cert.KernelIdeal.Gen.facts Cert.Pre_well_posed.side := by
  intro m g h
  refine (θ_run Cert.KernelIdeal.defs _ _).mono (fun r q => ⟨fun c => ⟨
    Cert.KernelIdeal.Sc.args_kept m q c Cert.KernelIdeal.main_arg0 (by decide) (by decide),
    Cert.KernelIdeal.Sc.args_kept m q c Cert.KernelIdeal.main_arg1 (by decide) (by decide),
    Cert.KernelIdeal.Sc.args_kept m q c Cert.KernelIdeal.main_arg2 (by decide) (by decide),
    Cert.KernelIdeal.Sc.args_kept m q c Cert.KernelIdeal.main_arg3 (by decide) (by decide),
    Cert.KernelIdeal.Sc.args_kept m q c Cert.KernelIdeal.main_arg4 (by decide) (by decide),
    Cert.KernelIdeal.Sc.args_kept m q c Cert.KernelIdeal.main_arg5 (by decide) (by decide),
    Cert.KernelIdeal.Sc.args_kept m q c Cert.KernelIdeal.main_arg6 (by decide) (by decide),
    Cert.KernelIdeal.Sc.args_kept m q c Cert.KernelIdeal.main_arg7 (by decide) (by decide),
    Cert.KernelIdeal.Sc.args_kept m q c Cert.KernelIdeal.main_arg8 (by decide) (by decide),
    Cert.KernelIdeal.Sc.args_kept m q c Cert.KernelIdeal.main_arg9 (by decide) (by decide),
    Cert.KernelIdeal.Sc.args_kept m q c Cert.KernelIdeal.main_arg10 (by decide) (by decide),
    Cert.KernelIdeal.Sc.args_kept m q c Cert.KernelIdeal.main_arg11 (by decide) (by decide),
    Cert.KernelIdeal.Sc.args_kept m q c Cert.KernelIdeal.main_arg12 (by decide) (by decide),
    Cert.KernelIdeal.Sc.args_kept m q c Cert.KernelIdeal.main_arg13 (by decide) (by decide),
    Cert.KernelIdeal.Sc.args_kept m q c Cert.KernelIdeal.main_arg14 (by decide) (by decide),
    Cert.KernelIdeal.Sc.args_kept m q c Cert.KernelIdeal.main_arg15 (by decide) (by decide)⟩, q.2⟩)
    (Cert.KernelIdeal.Sc.run_main m g (Cert.KernelIdeal.Sc.fo_lt m fun d => (read m h d).1))

/-- The same under the value claim's precondition. -/
theorem frame_ReferenceIdeal_pre_well_posed : @Cert.quiescent_ReferenceIdeal_pre_well_posed Cert.ReferenceIdeal.Gen.facts Cert.Pre_well_posed.side :=
  fun m g _ => frame_ReferenceIdeal m g trivial

/-- The kernel and the reference, over the extended reals, end with equal results: the first head, the second and the value. -/
theorem same_results : @Cert.algebraic_KernelIdeal_ReferenceIdeal_pre_well_posed Cert.KernelIdeal.Gen.facts Cert.ReferenceIdeal.Gen.facts Cert.Pre_well_posed.side := by
  intro m g m' g' h ha
  refine ⟨fun c => Cert.KernelIdeal.Sc.V5 m c (Proc.devRef .tc Cert.KernelIdeal.main_v171), fun c => Cert.KernelIdeal.Sc.V5 m c (Proc.devRef .tc Cert.KernelIdeal.main_v170_1),
    fun c => Cert.KernelIdeal.Sc.V5 m c (Proc.devRef .tc Cert.KernelIdeal.main_v172), ?_, ?_⟩
  · exact (θ_run Cert.KernelIdeal.defs _ _).mono (fun r q c => ⟨q.1 c Cert.KernelIdeal.main_v171 (by decide), q.1 c Cert.KernelIdeal.main_v170_1 (by decide),
      q.1 c Cert.KernelIdeal.main_v172 (by decide),
    Cert.KernelIdeal.Sc.args_kept m q c Cert.KernelIdeal.main_arg0 (by decide) (by decide),
    Cert.KernelIdeal.Sc.args_kept m q c Cert.KernelIdeal.main_arg1 (by decide) (by decide),
    Cert.KernelIdeal.Sc.args_kept m q c Cert.KernelIdeal.main_arg2 (by decide) (by decide),
    Cert.KernelIdeal.Sc.args_kept m q c Cert.KernelIdeal.main_arg3 (by decide) (by decide),
    Cert.KernelIdeal.Sc.args_kept m q c Cert.KernelIdeal.main_arg4 (by decide) (by decide),
    Cert.KernelIdeal.Sc.args_kept m q c Cert.KernelIdeal.main_arg5 (by decide) (by decide),
    Cert.KernelIdeal.Sc.args_kept m q c Cert.KernelIdeal.main_arg6 (by decide) (by decide),
    Cert.KernelIdeal.Sc.args_kept m q c Cert.KernelIdeal.main_arg7 (by decide) (by decide),
    Cert.KernelIdeal.Sc.args_kept m q c Cert.KernelIdeal.main_arg8 (by decide) (by decide),
    Cert.KernelIdeal.Sc.args_kept m q c Cert.KernelIdeal.main_arg9 (by decide) (by decide),
    Cert.KernelIdeal.Sc.args_kept m q c Cert.KernelIdeal.main_arg10 (by decide) (by decide),
    Cert.KernelIdeal.Sc.args_kept m q c Cert.KernelIdeal.main_arg11 (by decide) (by decide),
    Cert.KernelIdeal.Sc.args_kept m q c Cert.KernelIdeal.main_arg12 (by decide) (by decide),
    Cert.KernelIdeal.Sc.args_kept m q c Cert.KernelIdeal.main_arg13 (by decide) (by decide),
    Cert.KernelIdeal.Sc.args_kept m q c Cert.KernelIdeal.main_arg14 (by decide) (by decide),
    Cert.KernelIdeal.Sc.args_kept m q c Cert.KernelIdeal.main_arg15 (by decide) (by decide)⟩)
      (Cert.KernelIdeal.Sc.run_main m g (Cert.KernelIdeal.Sc.fo_lt m fun d => (read m h d).1))
  · refine (θ_run Cert.ReferenceIdeal.defs _ _).mono (fun r q c => ⟨(q c).1.trans ?_, (q c).2.1.trans ?_, (q c).2.2.1.trans ?_, (q c).2.2.2⟩) (Cert.ReferenceIdeal.Value.run m' g')
    · exact Cert.Join.ext2 _ _ fun n u => (Cert.ReferenceIdeal.Val.out0_at (Cert.Join.V0 m' c) n u).trans
        ((Cert.Join.heads (ha c) (read m h c).1 (ha c).2.2.2.2.2.2.2.2.2.1 (ha c).2.2.2.2.2.2.2.2.2.2.1 n u).trans (Cert.KernelIdeal.KVal.out0 m c (read m h c).2 n u).symm)
    · exact Cert.Join.ext2 _ _ fun n u => (Cert.ReferenceIdeal.Val.out1_at (Cert.Join.V0 m' c) n u).trans
        ((Cert.Join.heads (ha c) (read m h c).1 (ha c).2.2.2.2.2.2.2.2.2.2.2.1 (ha c).2.2.2.2.2.2.2.2.2.2.2.2.1 n u).trans (Cert.KernelIdeal.KVal.out1 m c (read m h c).2 n u).symm)
    · refine Cert.Join.ext2 _ _ fun n u => (Cert.ReferenceIdeal.Val.out2_at (Cert.Join.V0 m' c) n u).trans
        ((Cert.Join.heads (ha c) (read m h c).1 (ha c).2.2.2.2.2.2.2.2.2.2.2.2.2.1 (ha c).2.2.2.2.2.2.2.2.2.2.2.2.2.2.1 n u).trans ?_)
      obtain rfl : u = 0 := Subsingleton.elim _ _
      exact (Cert.KernelIdeal.KVal.out2 m c (read m h c).2 n).symm

/-- Everything the certificate claims. -/
theorem claim : Cert.Claim := ⟨Cert.Kernel.Gen.facts, Cert.KernelIdeal.Gen.facts, Cert.ReferenceIdeal.Gen.facts, Cert.Pre_in_range.Gen.facts, Cert.Pre_well_posed.side,
  frame_Kernel, frame_KernelIdeal, frame_KernelIdeal_pre_well_posed, frame_ReferenceIdeal, frame_ReferenceIdeal_pre_well_posed, trivial, same_results⟩

end Cert.Proof

end
